-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bounds [hPre_finite_bounds : Cert.Pre_finite_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bounds [hPre_finite_bounds : Cert.Pre_finite_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_bounds [hKernelIdeal : Cert.KernelIdeal.Facts] [hPre_finite_bounds : Cert.Pre_finite_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bounds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_bounds [hReferenceIdeal : Cert.ReferenceIdeal.Facts] [hPre_finite_bounds : Cert.Pre_finite_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_bounds [hKernelIdeal : Cert.KernelIdeal.Facts] [hReferenceIdeal : Cert.ReferenceIdeal.Facts] [hPre_finite_bounds : Cert.Pre_finite_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v225) = v1 c
          ∧ r.2.mem ((c.tc : Thread Cert.ReferenceIdeal.nD Cert.ReferenceIdeal.τ).loc Cert.ReferenceIdeal.main_v202) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v41) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_bounds : Cert.Pre_finite_bounds.Facts),
    quiescent_Kernel (hKernel := hKernel)
    ∧ quiescent_KernelIdeal (hKernelIdeal := hKernelIdeal)
    ∧ quiescent_KernelIdeal_pre_finite_bounds (hKernelIdeal := hKernelIdeal) (hPre_finite_bounds := hPre_finite_bounds)
    ∧ quiescent_ReferenceIdeal (hReferenceIdeal := hReferenceIdeal)
    ∧ quiescent_ReferenceIdeal_pre_finite_bounds (hReferenceIdeal := hReferenceIdeal) (hPre_finite_bounds := hPre_finite_bounds)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_bounds (hKernelIdeal := hKernelIdeal) (hReferenceIdeal := hReferenceIdeal) (hPre_finite_bounds := hPre_finite_bounds)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_bounds.lean ====
abbrev S1024x5120 : Shape := ⟨2, ![1024, 5120]⟩
abbrev S1x128x15x1024 : Shape := ⟨4, ![1, 128, 15, 1024]⟩
abbrev S1x128x8x128x128 : Shape := ⟨5, ![1, 128, 8, 128, 128]⟩
abbrev S2x1024 : Shape := ⟨2, ![2, 1024]⟩
abbrev S1x4x256x256 : Shape := ⟨4, ![1, 4, 256, 256]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S1024x5120 .f32) (main_arg1 : FVec F S1x128x15x1024 .f32) (main_arg2 : FVec F S1x128x8x128x128 .f32) (main_arg3 : FVec F S2x1024 .f32) (main_arg4 : FVec F S1x4x256x256 .f32) (main_arg5 : FVec F S1x1024 .f32) (main_arg6 : FVec F S1x1024 .f32) : IVec S2x1024 1 × IVec S2x1024 1 :=
  let main_cst : FVec F S_ .f32 := constant S_ .f32 0xFF800000#32
  let main_v0 : FVec F S2x1024 .f32 := broadcastInDim S2x1024 ![] bcast_S_S2x1024 main_cst
  let main_v1 : IVec S2x1024 1 := cmpf .ogt main_arg3 main_v0
  let main_cst_0 : FVec F S_ .f32 := constant S_ .f32 0x7F800000#32
  let main_v2 : FVec F S2x1024 .f32 := broadcastInDim S2x1024 ![] bcast_S_S2x1024 main_cst_0
  let main_v3 : IVec S2x1024 1 := cmpf .olt main_arg3 main_v2
  (main_v1, main_v3)
-- ==== Kernel.lean ====
abbrev S1024x5120 : Shape := ⟨2, ![1024, 5120]⟩
abbrev S1x128x15x1024 : Shape := ⟨4, ![1, 128, 15, 1024]⟩
abbrev S1x128x8x128x128 : Shape := ⟨5, ![1, 128, 8, 128, 128]⟩
abbrev S2x1024 : Shape := ⟨2, ![2, 1024]⟩
abbrev S1x4x256x256 : Shape := ⟨4, ![1, 4, 256, 256]⟩
abbrev S1x1024 : Shape := ⟨2, ![1, 1024]⟩
abbrev S4x256x256 : Shape := ⟨3, ![4, 256, 256]⟩
abbrev S1024 : Shape := ⟨1, ![1024]⟩
abbrev S1x15x128x1024 : Shape := ⟨4, ![1, 15, 128, 1024]⟩
abbrev S128x8x128x128 : Shape := ⟨4, ![128, 8, 128, 128]⟩
abbrev S1024x2048 : Shape := ⟨2, ![1024, 2048]⟩
abbrev S15x128x1024 : Shape := ⟨3, ![15, 128, 1024]⟩
abbrev S64x5120 : Shape := ⟨2, ![64, 5120]⟩
abbrev S1x15x8x1024 : Shape := ⟨4, ![1, 15, 8, 1024]⟩
abbrev S8x8x128x128 : Shape := ⟨4, ![8, 8, 128, 128]⟩
abbrev S64x2048 : Shape := ⟨2, ![64, 2048]⟩
abbrev S15x8x1024 : Shape := ⟨3, ![15, 8, 1024]⟩
abbrev S24x8x1024 : Shape := ⟨3, ![24, 8, 1024]⟩
abbrev S3x8x64x128 : Shape := ⟨4, ![3, 8, 64, 128]⟩
abbrev S128x8x128 : Shape := ⟨3, ![128, 8, 128]⟩
abbrev S2x64x1024 : Shape := ⟨3, ![2, 64, 1024]⟩
abbrev S5x512x128 : Shape := ⟨3, ![5, 512, 128]⟩
abbrev S8x64x64 : Shape := ⟨3, ![8, 64, 64]⟩
abbrev S64x1024 : Shape := ⟨2, ![64, 1024]⟩
abbrev S1x8x1024 : Shape := ⟨3, ![1, 8, 1024]⟩
abbrev S8x8x1024 : Shape := ⟨3, ![8, 8, 1024]⟩
abbrev S8x1x1 : Shape := ⟨3, ![8, 1, 1]⟩
abbrev S8x8x256 : Shape := ⟨3, ![8, 8, 256]⟩
abbrev S64x256 : Shape := ⟨2, ![64, 256]⟩
abbrev S1x256x256 : Shape := ⟨3, ![1, 256, 256]⟩
abbrev S256x256 : Shape := ⟨2, ![256, 256]⟩
abbrev S1x256 : Shape := ⟨2, ![1, 256]⟩
abbrev S64x128 : Shape := ⟨2, ![64, 128]⟩
abbrev S1x128 : Shape := ⟨2, ![1, 128]⟩
abbrev S1x64x128 : Shape := ⟨3, ![1, 64, 128]⟩
abbrev S8x8x128 : Shape := ⟨3, ![8, 8, 128]⟩
abbrev S1x8x8x128 : Shape := ⟨4, ![1, 8, 8, 128]⟩
abbrev S1x1x8x128 : Shape := ⟨4, ![1, 1, 8, 128]⟩
abbrev S8x128 : Shape := ⟨2, ![8, 128]⟩
abbrev S1x8x128 : Shape := ⟨3, ![1, 8, 128]⟩
abbrev S8x128x8 : Shape := ⟨3, ![8, 128, 8]⟩
abbrev S64x64 : Shape := ⟨2, ![64, 64]⟩
abbrev S1x64x64 : Shape := ⟨3, ![1, 64, 64]⟩
abbrev S8x1x128x128 : Shape := ⟨4, ![8, 1, 128, 128]⟩
abbrev S8x128x128 : Shape := ⟨3, ![8, 128, 128]⟩
abbrev S8x128x1 : Shape := ⟨3, ![8, 128, 1]⟩
abbrev S64 : Shape := ⟨1, ![64]⟩
abbrev S64x1 : Shape := ⟨2, ![64, 1]⟩
abbrev S128x15x1024 : Shape := ⟨3, ![128, 15, 1024]⟩

abbrev nBuf : Space → Nat
  | .hbm => 19
  | .vmem => 22
  | .smem => 0
  | _ => 0

abbrev bufTy : (tb : Table) → Fin (tcTables nBuf tb) → BufTy
  | .hbm, ⟨0, _⟩ => ⟨S1024x5120, .f32⟩
  | .hbm, ⟨1, _⟩ => ⟨S1x128x15x1024, .f32⟩
  | .hbm, ⟨2, _⟩ => ⟨S1x128x8x128x128, .f32⟩
  | .hbm, ⟨3, _⟩ => ⟨S2x1024, .f32⟩
  | .hbm, ⟨4, _⟩ => ⟨S1x4x256x256, .f32⟩
  | .hbm, ⟨5, _⟩ => ⟨S1x1024, .f32⟩
  | .hbm, ⟨6, _⟩ => ⟨S1x1024, .f32⟩
  | .hbm, ⟨7, _⟩ => ⟨S4x256x256, .f32⟩
  | .hbm, ⟨8, _⟩ => ⟨S4x256x256, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x15x128x1024, .f32⟩
  | .hbm, ⟨14, _⟩ => ⟨S128x8x128x128, .f32⟩
  | .hbm, ⟨15, _⟩ => ⟨S1024x2048, .bf16⟩
  | .hbm, ⟨16, _⟩ => ⟨S15x128x1024, .f32⟩
  | .hbm, ⟨17, _⟩ => ⟨S128x8x128x128, .f32⟩
  | .hbm, ⟨18, _⟩ => ⟨S128x15x1024, .f32⟩
  | .local _ .vmem, ⟨0, _⟩ => ⟨S64x5120, .f32⟩
  | .local _ .vmem, ⟨1, _⟩ => ⟨S64x5120, .f32⟩
  | .local _ .vmem, ⟨2, _⟩ => ⟨S1x15x8x1024, .f32⟩
  | .local _ .vmem, ⟨3, _⟩ => ⟨S1x15x8x1024, .f32⟩
  | .local _ .vmem, ⟨4, _⟩ => ⟨S8x8x128x128, .f32⟩
  | .local _ .vmem, ⟨5, _⟩ => ⟨S8x8x128x128, .f32⟩
  | .local _ .vmem, ⟨6, _⟩ => ⟨S2x1024, .f32⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S64x2048, .bf16⟩
  | .local _ .vmem, ⟨11, _⟩ => ⟨S64x2048, .bf16⟩
  | .local _ .vmem, ⟨12, _⟩ => ⟨S15x8x1024, .f32⟩
  | .local _ .vmem, ⟨13, _⟩ => ⟨S15x8x1024, .f32⟩
  | .local _ .vmem, ⟨14, _⟩ => ⟨S8x8x128x128, .f32⟩
  | .local _ .vmem, ⟨15, _⟩ => ⟨S8x8x128x128, .f32⟩
  | .local _ .vmem, ⟨16, _⟩ => ⟨S24x8x1024, .f32⟩
  | .local _ .vmem, ⟨17, _⟩ => ⟨S3x8x64x128, .f32⟩
  | .local _ .vmem, ⟨18, _⟩ => ⟨S128x8x128, .f32⟩
  | .local _ .vmem, ⟨19, _⟩ => ⟨S2x64x1024, .bf16⟩
  | .local _ .vmem, ⟨20, _⟩ => ⟨S5x512x128, .f32⟩
  | .local _ .vmem, ⟨21, _⟩ => ⟨S8x64x64, .f32⟩
  | _, _ => ⟨S1024x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x15x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S15x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1024x5120 : Shape := ⟨2, ![1024, 5120]⟩
abbrev S1x128x15x1024 : Shape := ⟨4, ![1, 128, 15, 1024]⟩
abbrev S1x128x8x128x128 : Shape := ⟨5, ![1, 128, 8, 128, 128]⟩
abbrev S2x1024 : Shape := ⟨2, ![2, 1024]⟩
abbrev S1x4x256x256 : Shape := ⟨4, ![1, 4, 256, 256]⟩
abbrev S1x1024 : Shape := ⟨2, ![1, 1024]⟩
abbrev S128x8x5120 : Shape := ⟨3, ![128, 8, 5120]⟩
abbrev S128x8x1024 : Shape := ⟨3, ![128, 8, 1024]⟩
abbrev S128x15x1024 : Shape := ⟨3, ![128, 15, 1024]⟩
abbrev S128x23x1024 : Shape := ⟨3, ![128, 23, 1024]⟩
abbrev S128x8x256 : Shape := ⟨3, ![128, 8, 256]⟩
abbrev S_ : Shape := ⟨0, ![]⟩
abbrev S8 : Shape := ⟨1, ![8]⟩
abbrev S1x8x1 : Shape := ⟨3, ![1, 8, 1]⟩
abbrev S128x8x4x256 : Shape := ⟨4, ![128, 8, 4, 256]⟩
abbrev S4x256x256 : Shape := ⟨3, ![4, 256, 256]⟩
abbrev S4x256x128x8 : Shape := ⟨4, ![4, 256, 128, 8]⟩
abbrev S1024 : Shape := ⟨1, ![1024]⟩
abbrev S1x1x1024 : Shape := ⟨3, ![1, 1, 1024]⟩
abbrev S128x8x8x128 : Shape := ⟨4, ![128, 8, 8, 128]⟩
abbrev S128x8x128x128 : Shape := ⟨4, ![128, 8, 128, 128]⟩
abbrev S8x8 : Shape := ⟨2, ![8, 8]⟩
abbrev S8x8x1 : Shape := ⟨3, ![8, 8, 1]⟩
abbrev S128x8x8x1x128 : Shape := ⟨5, ![128, 8, 8, 1, 128]⟩
abbrev S128x8x1x8x128 : Shape := ⟨5, ![128, 8, 1, 8, 128]⟩
abbrev S128x8x8x8x128 : Shape := ⟨5, ![128, 8, 8, 8, 128]⟩
abbrev S128x8x8x8 : Shape := ⟨4, ![128, 8, 8, 8]⟩
abbrev S128x8x1x128 : Shape := ⟨4, ![128, 8, 1, 128]⟩
abbrev S128x8x128 : Shape := ⟨3, ![128, 8, 128]⟩
abbrev S128x8x128x1 : Shape := ⟨4, ![128, 8, 128, 1]⟩
abbrev S128x8x8 : Shape := ⟨3, ![128, 8, 8]⟩
abbrev S128x8x8x1 : Shape := ⟨4, ![128, 8, 8, 1]⟩
abbrev S8x128 : Shape := ⟨2, ![8, 128]⟩
abbrev S1x1x8x128 : Shape := ⟨4, ![1, 1, 8, 128]⟩
abbrev S128x8x2048 : Shape := ⟨3, ![128, 8, 2048]⟩
abbrev S1024x2048 : Shape := ⟨2, ![1024, 2048]⟩

abbrev nBuf : Space → Nat
  | .hbm => 293
  | .vmem => 0
  | .smem => 0
  | _ => 0

abbrev hbmTy0_0 (i : Nat) : BufTy := match i % 128 with
  | 0 => ⟨S1024x5120, .f32⟩
  | 1 => ⟨S1x128x15x1024, .f32⟩
  | 2 => ⟨S1x128x8x128x128, .f32⟩
  | 3 => ⟨S2x1024, .f32⟩
  | 4 => ⟨S1x4x256x256, .f32⟩
  | 5 => ⟨S1x1024, .f32⟩
  | 6 => ⟨S1x1024, .f32⟩
  | 7 => ⟨S128x8x5120, .f32⟩
  | 8 => ⟨S128x8x1024, .f32⟩
  | 9 => ⟨S128x8x1024, .f32⟩
  | 10 => ⟨S128x8x1024, .f32⟩
  | 11 => ⟨S128x8x1024, .f32⟩
  | 12 => ⟨S128x8x1024, .f32⟩
  | 13 => ⟨S128x15x1024, .f32⟩
  | 14 => ⟨S128x23x1024, .f32⟩
  | 15 => ⟨S128x8x256, .f32⟩
  | 16 => ⟨S_, .f32⟩
  | 17 => ⟨S128x8x256, .f32⟩
  | 18 => ⟨S128x8x256, .f32⟩
  | 19 => ⟨S128x8x256, .f32⟩
  | 20 => ⟨S128x8x256, .f32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .f32⟩
  | 32 => ⟨S1x8x1, .f32⟩
  | 33 => ⟨S128x8x256, .f32⟩
  | 34 => ⟨S128x8x256, .f32⟩
  | 35 => ⟨S128x8x256, .f32⟩
  | 36 => ⟨S_, .f32⟩
  | 37 => ⟨S128x8x256, .f32⟩
  | 38 => ⟨S128x8x256, .f32⟩
  | 39 => ⟨S128x8x256, .f32⟩
  | 40 => ⟨S128x8x256, .f32⟩
  | 41 => ⟨S128x8x256, .f32⟩
  | 42 => ⟨S128x8x256, .f32⟩
  | 43 => ⟨S128x8x256, .f32⟩
  | 44 => ⟨S128x8x256, .f32⟩
  | 45 => ⟨S8, .i32⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .f32⟩
  | 56 => ⟨S1x8x1, .f32⟩
  | 57 => ⟨S128x8x256, .f32⟩
  | 58 => ⟨S128x8x256, .f32⟩
  | 59 => ⟨S128x8x256, .f32⟩
  | 60 => ⟨S_, .f32⟩
  | 61 => ⟨S128x8x256, .f32⟩
  | 62 => ⟨S128x8x256, .f32⟩
  | 63 => ⟨S128x8x256, .f32⟩
  | 64 => ⟨S128x8x256, .f32⟩
  | 65 => ⟨S128x8x256, .f32⟩
  | 66 => ⟨S128x8x256, .f32⟩
  | 67 => ⟨S128x8x256, .f32⟩
  | 68 => ⟨S128x8x256, .f32⟩
  | 69 => ⟨S128x8x256, .f32⟩
  | 70 => ⟨S128x8x256, .f32⟩
  | 71 => ⟨S128x8x256, .f32⟩
  | 72 => ⟨S128x8x256, .f32⟩
  | 73 => ⟨S128x8x256, .f32⟩
  | 74 => ⟨S128x8x256, .f32⟩
  | 75 => ⟨S128x8x256, .f32⟩
  | 76 => ⟨S128x8x256, .f32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .f32⟩
  | 88 => ⟨S1x8x1, .f32⟩
  | 89 => ⟨S128x8x256, .f32⟩
  | 90 => ⟨S128x8x256, .f32⟩
  | 91 => ⟨S128x8x256, .f32⟩
  | 92 => ⟨S_, .f32⟩
  | 93 => ⟨S128x8x256, .f32⟩
  | 94 => ⟨S128x8x256, .f32⟩
  | 95 => ⟨S128x8x256, .f32⟩
  | 96 => ⟨S128x8x256, .f32⟩
  | 97 => ⟨S128x8x256, .f32⟩
  | 98 => ⟨S128x8x256, .f32⟩
  | 99 => ⟨S128x8x256, .f32⟩
  | 100 => ⟨S128x8x256, .f32⟩
  | 101 => ⟨S128x8x256, .f32⟩
  | 102 => ⟨S128x8x256, .f32⟩
  | 103 => ⟨S128x8x256, .f32⟩
  | 104 => ⟨S128x8x256, .f32⟩
  | 105 => ⟨S128x8x256, .f32⟩
  | 106 => ⟨S128x8x256, .f32⟩
  | 107 => ⟨S128x8x256, .f32⟩
  | 108 => ⟨S128x8x256, .f32⟩
  | 109 => ⟨S128x8x256, .f32⟩
  | 110 => ⟨S128x8x256, .f32⟩
  | 111 => ⟨S128x8x256, .f32⟩
  | 112 => ⟨S128x8x256, .f32⟩
  | 113 => ⟨S128x8x256, .f32⟩
  | 114 => ⟨S128x8x256, .f32⟩
  | 115 => ⟨S128x8x256, .f32⟩
  | 116 => ⟨S128x8x256, .f32⟩
  | 117 => ⟨S128x8x256, .f32⟩
  | 118 => ⟨S128x8x256, .f32⟩
  | 119 => ⟨S128x8x256, .f32⟩
  | 120 => ⟨S128x8x256, .f32⟩
  | 121 => ⟨S128x8x256, .f32⟩
  | 122 => ⟨S128x8x256, .f32⟩
  | 123 => ⟨S128x8x256, .f32⟩
  | 124 => ⟨S128x8x256, .f32⟩
  | 125 => ⟨S8, .i32⟩
  | 126 => ⟨S_, .i32⟩
  | 127 => ⟨S8, .i32⟩
  | _ => ⟨S1024x5120, .f32⟩

abbrev hbmTy0_1 (i : Nat) : BufTy := match i % 128 with
  | 0 => ⟨S8, .i32⟩
  | 1 => ⟨S_, .i32⟩
  | 2 => ⟨S8, .i32⟩
  | 3 => ⟨S8, .i32⟩
  | 4 => ⟨S_, .i32⟩
  | 5 => ⟨S8, .i32⟩
  | 6 => ⟨S8, .i32⟩
  | 7 => ⟨S8, .f32⟩
  | 8 => ⟨S1x8x1, .f32⟩
  | 9 => ⟨S128x8x256, .f32⟩
  | 10 => ⟨S128x8x256, .f32⟩
  | 11 => ⟨S128x8x1024, .f32⟩
  | 12 => ⟨S128x8x1024, .f32⟩
  | 13 => ⟨S128x8x4x256, .f32⟩
  | 14 => ⟨S4x256x256, .f32⟩
  | 15 => ⟨S4x256x128x8, .f32⟩
  | 16 => ⟨S128x8x4x256, .f32⟩
  | 17 => ⟨S128x8x1024, .f32⟩
  | 18 => ⟨S1024, .f32⟩
  | 19 => ⟨S1x1x1024, .f32⟩
  | 20 => ⟨S128x8x1024, .f32⟩
  | 21 => ⟨S128x8x1024, .f32⟩
  | 22 => ⟨S_, .f32⟩
  | 23 => ⟨S1024, .f32⟩
  | 24 => ⟨S_, .f32⟩
  | 25 => ⟨S1024, .f32⟩
  | 26 => ⟨S1024, .f32⟩
  | 27 => ⟨S1x1024, .f32⟩
  | 28 => ⟨S2x1024, .f32⟩
  | 29 => ⟨S2x1024, .f32⟩
  | 30 => ⟨S2x1024, .f32⟩
  | 31 => ⟨S_, .f32⟩
  | 32 => ⟨S1024, .f32⟩
  | 33 => ⟨S1x1024, .f32⟩
  | 34 => ⟨S2x1024, .f32⟩
  | 35 => ⟨S2x1024, .f32⟩
  | 36 => ⟨S_, .f32⟩
  | 37 => ⟨S_, .f32⟩
  | 38 => ⟨S2x1024, .f32⟩
  | 39 => ⟨S1x1024, .f32⟩
  | 40 => ⟨S1024, .f32⟩
  | 41 => ⟨S_, .f32⟩
  | 42 => ⟨S1024, .f32⟩
  | 43 => ⟨S1024, .f32⟩
  | 44 => ⟨S128x8x1024, .f32⟩
  | 45 => ⟨S128x8x1024, .f32⟩
  | 46 => ⟨S_, .f32⟩
  | 47 => ⟨S128x8x1024, .f32⟩
  | 48 => ⟨S128x8x1024, .f32⟩
  | 49 => ⟨S_, .f32⟩
  | 50 => ⟨S128x8x1024, .f32⟩
  | 51 => ⟨S128x8x1024, .f32⟩
  | 52 => ⟨S1x1x1024, .f32⟩
  | 53 => ⟨S128x8x1024, .f32⟩
  | 54 => ⟨S128x8x1024, .f32⟩
  | 55 => ⟨S1x1x1024, .f32⟩
  | 56 => ⟨S128x8x1024, .f32⟩
  | 57 => ⟨S128x8x1024, .f32⟩
  | 58 => ⟨S128x8x1024, .f32⟩
  | 59 => ⟨S128x8x1024, .f32⟩
  | 60 => ⟨S_, .f32⟩
  | 61 => ⟨S128x8x1024, .f32⟩
  | 62 => ⟨S128x8x1024, .f32⟩
  | 63 => ⟨S_, .f32⟩
  | 64 => ⟨S128x8x1024, .f32⟩
  | 65 => ⟨S128x8x1024, .f32⟩
  | 66 => ⟨S128x8x1024, .f32⟩
  | 67 => ⟨S128x8x8x128, .f32⟩
  | 68 => ⟨S128x8x8x128, .f32⟩
  | 69 => ⟨S_, .f32⟩
  | 70 => ⟨S128x8x1024, .f32⟩
  | 71 => ⟨S128x8x1024, .f32⟩
  | 72 => ⟨S128x8x8x128, .f32⟩
  | 73 => ⟨S128x8x8x128, .f32⟩
  | 74 => ⟨S128x8x8x128, .f32⟩
  | 75 => ⟨S128x8x8x128, .f32⟩
  | 76 => ⟨S128x8x1024, .f32⟩
  | 77 => ⟨S128x8x8x128, .f32⟩
  | 78 => ⟨S128x8x8x128, .f32⟩
  | 79 => ⟨S128x8x128x128, .f32⟩
  | 80 => ⟨S_, .f32⟩
  | 81 => ⟨S_, .f32⟩
  | 82 => ⟨S128x8x8x128, .f32⟩
  | 83 => ⟨S_, .i1⟩
  | 84 => ⟨S8x8, .i1⟩
  | 85 => ⟨S8x8, .i32⟩
  | 86 => ⟨S_, .i32⟩
  | 87 => ⟨S8x8, .i32⟩
  | 88 => ⟨S8x8, .i32⟩
  | 89 => ⟨S8x8, .i32⟩
  | 90 => ⟨S8x8, .i1⟩
  | 91 => ⟨S_, .i1⟩
  | 92 => ⟨S8x8, .i1⟩
  | 93 => ⟨S8x8, .i1⟩
  | 94 => ⟨S8x8x1, .i1⟩
  | 95 => ⟨S128x8x8x1x128, .f32⟩
  | 96 => ⟨S128x8x1x8x128, .f32⟩
  | 97 => ⟨S128x8x8x8x128, .f32⟩
  | 98 => ⟨S128x8x8x8x128, .f32⟩
  | 99 => ⟨S128x8x8x8x128, .f32⟩
  | 100 => ⟨S128x8x8x8x128, .f32⟩
  | 101 => ⟨S_, .f32⟩
  | 102 => ⟨S_, .f32⟩
  | 103 => ⟨S128x8x8x8x128, .i1⟩
  | 104 => ⟨S128x8x8x8x128, .f32⟩
  | 105 => ⟨S128x8x8x8x128, .f32⟩
  | 106 => ⟨S128x8x8x1x128, .f32⟩
  | 107 => ⟨S128x8x1x8x128, .f32⟩
  | 108 => ⟨S128x8x8x8x128, .f32⟩
  | 109 => ⟨S128x8x8x8x128, .f32⟩
  | 110 => ⟨S128x8x8x8x128, .f32⟩
  | 111 => ⟨S128x8x8x8x128, .f32⟩
  | 112 => ⟨S_, .f32⟩
  | 113 => ⟨S128x8x8x8, .f32⟩
  | 114 => ⟨S128x8x8x128, .f32⟩
  | 115 => ⟨S128x8x8x128, .f32⟩
  | 116 => ⟨S128x8x8x128, .f32⟩
  | 117 => ⟨S128x8x8x128, .f32⟩
  | 118 => ⟨S128x8x8x128, .f32⟩
  | 119 => ⟨S128x8x1x128, .f32⟩
  | 120 => ⟨S128x8x128, .f32⟩
  | 121 => ⟨S128x8x128, .f32⟩
  | 122 => ⟨S128x8x128x1, .f32⟩
  | 123 => ⟨S128x8x128x128, .f32⟩
  | 124 => ⟨S128x8x128x128, .f32⟩
  | 125 => ⟨S128x8x8x128, .f32⟩
  | 126 => ⟨S128x8x8x128, .f32⟩
  | 127 => ⟨S128x8x8x128, .f32⟩
  | _ => ⟨S1024x5120, .f32⟩

abbrev hbmTy0_2 (i : Nat) : BufTy := match i % 128 with
  | 0 => ⟨S128x8x8x128, .f32⟩
  | 1 => ⟨S128x8x128x128, .f32⟩
  | 2 => ⟨S128x8x128x128, .f32⟩
  | 3 => ⟨S128x8x8x128, .f32⟩
  | 4 => ⟨S128x8x8x128, .f32⟩
  | 5 => ⟨S_, .f32⟩
  | 6 => ⟨S128x8x8, .f32⟩
  | 7 => ⟨S128x8x8x1, .f32⟩
  | 8 => ⟨S_, .f32⟩
  | 9 => ⟨S128x8x8x1, .f32⟩
  | 10 => ⟨S128x8x8x1, .f32⟩
  | 11 => ⟨S_, .f32⟩
  | 12 => ⟨S128x8x8x1, .f32⟩
  | 13 => ⟨S128x8x8x1, .f32⟩
  | 14 => ⟨S128x8x8x1, .f32⟩
  | 15 => ⟨S128x8x8x128, .f32⟩
  | 16 => ⟨S128x8x8x128, .f32⟩
  | 17 => ⟨S1024, .f32⟩
  | 18 => ⟨S8x128, .f32⟩
  | 19 => ⟨S1x1x8x128, .f32⟩
  | 20 => ⟨S128x8x8x128, .f32⟩
  | 21 => ⟨S128x8x8x128, .f32⟩
  | 22 => ⟨S128x8x1024, .f32⟩
  | 23 => ⟨S128x8x1024, .f32⟩
  | 24 => ⟨S128x8x1024, .f32⟩
  | 25 => ⟨S_, .f32⟩
  | 26 => ⟨S128x8x1024, .f32⟩
  | 27 => ⟨S128x8x1024, .f32⟩
  | 28 => ⟨S_, .f32⟩
  | 29 => ⟨S128x8x1024, .f32⟩
  | 30 => ⟨S128x8x1024, .f32⟩
  | 31 => ⟨S128x8x1024, .f32⟩
  | 32 => ⟨S128x8x1024, .f32⟩
  | 33 => ⟨S128x8x2048, .f32⟩
  | 34 => ⟨S1024x2048, .f32⟩
  | 35 => ⟨S1024x2048, .bf16⟩
  | 36 => ⟨S128x15x1024, .f32⟩
  | _ => ⟨S1024x5120, .f32⟩

abbrev hbmTy (i : Nat) : BufTy := match i / 128 with
  | 0 => hbmTy0_0 i
  | 1 => hbmTy0_1 i
  | 2 => hbmTy0_2 i
  | _ => ⟨S1024x5120, .f32⟩

abbrev bufTy : (tb : Table) → Fin (tcTables nBuf tb) → BufTy
  | .hbm, ⟨i, _⟩ => hbmTy i
  | _, _ => ⟨S1024x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_7 : Ref sig .tc := ⟨.hbm, 78, rfl⟩
abbrev main_v62 : Ref sig .tc := ⟨.hbm, 79, rfl⟩
abbrev main_v63 : Ref sig .tc := ⟨.hbm, 80, rfl⟩
abbrev main_c_8 : Ref sig .tc := ⟨.hbm, 81, rfl⟩
abbrev main_v64 : Ref sig .tc := ⟨.hbm, 82, rfl⟩
abbrev main_v65 : Ref sig .tc := ⟨.hbm, 83, rfl⟩
abbrev main_c_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_c_11 : Ref sig .tc := ⟨.hbm, 126, rfl⟩
abbrev main_v106 : Ref sig .tc := ⟨.hbm, 127, rfl⟩
abbrev main_v107 : Ref sig .tc := ⟨.hbm, 128, rfl⟩
abbrev main_c_12 : Ref sig .tc := ⟨.hbm, 129, rfl⟩
abbrev main_v108 : Ref sig .tc := ⟨.hbm, 130, rfl⟩
abbrev main_v109 : Ref sig .tc := ⟨.hbm, 131, rfl⟩
abbrev main_c_13 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_14 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_16 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_call0_call0_cst : Ref sig .tc := ⟨.hbm, 164, rfl⟩
abbrev main_call0_call0_v0 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_17 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_call1_v0 : Ref sig .tc := ⟨.hbm, 186, rfl⟩
abbrev main_call1_v1 : Ref sig .tc := ⟨.hbm, 187, rfl⟩
abbrev main_call1_cst : Ref sig .tc := ⟨.hbm, 188, rfl⟩
abbrev main_call1_v2 : Ref sig .tc := ⟨.hbm, 189, rfl⟩
abbrev main_call1_v3 : Ref sig .tc := ⟨.hbm, 190, rfl⟩
abbrev main_call1_cst_0 : Ref sig .tc := ⟨.hbm, 191, rfl⟩
abbrev main_call1_v4 : Ref sig .tc := ⟨.hbm, 192, rfl⟩
abbrev main_call1_v5 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_20 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_call2_call0_cst : Ref sig .tc := ⟨.hbm, 208, rfl⟩
abbrev main_call2_call0_v0 : Ref sig .tc := ⟨.hbm, 209, rfl⟩
abbrev main_v168 : Ref sig .tc := ⟨.hbm, 210, rfl⟩
abbrev main_c_21 : Ref sig .tc := ⟨.hbm, 211, rfl⟩
abbrev main_v169 : Ref sig .tc := ⟨.hbm, 212, rfl⟩
abbrev main_call3_v0 : Ref sig .tc := ⟨.hbm, 213, rfl⟩
abbrev main_call3_c : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_c_0 : Ref sig .tc := ⟨.hbm, 219, rfl⟩
abbrev main_call3_v5 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_22 : Ref sig .tc := ⟨.hbm, 229, rfl⟩
abbrev main_call4_v0 : Ref sig .tc := ⟨.hbm, 230, rfl⟩
abbrev main_call4_v1 : Ref sig .tc := ⟨.hbm, 231, rfl⟩
abbrev main_call4_v2 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_23 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_cst_24 : Ref sig .tc := ⟨.hbm, 261, rfl⟩
abbrev main_v205 : Ref sig .tc := ⟨.hbm, 262, rfl⟩
abbrev main_v206 : Ref sig .tc := ⟨.hbm, 263, rfl⟩
abbrev main_cst_25 : Ref sig .tc := ⟨.hbm, 264, rfl⟩
abbrev main_v207 : Ref sig .tc := ⟨.hbm, 265, rfl⟩
abbrev main_v208 : Ref sig .tc := ⟨.hbm, 266, rfl⟩
abbrev main_cst_26 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_call5_v0 : Ref sig .tc := ⟨.hbm, 279, rfl⟩
abbrev main_call5_v1 : Ref sig .tc := ⟨.hbm, 280, rfl⟩
abbrev main_call5_cst : Ref sig .tc := ⟨.hbm, 281, rfl⟩
abbrev main_call5_v2 : Ref sig .tc := ⟨.hbm, 282, rfl⟩
abbrev main_call5_v3 : Ref sig .tc := ⟨.hbm, 283, rfl⟩
abbrev main_call5_cst_0 : Ref sig .tc := ⟨.hbm, 284, rfl⟩
abbrev main_call5_v4 : Ref sig .tc := ⟨.hbm, 285, rfl⟩
abbrev main_call5_v5 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 16
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S5632x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S1024x2048 : Shape := ⟨2, ![1024, 2048]⟩
abbrev S1x2048 : Shape := ⟨2, ![1, 2048]⟩
abbrev S1x2048x5120 : Shape := ⟨3, ![1, 2048, 5120]⟩
abbrev S2048 : Shape := ⟨1, ![2048]⟩
abbrev S2048x5120 : Shape := ⟨2, ![2048, 5120]⟩
abbrev S1024x5120 : Shape := ⟨2, ![1024, 5120]⟩
abbrev S2048x512 : Shape := ⟨2, ![2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 8
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x5120, .f32⟩
  | .hbm, ⟨3, _⟩ => ⟨S2048, .f32⟩
  | .hbm, ⟨4, _⟩ => ⟨S1x2048, .f32⟩
  | .hbm, ⟨5, _⟩ => ⟨S2048x5120, .f32⟩
  | .hbm, ⟨6, _⟩ => ⟨S1024x5120, .f32⟩
  | .hbm, ⟨7, _⟩ => ⟨S2048x5120, .bf16⟩
  | .local _ .vmem, ⟨0, _⟩ => ⟨S1024x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 10], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference3Ideal.lean ====
abbrev S1024x2048 : Shape := ⟨2, ![1024, 2048]⟩
abbrev S1x2048 : Shape := ⟨2, ![1, 2048]⟩
abbrev S1x2048x5120 : Shape := ⟨3, ![1, 2048, 5120]⟩
abbrev S_ : Shape := ⟨0, ![]⟩
abbrev S1024 : Shape := ⟨1, ![1024]⟩
abbrev S1024x1 : Shape := ⟨2, ![1024, 1]⟩
abbrev S2048 : Shape := ⟨1, ![2048]⟩
abbrev S2048x5120 : Shape := ⟨2, ![2048, 5120]⟩
abbrev S1024x5120 : Shape := ⟨2, ![1024, 5120]⟩

abbrev nBuf : Space → Nat
  | .hbm => 24
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x5120, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .f32⟩
  | .hbm, ⟨20, _⟩ => ⟨S2048x5120, .f32⟩
  | .hbm, ⟨21, _⟩ => ⟨S1024x5120, .f32⟩
  | .hbm, ⟨22, _⟩ => ⟨S2048x5120, .f32⟩
  | .hbm, ⟨23, _⟩ => ⟨S2048x5120, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S1024x2048 : Shape := ⟨2, ![1024, 2048]⟩
abbrev S1x2048x2048 : Shape := ⟨3, ![1, 2048, 2048]⟩
abbrev S2048x2048 : Shape := ⟨2, ![2048, 2048]⟩
abbrev S1024x512 : Shape := ⟨2, ![1024, 512]⟩
abbrev S2048x512 : Shape := ⟨2, ![2048, 512]⟩

abbrev nBuf : Space → Nat
  | .hbm => 7
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1x2048x2048, .f32⟩
  | .hbm, ⟨3, _⟩ => ⟨S1024x2048, .bf16⟩
  | .hbm, ⟨4, _⟩ => ⟨S2048x2048, .f32⟩
  | .hbm, ⟨5, _⟩ => ⟨S1024x2048, .f32⟩
  | .hbm, ⟨6, _⟩ => ⟨S2048x2048, .bf16⟩
  | .local _ .vmem, ⟨0, _⟩ => ⟨S1024x512, .f32⟩
  | .local _ .vmem, ⟨1, _⟩ => ⟨S1024x512, .f32⟩
  | .local _ .vmem, ⟨2, _⟩ => ⟨S1024x2048, .bf16⟩
  | .local _ .vmem, ⟨3, _⟩ => ⟨S2048x512, .f32⟩
  | .local _ .vmem, ⟨4, _⟩ => ⟨S2048x512, .f32⟩
  | .local _ .vmem, ⟨5, _⟩ => ⟨S1024x512, .f32⟩
  | .local _ .vmem, ⟨6, _⟩ => ⟨S1024x512, .f32⟩
  | .local _ .vmem, ⟨7, _⟩ => ⟨S2048x512, .bf16⟩
  | .local _ .vmem, ⟨8, _⟩ => ⟨S2048x512, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference4Ideal.lean ====
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1x2048x2048, .f32⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S1024x2048 : Shape := ⟨2, ![1024, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩

abbrev nBuf : Space → Nat
  | .hbm => 16
  | .vmem => 17
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S1024x2048, .f32⟩
  | .hbm, ⟨13, _⟩ => ⟨S2048x5632, .bf16⟩
  | .hbm, ⟨14, _⟩ => ⟨S2048x5632, .bf16⟩
  | .hbm, ⟨15, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1024x2048, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S256x2048, .bf16⟩
  | .local _ .vmem, ⟨15, _⟩ => ⟨S256x2048, .bf16⟩
  | .local _ .vmem, ⟨16, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c21_i32 : BitVec 32 := 21#32
  let v4 : BitVec 1 := Scalar.cmpi .slt arg1 c21_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c21_i32_3 : BitVec 32 := 21#32
  let v8 : BitVec 1 := Scalar.cmpi .eq arg1 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]
-- ==== Reference5Ideal.lean ====
abbrev S1024x2048 : Shape := ⟨2, ![1024, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x5632 : Shape := ⟨2, ![2048, 5632]⟩
abbrev S1024x5632 : Shape := ⟨2, ![1024, 5632]⟩
abbrev S5632x2048 : Shape := ⟨2, ![5632, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1024x2048, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x2048, .f32⟩
  | .hbm, ⟨19, _⟩ => ⟨S1024x2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S2048x5632, .f32⟩
  | .hbm, ⟨24, _⟩ => ⟨S1024x5632, .f32⟩
  | .hbm, ⟨25, _⟩ => ⟨S1024x5632, .f32⟩
  | .hbm, ⟨26, _⟩ => ⟨S1024x5632, .f32⟩
  | .hbm, ⟨27, _⟩ => ⟨S_, .f32⟩
  | .hbm, ⟨28, _⟩ => ⟨S1024x5632, .f32⟩
  | .hbm, ⟨29, _⟩ => ⟨S1024x5632, .f32⟩
  | .hbm, ⟨30, _⟩ => ⟨S_, .f32⟩
  | .hbm, ⟨31, _⟩ => ⟨S1024x5632, .f32⟩
  | .hbm, ⟨32, _⟩ => ⟨S1024x5632, .f32⟩
  | .hbm, ⟨33, _⟩ => ⟨S1024x5632, .f32⟩
  | .hbm, ⟨34, _⟩ => ⟨S2048x5632, .f32⟩
  | .hbm, ⟨35, _⟩ => ⟨S1024x5632, .f32⟩
  | .hbm, ⟨36, _⟩ => ⟨S1024x5632, .f32⟩
  | .hbm, ⟨37, _⟩ => ⟨S5632x2048, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x2048, .f32⟩
  | .hbm, ⟨52, _⟩ => ⟨S1024x2048, .f32⟩
  | .hbm, ⟨53, _⟩ => ⟨S1x2048, .f32⟩
  | .hbm, ⟨54, _⟩ => ⟨S1024x2048, .f32⟩
  | .hbm, ⟨55, _⟩ => ⟨S1024x2048, .f32⟩
  | .hbm, ⟨56, _⟩ => ⟨S2048x5632, .f32⟩
  | .hbm, ⟨57, _⟩ => ⟨S2048x5632, .bf16⟩
  | .hbm, ⟨58, _⟩ => ⟨S2048x5632, .f32⟩
  | .hbm, ⟨59, _⟩ => ⟨S2048x5632, .bf16⟩
  | .hbm, ⟨60, _⟩ => ⟨S5632x2048, .f32⟩
  | .hbm, ⟨61, _⟩ => ⟨S5632x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Body.lean ====
/-
  The run of the sampling mixer's body at a grid point other than the first (the tables of scores are not cleared
  there): what the body writes to each buffer, as the list of its writes.
-/
module

public import proofs.«01_k».proof.Proof.Gen.KernelIdeal.Frame
public import proofs.«01_k».proof.Proof.Gen.KernelIdeal.Skeleton

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body clears the score table at this grid point. -/
abbrev firstPt (i : grid0.Coords) : Prop :=
  Scalar.cmpi .ne (Scalar.extui (Scalar.cmpi .eq (BitVec.ofNat 32 (i 0).val) 0#32) : BitVec 32) 0#32 = 1#1

set_option maxHeartbeats 20000000 in
/-- The body on whole buffers: the inputs at `x0` … `x6`, the score table at `s0`, the rest at anything. The lists the
    run finds are the writes of the three results (8, 9, 10) and of the four tables the body fills (12 to 15); `F16` is
    what it leaves in the score table. -/
def run (c : Dev nD) (i : grid0.Coords) (arg1 : Memref sig .tc .vmem S64x5120 .f32) (harg1 : arg1.IsWhole) (arg2 : Memref sig .tc .vmem S1x15x8x1024 .f32) (harg2 : arg2.IsWhole) (arg3 : Memref sig .tc .vmem S8x8x128x128 .f32) (harg3 : arg3.IsWhole) (arg4 : Memref sig .tc .vmem S2x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S64x2048 .bf16) (harg8 : arg8.IsWhole) (arg9 : Memref sig .tc .vmem S15x8x1024 .f32) (harg9 : arg9.IsWhole) (arg10 : Memref sig .tc .vmem S8x8x128x128 .f32) (harg10 : arg10.IsWhole) (arg11 : Memref sig .tc .vmem S24x8x1024 .f32) (harg11 : arg11.IsWhole) (arg12 : Memref sig .tc .vmem S3x8x64x128 .f32) (harg12 : arg12.IsWhole) (arg13 : Memref sig .tc .vmem S128x8x128 .f32) (harg13 : arg13.IsWhole) (arg14 : Memref sig .tc .vmem S2x64x1024 .bf16) (harg14 : arg14.IsWhole) (arg15 : Memref sig .tc .vmem S5x512x128 .f32) (harg15 : arg15.IsWhole) (arg16 : Memref sig .tc .vmem S8x64x64 .f32) (harg16 : arg16.IsWhole) (hc0 : ¬firstPt i)
    (x0 : Vec F S64x5120 .f32) (x1 : Vec F S1x15x8x1024 .f32) (x2 : Vec F S8x8x128x128 .f32) (x3 : Vec F S2x1024 .f32) (x4 : Vec F S4x256x256 .bf16) (x5 : Vec F S1x1024 .f32) (x6 : Vec F S1x1024 .f32) (s0 : Vec F S8x64x64 .f32) :
    Σ' (L8 : List (View.Piece (Elt F) S64x2048 .bf16)) (L9 : List (View.Piece (Elt F) S15x8x1024 .f32)) (L10 : List (View.Piece (Elt F) S8x8x128x128 .f32)) (L12 : List (View.Piece (Elt F) S3x8x64x128 .f32)) (L13 : List (View.Piece (Elt F) S128x8x128 .f32)) (L14 : List (View.Piece (Elt F) S2x64x1024 .bf16)) (L15 : List (View.Piece (Elt F) S5x512x128 .f32)), { F16 : arg16.view.ty.Contents (Elt F) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} F16)) -∗ K ⟨⟩))
          ⊢ wp frame (wpE (defs₀ (F := F)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0_mixer_sample_eq_skeleton]; unfold cc0_mixer_sample_skel
    simp only [k0_part146_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part147_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg16.eq_unread hfs5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]; · iexists _; iexact HS1
    isplitl [HS2]; · iexists _; iexact HS2
    isplitl [HS3]; · iexists _; iexact HS3
    isplitl [HS4]; · iexists _; iexact HS4
    iexact HS5

end Cert.KernelIdeal.Mixer

end
-- ==== Proof.Vocab.lean ====
/-
  The writes of the sampling mixer's body, written uniformly in the head and in the token: the gates of a head, the
  three tables the gates go to, the products of forget gates over segments of tokens, and the levels of a token.
-/
module

public import proofs.«01_k».proof.Proof.Body
public import Mathlib.Tactic.IntervalCases

@[expose] public section

set_option maxRecDepth 65536

noncomputable section

namespace Cert.KernelIdeal.Mixer

open Idealize.ShloMosaic Idealize.ShloMosaic.TcCoe
open Cert.KernelIdeal.Gen

variable {F : FTy → Type} [FloatOps F]

section gates

variable (arg1 : Memref sig .tc .vmem S64x5120 .f32) (harg1 : arg1.IsWhole)
  (arg4 : Memref sig .tc .vmem S2x1024 .f32) (harg4 : arg4.IsWhole)
  (x0 : Vec F S64x5120 .f32) (x3 : Vec F S2x1024 .f32)

/-- 128 columns of the projections, from column `o` on. -/
def cols (o : ℕ) (h : o + 128 ≤ 5120) : Vec F S64x128 .f32 :=
  View.readAt (Elt F) arg1.view (Rect.unit (s := S64x5120) ![0, o] S64x128.size
    (by intro a; fin_cases a; exacts [le_refl 64, h])).toLoadRect (harg1.unread x0)

/-- The lower bounds of the forget gates. -/
def lbv : FVec F S1x1024 .f32 :=
  k0_pay19 (View.readAt (Elt F) arg4.view (Rect.unit (s := S2x1024) ![0, 0] S2x1024.size inb_S2x1024_S2x1024_0_0).toLoadRect (harg4.unread x3))

/-- The logistic function, entry by entry, as the body writes it. -/
def sgm (z : FVec F S64x128 .f32) : FVec F S64x128 .f32 :=
  divf (broadcast S64x128 (Scalar.ofBits .f32 0x3F800000#32))
    (addf (broadcast S64x128 (Scalar.ofBits .f32 0x3F800000#32)) (exp (subf (broadcast S64x128 (Scalar.ofBits .f32 0x00000000#32)) z)))

/-- The lower bounds of head `n`. -/
def lbc (n : ℕ) (h : n < 8) : FVec F S1x128 .f32 :=
  extractStridedSlice S1x128 ![0, n * 128] (lbv arg4 harg4 x3)
    ⟨rfl, by intro a; fin_cases a; exacts [le_refl 1, (by show n * 128 + 128 ≤ 1024; omega)]⟩

/-- The forget gates of head `n`. -/
def gateF (n : ℕ) (h : n < 8) : FVec F S64x128 .f32 :=
  addf (broadcastTo S64x128 (lbc arg4 harg4 x3 n h) broadcasts_S1x128_S64x128)
    (mulf (broadcastTo S64x128 (subf (broadcast S1x128 (Scalar.ofBits .f32 0x3F800000#32)) (lbc arg4 harg4 x3 n h)) broadcasts_S1x128_S64x128)
      (sgm (cols arg1 harg1 x0 (2048 + n * 128) (by omega))))

/-- The queries of head `n`. -/
def gateQ (n : ℕ) (h : n < 8) : FVec F S64x128 .f32 :=
  mulf (cols arg1 harg1 x0 (1024 + n * 128) (by omega)) (sgm (cols arg1 harg1 x0 (1024 + n * 128) (by omega)))

/-- The keys of head `n`. -/
def gateK (n : ℕ) (h : n < 8) : FVec F S64x128 .f32 :=
  subf (broadcast S64x128 (Scalar.ofBits .f32 0x3F800000#32)) (gateF arg1 harg1 arg4 harg4 x0 x3 n h)

/-- A head's block as the table of gates holds it. -/
def natBlk (x : FVec F S64x128 .f32) : FVec F S1x8x8x128 .f32 :=
  shapeCast S1x8x8x128 (shapeCast S8x8x128 x shapeCasts_S64x128_S8x8x128) shapeCasts_S8x8x128_S1x8x8x128

/-- A head's block as the table of products' operands holds it. -/
def qkBlk (x : FVec F S64x128 .f32) : FVec F S1x64x128 .bf16 :=
  shapeCast S1x64x128 (truncf .bf16 x bitsLt_bf16_f32) shapeCasts_S64x128_S1x64x128

theorem nat_inb (a n : ℕ) (ha : a < 3) (h : n < 8) :
    ∀ d, (![a, 0, n * 8, 0] : Fin 4 → ℕ) d + S1x8x8x128.size d ≤ S3x8x64x128.size d := by
  intro d; fin_cases d
  exacts [ha, le_refl 8, (by show n * 8 + 8 ≤ 64; omega), le_refl 128]

theorem qk_inb (a n : ℕ) (ha : a < 2) (h : n < 8) :
    ∀ d, (![a, 0, n * 128] : Fin 3 → ℕ) d + S1x64x128.size d ≤ S2x64x1024.size d := by
  intro d; fin_cases d
  exacts [ha, le_refl 64, (by show n * 128 + 128 ≤ 1024; omega)]

/-- The writes of the table of gates, `n` heads. -/
def natP : (n : ℕ) → n ≤ 8 → List (View.Piece (Elt F) S3x8x64x128 .f32)
  | 0, _ => []
  | n + 1, h =>
    ⟨Rect.unit (s := S3x8x64x128) ![2, 0, n * 8, 0] S1x8x8x128.size (nat_inb 2 n (by decide) h), natBlk (gateF arg1 harg1 arg4 harg4 x0 x3 n h)⟩ ::
    ⟨Rect.unit (s := S3x8x64x128) ![1, 0, n * 8, 0] S1x8x8x128.size (nat_inb 1 n (by decide) h), natBlk (gateK arg1 harg1 arg4 harg4 x0 x3 n h)⟩ ::
    ⟨Rect.unit (s := S3x8x64x128) ![0, 0, n * 8, 0] S1x8x8x128.size (nat_inb 0 n (by decide) h), natBlk (gateQ arg1 harg1 x0 n h)⟩ ::
    natP n (by omega)

/-- The writes of the table of the products' operands, `n` heads. -/
def qkP : (n : ℕ) → n ≤ 8 → List (View.Piece (Elt F) S2x64x1024 .bf16)
  | 0, _ => []
  | n + 1, h =>
    ⟨Rect.unit (s := S2x64x1024) ![1, 0, n * 128] S1x64x128.size (qk_inb 1 n (by decide) h), qkBlk (gateK arg1 harg1 arg4 harg4 x0 x3 n h)⟩ ::
    ⟨Rect.unit (s := S2x64x1024) ![0, 0, n * 128] S1x64x128.size (qk_inb 0 n (by decide) h), qkBlk (gateQ arg1 harg1 x0 n h)⟩ ::
    qkP n (by omega)

variable (c : Dev nD)

set_option maxHeartbeats 400000 in
theorem nat_eq : run.sl.HS1_24 c arg1 harg1 arg4 harg4 x0 x3 = natP arg1 harg1 arg4 harg4 x0 x3 8 le_rfl := rfl

set_option maxHeartbeats 400000 in
theorem qk_eq : run.sl.HS3_16 c arg1 harg1 arg4 harg4 x0 x3 = qkP arg1 harg1 arg4 harg4 x0 x3 8 le_rfl := rfl

end gates

section segments

variable (c : Dev nD) (arg1 : Memref sig .tc .vmem S64x5120 .f32) (harg1 : arg1.IsWhole)
  (arg4 : Memref sig .tc .vmem S2x1024 .f32) (harg4 : arg4.IsWhole)
  (arg12 : Memref sig .tc .vmem S3x8x64x128 .f32) (arg13 : Memref sig .tc .vmem S128x8x128 .f32)
  (x0 : Vec F S64x5120 .f32) (x3 : Vec F S2x1024 .f32)

theorem tok_inb (a t : ℕ) (ha : a < 3) (h : t < 64) :
    ∀ d, S1x1x8x128.size d = 0 ∨ (![a, t / 8, t % 8, 0] : Fin 4 → ℕ) d + (![1, 1, 8, 1] : Fin 4 → ℕ) d * (S1x1x8x128.size d - 1)
      < S3x8x64x128.size d := by
  intro d; right; fin_cases d
  exacts [ha, (by show t / 8 + 0 < 8; omega), (by show t % 8 + 8 * 7 < 64; omega), (by show (0 + 1 * 127 : ℕ) < 128; omega)]

/-- The rows of token `t` in plane `a` of the table of gates: a row for each head. -/
def tok (a t : ℕ) (ha : a < 3) (h : t < 64) : FVec F S8x128 .f32 :=
  shapeCast S8x128 (arg12.view.readCov (run.sl.HS1_24 c arg1 harg1 arg4 harg4 x0 x3)
    (⟨![a, t / 8, t % 8, 0], S1x1x8x128.size, ![1, 1, 8, 1], tok_inb a t ha h⟩ : LoadRect S3x8x64x128)) shapeCasts_S1x1x8x128_S8x128

theorem seg_inb (m : ℕ) (h : m < 128) :
    ∀ d, (![m, 0, 0] : Fin 3 → ℕ) d + S1x8x128.size d ≤ S128x8x128.size d := by
  intro d; fin_cases d
  exacts [h, le_refl 8, le_refl 128]

/-- Slot `m` of the table of segments, as a list of its writes leaves it. -/
def segAt (L : List (View.Piece (Elt F) S128x8x128 .f32)) (m : ℕ) (h : m < 128) : FVec F S8x128 .f32 :=
  shapeCast S8x128 (arg13.view.readCov L (Rect.unit (s := S128x8x128) ![m, 0, 0] S1x8x128.size (seg_inb m h)).toLoadRect) shapeCasts_S1x8x128_S8x128

/-- The writes of the first slots: the forget gates of the tokens. -/
def seg0P : (n : ℕ) → n ≤ 64 → List (View.Piece (Elt F) S128x8x128 .f32)
  | 0, _ => []
  | n + 1, h =>
    ⟨Rect.unit (s := S128x8x128) ![n, 0, 0] S1x8x128.size (seg_inb n (by omega)),
      shapeCast S1x8x128 (tok c arg1 harg1 arg4 harg4 arg12 x0 x3 2 n (by decide) h) shapeCasts_S8x128_S1x8x128⟩ :: seg0P n (by omega)

set_option maxHeartbeats 400000 in
theorem seg0_eq : run.sl.HS2_64 c arg1 harg1 arg4 harg4 arg12 x0 x3 = seg0P c arg1 harg1 arg4 harg4 arg12 x0 x3 64 le_rfl := rfl

/-- The table of segments after `64 + n` of its writes. -/
def segH (n : ℕ) : List (View.Piece (Elt F) S128x8x128 .f32) :=
  ([run.sl.HS2_64 c arg1 harg1 arg4 harg4 arg12 x0 x3, run.sl.HS2_65 c arg1 harg1 arg4 harg4 arg12 arg13 x0 x3, run.sl.HS2_66 c arg1 harg1 arg4 harg4 arg12 arg13 x0 x3, run.sl.HS2_67 c arg1 harg1 arg4 harg4 arg12 arg13 x0 x3, run.sl.HS2_68 c arg1 harg1 arg4 harg4 arg12 arg13 x0 x3, run.sl.HS2_69 c arg1 harg1 arg4 harg4 arg12 arg13 x0 x3, run.sl.HS2_70 c arg1 harg1 arg4 harg4 arg12 arg13 x0 x3, run.sl.HS2_71 c arg1 harg1 arg4 harg4 arg12 arg13 x0 x3, run.sl.HS2_72 c arg1 harg1 arg4 harg4 arg12 arg13 x0 x3, run.sl.HS2_73 c arg1 harg1 arg4 harg4 arg12 arg13 x0 x3, run.sl.HS2_74 c arg1 harg1 arg4 harg4 arg12 arg13 x0 x3, run.sl.HS2_75 c arg1 harg1 arg4 harg4 arg12 arg13 x0 x3, run.sl.HS2_76 c arg1 harg1 arg4 harg4 arg12 arg13 x0 x3, run.sl.HS2_77 c arg1 harg1 arg4 harg4 arg12 arg13 x0 x3, run.sl.HS2_78 c arg1 harg1 arg4 harg4 arg12 arg13 x0 x3, run.sl.HS2_79 c arg1 harg1 arg4 harg4 arg12 arg13 x0 x3, run.sl.HS2_80 c arg1 harg1 arg4 harg4 arg12 arg13 x0 x3, run.sl.HS2_81 c arg1 harg1 arg4 harg4 arg12 arg13 x0 x3, run.sl.HS2_82 c arg1 harg1 arg4 harg4 arg12 arg13 x0 x3, run.sl.HS2_83 c arg1 harg1 arg4 harg4 arg12 arg13 x0 x3, run.sl.HS2_84 c arg1 harg1 arg4 harg4 arg12 arg13 x0 x3, run.sl.HS2_85 c arg1 harg1 arg4 harg4 arg12 arg13 x0 x3, run.sl.HS2_86 c arg1 harg1 arg4 harg4 arg12 arg13 x0 x3, run.sl.HS2_87 c arg1 harg1 arg4 harg4 arg12 arg13 x0 x3, run.sl.HS2_88 c arg1 harg1 arg4 harg4 arg12 arg13 x0 x3, run.sl.HS2_89 c arg1 harg1 arg4 harg4 arg12 arg13 x0 x3, run.sl.HS2_90 c arg1 harg1 arg4 harg4 arg12 arg13 x0 x3, run.sl.HS2_91 c arg1 harg1 arg4 harg4 arg12 arg13 x0 x3, run.sl.HS2_92 c arg1 harg1 arg4 harg4 arg12 arg13 x0 x3, run.sl.HS2_93 c arg1 harg1 arg4 harg4 arg12 arg13 x0 x3, run.sl.HS2_94 c arg1 harg1 arg4 harg4 arg12 arg13 x0 x3, run.sl.HS2_95 c arg1 harg1 arg4 harg4 arg12 arg13 x0 x3, run.sl.HS2_96 c arg1 harg1 arg4 harg4 arg12 arg13 x0 x3, run.sl.HS2_97 c arg1 harg1 arg4 harg4 arg12 arg13 x0 x3, run.sl.HS2_98 c arg1 harg1 arg4 harg4 arg12 arg13 x0 x3, run.sl.HS2_99 c arg1 harg1 arg4 harg4 arg12 arg13 x0 x3, run.sl.HS2_100 c arg1 harg1 arg4 harg4 arg12 arg13 x0 x3, run.sl.HS2_101 c arg1 harg1 arg4 harg4 arg12 arg13 x0 x3, run.sl.HS2_102 c arg1 harg1 arg4 harg4 arg12 arg13 x0 x3, run.sl.HS2_103 c arg1 harg1 arg4 harg4 arg12 arg13 x0 x3, run.sl.HS2_104 c arg1 harg1 arg4 harg4 arg12 arg13 x0 x3, run.sl.HS2_105 c arg1 harg1 arg4 harg4 arg12 arg13 x0 x3, run.sl.HS2_106 c arg1 harg1 arg4 harg4 arg12 arg13 x0 x3, run.sl.HS2_107 c arg1 harg1 arg4 harg4 arg12 arg13 x0 x3, run.sl.HS2_108 c arg1 harg1 arg4 harg4 arg12 arg13 x0 x3, run.sl.HS2_109 c arg1 harg1 arg4 harg4 arg12 arg13 x0 x3, run.sl.HS2_110 c arg1 harg1 arg4 harg4 arg12 arg13 x0 x3, run.sl.HS2_111 c arg1 harg1 arg4 harg4 arg12 arg13 x0 x3, run.sl.HS2_112 c arg1 harg1 arg4 harg4 arg12 arg13 x0 x3] : List (List (View.Piece (Elt F) S128x8x128 .f32))).getD n []

/-- Each further write of the table of segments multiplies two neighbouring slots. -/
theorem segH_succ (n : ℕ) (h : n < 48) : segH c arg1 harg1 arg4 harg4 arg12 arg13 x0 x3 (n + 1) =
    ⟨Rect.unit (s := S128x8x128) ![64 + n, 0, 0] S1x8x128.size (seg_inb (64 + n) (by omega)),
      shapeCast S1x8x128 (mulf (segAt arg13 (segH c arg1 harg1 arg4 harg4 arg12 arg13 x0 x3 n) (2 * n) (by omega))
        (segAt arg13 (segH c arg1 harg1 arg4 harg4 arg12 arg13 x0 x3 n) (2 * n + 1) (by omega)))
        shapeCasts_S8x128_S1x8x128⟩ :: segH c arg1 harg1 arg4 harg4 arg12 arg13 x0 x3 n := by
  interval_cases n <;> rfl

end segments

section levels

variable (c : Dev nD) (arg1 : Memref sig .tc .vmem S64x5120 .f32) (harg1 : arg1.IsWhole)
  (arg4 : Memref sig .tc .vmem S2x1024 .f32) (harg4 : arg4.IsWhole)
  (arg12 : Memref sig .tc .vmem S3x8x64x128 .f32) (arg13 : Memref sig .tc .vmem S128x8x128 .f32)
  (x0 : Vec F S64x5120 .f32) (x3 : Vec F S2x1024 .f32)

/-- The slot of the segment next to the segment of `2 ^ l` tokens that holds token `t`. -/
def sib : (l t : ℕ) → ℕ
  | 0, t => t + 1 - 2 * (t % 2)
  | 1, t => 64 + (t / 2 + 1 - 2 * (t / 2 % 2))
  | _, t => 96 + (t / 4 + 1 - 2 * (t / 4 % 2))

/-- Bit `l` of a token's number. -/
def bit : (l t : ℕ) → ℕ
  | 0, t => t % 2
  | 1, t => t / 2 % 2
  | _, t => t / 4 % 2

theorem sib_lt (l t : ℕ) (h : t < 64) : sib l t < 128 := by
  unfold sib; split <;> omega

/-- A slot of the table of segments, once it is full. -/
def slot (m : ℕ) (h : m < 128) : FVec F S8x128 .f32 :=
  segAt arg13 (run.sl.HS2_112 c arg1 harg1 arg4 harg4 arg12 arg13 x0 x3) m h

/-- The product of the gates from the start of token `t`'s segment of `2 ^ l` tokens to `t`. -/
def pre (t : ℕ) (h : t < 64) : ℕ → FVec F S8x128 .f32
  | 0 => slot c arg1 harg1 arg4 harg4 arg12 arg13 x0 x3 t (by omega)
  | l + 1 => match bit l t with
    | 0 => pre t h l
    | _ + 1 => mulf (pre t h l) (slot c arg1 harg1 arg4 harg4 arg12 arg13 x0 x3 (sib l t) (sib_lt l t h))

/-- The product of the gates after token `t` to the end of its segment of `2 ^ l` tokens, if there are any. -/
def suf (t : ℕ) (h : t < 64) : ℕ → Option (FVec F S8x128 .f32)
  | 0 => none
  | l + 1 => match bit l t with
    | 0 => match suf t h l with
      | none => some (slot c arg1 harg1 arg4 harg4 arg12 arg13 x0 x3 (sib l t) (sib_lt l t h))
      | some r => some (mulf r (slot c arg1 harg1 arg4 harg4 arg12 arg13 x0 x3 (sib l t) (sib_lt l t h)))
    | _ + 1 => suf t h l

/-- A query of token `t`, carried back to the start of its segment of `2 ^ l` tokens. -/
def qLev (t : ℕ) (h : t < 64) (l : ℕ) : FVec F S8x128 .f32 :=
  mulf (tok c arg1 harg1 arg4 harg4 arg12 x0 x3 0 t (by decide) h) (pre c arg1 harg1 arg4 harg4 arg12 arg13 x0 x3 t h l)

/-- A key of token `t`, carried on to the end of its segment of `2 ^ l` tokens. -/
def kLev (t : ℕ) (h : t < 64) (l : ℕ) : FVec F S8x128 .f32 :=
  match suf c arg1 harg1 arg4 harg4 arg12 arg13 x0 x3 t h l with
  | none => tok c arg1 harg1 arg4 harg4 arg12 x0 x3 1 t (by decide) h
  | some r => mulf (tok c arg1 harg1 arg4 harg4 arg12 x0 x3 1 t (by decide) h) r

/-- The rows of token `t` in level `l`: a query in the later half of a segment, a key in the earlier half. -/
def lev (t : ℕ) (h : t < 64) (l : ℕ) : FVec F S8x128 .f32 :=
  match bit l t with
  | 0 => kLev c arg1 harg1 arg4 harg4 arg12 arg13 x0 x3 t h l
  | _ + 1 => qLev c arg1 harg1 arg4 harg4 arg12 arg13 x0 x3 t h l

theorem lev_inb (l t : ℕ) (hl : l < 5) (h : t < 64) :
    ∀ d, (![l, t * 8, 0] : Fin 3 → ℕ) d + S1x8x128.size d ≤ S5x512x128.size d := by
  intro d; fin_cases d
  exacts [hl, (by show t * 8 + 8 ≤ 512; omega), le_refl 128]

/-- One write of the table of levels. -/
def levPiece (l t : ℕ) (hl : l < 5) (h : t < 64) (v : FVec F S8x128 .f32) : View.Piece (Elt F) S5x512x128 .f32 :=
  ⟨Rect.unit (s := S5x512x128) ![l, t * 8, 0] S1x8x128.size (lev_inb l t hl h), shapeCast S1x8x128 v shapeCasts_S8x128_S1x8x128⟩

/-- The writes of the table of levels, `n` tokens. -/
def levP : (n : ℕ) → n ≤ 64 → List (View.Piece (Elt F) S5x512x128 .f32)
  | 0, _ => []
  | n + 1, h =>
    levPiece 4 n (by decide) h (kLev c arg1 harg1 arg4 harg4 arg12 arg13 x0 x3 n h 3) ::
    levPiece 3 n (by decide) h (qLev c arg1 harg1 arg4 harg4 arg12 arg13 x0 x3 n h 3) ::
    levPiece 2 n (by decide) h (lev c arg1 harg1 arg4 harg4 arg12 arg13 x0 x3 n h 2) ::
    levPiece 1 n (by decide) h (lev c arg1 harg1 arg4 harg4 arg12 arg13 x0 x3 n h 1) ::
    levPiece 0 n (by decide) h (lev c arg1 harg1 arg4 harg4 arg12 arg13 x0 x3 n h 0) :: levP n (by omega)

theorem lev_eq : run.sl.HS4_320 c arg1 harg1 arg4 harg4 arg12 arg13 x0 x3
    = levP c arg1 harg1 arg4 harg4 arg12 arg13 x0 x3 64 le_rfl := rfl

end levels

/-! ### The results of one grid point -/

section results

variable (c : Dev nD) (i : grid0.Coords)
  (arg1 : Memref sig .tc .vmem S64x5120 .f32) (harg1 : arg1.IsWhole)
  (arg2 : Memref sig .tc .vmem S1x15x8x1024 .f32) (harg2 : arg2.IsWhole)
  (arg3 : Memref sig .tc .vmem S8x8x128x128 .f32) (harg3 : arg3.IsWhole)
  (arg4 : Memref sig .tc .vmem S2x1024 .f32) (harg4 : arg4.IsWhole)
  (arg5 : Memref sig .tc .vmem S4x256x256 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S64x2048 .bf16) (harg8 : arg8.IsWhole)
  (arg9 : Memref sig .tc .vmem S15x8x1024 .f32) (harg9 : arg9.IsWhole)
  (arg10 : Memref sig .tc .vmem S8x8x128x128 .f32) (harg10 : arg10.IsWhole)
  (arg11 : Memref sig .tc .vmem S24x8x1024 .f32) (harg11 : arg11.IsWhole)
  (arg12 : Memref sig .tc .vmem S3x8x64x128 .f32) (harg12 : arg12.IsWhole)
  (arg13 : Memref sig .tc .vmem S128x8x128 .f32) (harg13 : arg13.IsWhole)
  (arg14 : Memref sig .tc .vmem S2x64x1024 .bf16) (harg14 : arg14.IsWhole)
  (arg15 : Memref sig .tc .vmem S5x512x128 .f32) (harg15 : arg15.IsWhole)
  (arg16 : Memref sig .tc .vmem S8x64x64 .f32) (harg16 : arg16.IsWhole)
  (hc0 : ¬firstPt i)
  (x0 : Vec F S64x5120 .f32) (x1 : Vec F S1x15x8x1024 .f32) (x2 : Vec F S8x8x128x128 .f32) (x3 : Vec F S2x1024 .f32)
  (x4 : Vec F S4x256x256 .bf16) (x5 : Vec F S1x1024 .f32) (x6 : Vec F S1x1024 .f32) (s0 : Vec F S8x64x64 .f32)

/-- Head `n`'s operand in plane `a` of the table of the products' operands. -/
def qkRows (a n : ℕ) (ha : a < 2) (h : n < 8) : FVec F S64x128 .bf16 :=
  shapeCast S64x128 (arg14.view.readCov (run.sl.HS3_16 c arg1 harg1 arg4 harg4 x0 x3)
    (Rect.unit (s := S2x64x1024) ![a, 0, n * 128] S1x64x128.size (qk_inb a n ha h)).toLoadRect) shapeCasts_S1x64x128_S64x128

theorem levRow_inb (l n : ℕ) (hl : l < 5) (h : n < 8) :
    ∀ d, S1x64x128.size d = 0 ∨ (![l, n, 0] : Fin 3 → ℕ) d + (![1, 8, 1] : Fin 3 → ℕ) d * (S1x64x128.size d - 1) < S5x512x128.size d := by
  intro d; right; fin_cases d
  exacts [hl, (by show n + 8 * 63 < 512; omega), (by show (0 + 1 * 127 : ℕ) < 128; omega)]

/-- Head `n`'s rows in level `l`, a row for each token. -/
def levRow (l n : ℕ) (hl : l < 5) (h : n < 8) : FVec F S1x64x128 .f32 :=
  arg15.view.readCov (run.sl.HS4_320 c arg1 harg1 arg4 harg4 arg12 arg13 x0 x3)
    (⟨![l, n, 0], S1x64x128.size, ![1, 8, 1], levRow_inb l n hl h⟩ : LoadRect S5x512x128)

/-- The scores of a token with itself, over all pairs of tokens. -/
def payEye (n : ℕ) (h : n < 8) : FVec F S1x64x64 .f32 :=
  shapeCast S1x64x64 (matmul dot_S64x128_S64x128_S64x64_1_1_0_0_n_n none (qkRows c arg1 harg1 arg4 harg4 arg14 x0 x3 0 n (by decide) h)
    (qkRows c arg1 harg1 arg4 harg4 arg14 x0 x3 1 n (by decide) h) (constant S64x64 .f32 0x00000000#32)) shapeCasts_S64x64_S1x64x64

/-- A level's scores, over all pairs of tokens. -/
def payLev (l n : ℕ) (hl : l < 5) (h : n < 8) : FVec F S1x64x64 .f32 :=
  shapeCast S1x64x64 (matmul dot_S64x128_S64x128_S64x64_1_1_0_0_n_n none
    (truncf .bf16 (shapeCast S64x128 (levRow c arg1 harg1 arg4 harg4 arg12 arg13 arg15 x0 x3 l n hl h) shapeCasts_S1x64x128_S64x128) bitsLt_bf16_f32)
    (truncf .bf16 (shapeCast S64x128 (levRow c arg1 harg1 arg4 harg4 arg12 arg13 arg15 x0 x3 l n hl h) shapeCasts_S1x64x128_S64x128) bitsLt_bf16_f32)
    (constant S64x64 .f32 0x00000000#32)) shapeCasts_S64x64_S1x64x64

/-- The pairs a token forms with itself. -/
def maskEye : IVec S1x64x64 1 :=
  k0_pay899 (iota .tc S64x64 32 [0] iota_S64x64_d0_w32) (iota .tc S64x64 32 [1] iota_S64x64_d1_w32)

/-- The pairs of level 0. -/
def mask0 : IVec S1x64x64 1 := k0_pay901 k0_pay891
/-- The pairs of level 1. -/
def mask1 : IVec S1x64x64 1 := k0_pay903 k0_pay892
/-- The pairs of level 2. -/
def mask2 : IVec S1x64x64 1 := k0_pay906 (k0_pay896 k0_pay893 k0_pay894 k0_pay895)

theorem sc_inb (n : ℕ) (h : n < 8) : ∀ d, (![n, 0, 0] : Fin 3 → ℕ) d + S1x64x64.size d ≤ S8x64x64.size d := by
  intro d; fin_cases d
  exacts [h, le_refl 64, le_refl 64]

/-- Head `n`'s part of the table of scores. -/
abbrev scRect (n : ℕ) (h : n < 8) : Rect S8x64x64 := Rect.unit (s := S8x64x64) ![n, 0, 0] S1x64x64.size (sc_inb n h)

/-- The table of scores after `n` heads. -/
def scW : (n : ℕ) → n ≤ 8 → arg16.view.ty.Contents (Elt F)
  | 0, _ => harg16.unread s0
  | n + 1, h =>
    View.write (Elt F) (arg16.access (scRect n h))
      (View.write (Elt F) (arg16.access (scRect n h))
        (View.write (Elt F) (arg16.access (scRect n h))
          (View.write (Elt F) (arg16.access (scRect n h)) (scW n (by omega))
            (payEye c arg1 harg1 arg4 harg4 arg14 x0 x3 n h) maskEye.on)
          (payLev c arg1 harg1 arg4 harg4 arg12 arg13 arg15 x0 x3 0 n (by decide) h) mask0.on)
        (payLev c arg1 harg1 arg4 harg4 arg12 arg13 arg15 x0 x3 1 n (by decide) h) mask1.on)
      (payLev c arg1 harg1 arg4 harg4 arg12 arg13 arg15 x0 x3 2 n (by decide) h) mask2.on

theorem sc_eq : run.sl.HS5_w32 c arg1 harg1 arg4 harg4 arg12 arg13 arg14 arg15 arg16 harg16 x0 x3 s0
    = scW c arg1 harg1 arg4 harg4 arg12 arg13 arg14 arg15 arg16 harg16 x0 x3 s0 8 le_rfl := rfl

/-- The scores of head `n`. -/
def scores (n : ℕ) (h : n < 8) : FVec F S64x64 .f32 :=
  shapeCast S64x64 (View.readAt (Elt F) arg16.view (scRect n h).toLoadRect
    (scW c arg1 harg1 arg4 harg4 arg12 arg13 arg14 arg15 arg16 harg16 x0 x3 s0 (n + 1) h)) shapeCasts_S1x64x64_S64x64

theorem st_inb (n : ℕ) (h : n < 8) : ∀ d, (![0, n, 0, 0] : Fin 4 → ℕ) d + S8x1x128x128.size d ≤ S8x8x128x128.size d := by
  intro d; fin_cases d
  exacts [le_refl 8, h, le_refl 128, le_refl 128]

/-- The states of head `n`, as the body finds them. -/
def stIn (n : ℕ) (h : n < 8) : FVec F S8x128x128 .f32 :=
  shapeCast S8x128x128 (View.readAt (Elt F) arg3.view (Rect.unit (s := S8x8x128x128) ![0, n, 0, 0] S8x1x128x128.size (st_inb n h)).toLoadRect
    (harg3.unread x2)) shapeCasts_S8x1x128x128_S8x128x128

/-- The outputs of a head before they are scaled: from its scores, its values, its queries carried to the start of the
    sequence, and its states. -/
def outF (sc : FVec F S64x64 .f32) (v : FVec F S64x128 .f32) (q : FVec F S1x64x128 .f32) (st : FVec F S8x128x128 .f32) : FVec F S64x128 .f32 :=
  addf (matmul dot_S64x64_S64x128_S64x128_1_0_0_1_n_n none (truncf .bf16 sc bitsLt_bf16_f32) (truncf .bf16 v bitsLt_bf16_f32) (constant S64x128 .f32 0x00000000#32))
    (shapeCast S64x128 (matmul dot_S8x8x128_S8x128x128_S8x8x128_2_1_1_2_0_0 none
      (truncf .bf16 (shapeCast S8x8x128 (shapeCast S64x128 q shapeCasts_S1x64x128_S64x128) shapeCasts_S64x128_S8x8x128) bitsLt_bf16_f32)
      (truncf .bf16 st bitsLt_bf16_f32) (constant S8x8x128 .f32 0x00000000#32)) shapeCasts_S8x8x128_S64x128)

/-- The products of all gates of each sequence, with the heads last. -/
def decayT : FVec F S8x128x8 .f32 :=
  k0_pay889 (pre c arg1 harg1 arg4 harg4 arg12 arg13 x0 x3 7 (by decide) 3) (pre c arg1 harg1 arg4 harg4 arg12 arg13 x0 x3 15 (by decide) 3)
    (pre c arg1 harg1 arg4 harg4 arg12 arg13 x0 x3 23 (by decide) 3) (pre c arg1 harg1 arg4 harg4 arg12 arg13 x0 x3 31 (by decide) 3)
    (pre c arg1 harg1 arg4 harg4 arg12 arg13 x0 x3 39 (by decide) 3) (pre c arg1 harg1 arg4 harg4 arg12 arg13 x0 x3 47 (by decide) 3)
    (pre c arg1 harg1 arg4 harg4 arg12 arg13 x0 x3 55 (by decide) 3) (pre c arg1 harg1 arg4 harg4 arg12 arg13 x0 x3 63 (by decide) 3)

/-- The states of head `n` after the sequence: from the products of all gates, the values, the keys carried to the end
    of the sequence, and the states before. -/
def stF (n : ℕ) (h : n < 8) (d : FVec F S8x128x8 .f32) (v : FVec F S64x128 .f32) (k : FVec F S1x64x128 .f32) (st : FVec F S8x128x128 .f32) : FVec F S8x128x128 .f32 :=
  addf (mulf (broadcastTo S8x128x128 (extractStridedSlice S8x128x1 ![0, 0, n] d
      ⟨rfl, by intro a; fin_cases a; exacts [le_refl 8, le_refl 128, h]⟩) broadcasts_S8x128x1_S8x128x128) st)
    (matmul dot_S8x8x128_S8x8x128_S8x128x128_1_1_2_2_0_0 none
      (truncf .bf16 (shapeCast S8x8x128 (shapeCast S64x128 k shapeCasts_S1x64x128_S64x128) shapeCasts_S64x128_S8x8x128) bitsLt_bf16_f32)
      (truncf .bf16 (shapeCast S8x8x128 v shapeCasts_S64x128_S8x8x128) bitsLt_bf16_f32) (constant S8x128x128 .f32 0x00000000#32))

/-- The outputs of head `n` before they are scaled. -/
def outH (n : ℕ) (h : n < 8) : FVec F S64x128 .f32 :=
  outF (scores c arg1 harg1 arg4 harg4 arg12 arg13 arg14 arg15 arg16 harg16 x0 x3 s0 n h) (cols arg1 harg1 x0 (3072 + n * 128) (by omega))
    (levRow c arg1 harg1 arg4 harg4 arg12 arg13 arg15 x0 x3 3 n (by decide) h) (stIn arg3 harg3 x2 n h)

/-- The states head `n` leaves. -/
def stH (n : ℕ) (h : n < 8) : FVec F S8x128x128 .f32 :=
  stF n h (decayT c arg1 harg1 arg4 harg4 arg12 arg13 x0 x3) (cols arg1 harg1 x0 (3072 + n * 128) (by omega))
    (levRow c arg1 harg1 arg4 harg4 arg12 arg13 arg15 x0 x3 4 n (by decide) h) (stIn arg3 harg3 x2 n h)

/-- 128 columns of the outputs' weights. -/
def hgn (n : ℕ) (h : n < 8) : FVec F S1x128 .f32 :=
  View.readAt (Elt F) arg7.view (Rect.unit (s := S1x1024) ![0, n * 128] S1x128.size
    (by intro a; fin_cases a; exacts [le_refl 1, (by show n * 128 + 128 ≤ 1024; omega)])).toLoadRect (harg7.unread x6)

/-- The writes of the states, `n` heads. -/
def stP : (n : ℕ) → n ≤ 8 → List (View.Piece (Elt F) S8x8x128x128 .f32)
  | 0, _ => []
  | n + 1, h =>
    ⟨Rect.unit (s := S8x8x128x128) ![0, n, 0, 0] S8x1x128x128.size (st_inb n h),
      shapeCast S8x1x128x128 (stH c arg1 harg1 arg3 harg3 arg4 harg4 arg12 arg13 arg15 x0 x2 x3 n h) shapeCasts_S8x128x128_S8x1x128x128⟩ :: stP n (by omega)

theorem ext_inb (d g : ℕ) (hd : d ≤ 16) (h : g < 4) :
    ∀ a, (![d, 0, g * 256] : Fin 3 → ℕ) a + S8x8x256.size a ≤ S24x8x1024.size a := by
  intro a; fin_cases a
  exacts [(by show d + 8 ≤ 24; omega), le_refl 8, (by show g * 256 + 256 ≤ 1024; omega)]

/-- Eight positions of the extended inputs of group `g`, from row `d` on. -/
def ext (d g : ℕ) (hd : d ≤ 16) (h : g < 4) : FVec F S8x8x256 .f32 :=
  arg11.view.readCov (run.sl.HS0_3 c arg1 harg1 arg2 harg2 x0 x1) (Rect.unit (s := S24x8x1024) ![d, 0, g * 256] S8x8x256.size (ext_inb d g hd h)).toLoadRect

/-- The sums over a window of `n + 1` positions. -/
def win (g : ℕ) (h : g < 4) : ℕ → FVec F S8x8x256 .f32
  | 0 => ext c arg1 harg1 arg2 harg2 arg11 x0 x1 16 g le_rfl h
  | n + 1 => addf (win g h n) (ext c arg1 harg1 arg2 harg2 arg11 x0 x1 (15 - n) g (by omega) h)

/-- The first columns of the projections, which the pools read. -/
def uCols : FVec F S64x1024 .f32 :=
  View.readAt (Elt F) arg1.view (Rect.unit (s := S64x5120) ![0, 0] S64x1024.size inb_S64x5120_S64x1024_0_0).toLoadRect (harg1.unread x0)

/-- A group's outputs from its sums, the inputs, its weights and its scales. -/
def poolF (g : ℕ) (h : g < 4) (ws : FVec F S8x8x256 .f32) (u : FVec F S64x1024 .f32) (wp : FVec F S1x256x256 .bf16) (ps : FVec F S1x256 .f32) : FVec F S64x256 .bf16 :=
  truncf .bf16 (mulf (matmul dot_S64x256_S256x256_S64x256_1_0_0_1_n_n none
      (truncf .bf16 (subf (divf (shapeCast S64x256 (transpose S8x8x256 [1, 0, 2]
          (divf ws (broadcastTo S8x8x256 (sitofp .f32 (minsi (addi k0_pay6 (broadcast S8x1x1 1#32)) (broadcast S8x1x1 (BitVec.ofNat 32 (2 ^ (g + 1)))))) broadcasts_S8x1x1_S8x8x256))
          transposes_S8x8x256_p1_0_2_S8x8x256) shapeCasts_S8x8x256_S64x256) (broadcast S64x256 (Scalar.ofBits .f32 0x3F800000#32)))
        (extractStridedSlice S64x256 ![0, g * 256] u ⟨rfl, by intro a; fin_cases a; exacts [le_refl 64, (by show g * 256 + 256 ≤ 1024; omega)]⟩)) bitsLt_bf16_f32)
      (shapeCast S256x256 wp shapeCasts_S1x256x256_S256x256) (constant S64x256 .f32 0x00000000#32))
    (broadcastTo S64x256 (shapeCast S1x256 ps shapeCasts_S1x256_S1x256) broadcasts_S1x256_S64x256)) bitsLt_bf16_f32

/-- A group's weights. -/
def wpool (g : ℕ) (h : g < 4) : FVec F S1x256x256 .bf16 :=
  View.readAt (Elt F) arg5.view (Rect.unit (s := S4x256x256) ![g, 0, 0] S1x256x256.size
    (by intro a; fin_cases a; exacts [h, le_refl 256, le_refl 256])).toLoadRect (harg5.unread x4)

/-- A group's scales. -/
def pscale (g : ℕ) (h : g < 4) : FVec F S1x256 .f32 :=
  View.readAt (Elt F) arg6.view (Rect.unit (s := S1x1024) ![0, g * 256] S1x256.size
    (by intro a; fin_cases a; exacts [le_refl 1, (by show g * 256 + 256 ≤ 1024; omega)])).toLoadRect (harg6.unread x5)

/-- The outputs of group `g`. -/
def poolG (g : ℕ) (h : g < 4) : FVec F S64x256 .bf16 :=
  poolF g h (win c arg1 harg1 arg2 harg2 arg11 x0 x1 g h (2 ^ (g + 1) - 1)) (uCols arg1 harg1 x0) (wpool arg5 harg5 x4 g h) (pscale arg6 harg6 x5 g h)

/-- The writes of the pools' outputs, `n` groups. -/
def poolP : (n : ℕ) → n ≤ 4 → List (View.Piece (Elt F) S64x2048 .bf16)
  | 0, _ => []
  | n + 1, h =>
    ⟨Rect.unit (s := S64x2048) ![0, n * 256] S64x256.size
      (by intro a; fin_cases a; exacts [le_refl 64, (by show n * 256 + 256 ≤ 2048; omega)]),
      poolG c arg1 harg1 arg2 harg2 arg5 harg5 arg6 harg6 arg11 x0 x1 x4 x5 n h⟩ :: poolP n (by omega)

/-- The writes of the mixed outputs: the pools', then `n` heads'. -/
def mixP : (n : ℕ) → n ≤ 8 → List (View.Piece (Elt F) S64x2048 .bf16)
  | 0, _ => poolP c arg1 harg1 arg2 harg2 arg5 harg5 arg6 harg6 arg11 x0 x1 x4 x5 4 le_rfl
  | n + 1, h =>
    ⟨Rect.unit (s := S64x2048) ![0, 1024 + n * 128] S64x128.size
      (by intro a; fin_cases a; exacts [le_refl 64, (by show 1024 + n * 128 + 128 ≤ 2048; omega)]),
      k0_pay911 (outH c arg1 harg1 arg3 harg3 arg4 harg4 arg12 arg13 arg14 arg15 arg16 harg16 x0 x2 x3 s0 n h)
        (cols arg1 harg1 x0 (4096 + n * 128) (by omega)) (hgn arg7 harg7 x6 n h)⟩ :: mixP n (by omega)

/-- What the body writes for the pool's next state. -/
def histP : List (View.Piece (Elt F) S15x8x1024 .f32) :=
  [⟨Rect.unit (s := S15x8x1024) ![0, 0, 0] S15x8x1024.size inb_S15x8x1024_S15x8x1024_0_0_0,
    arg11.view.readCov (run.sl.HS0_3 c arg1 harg1 arg2 harg2 x0 x1) (Rect.unit (s := S24x8x1024) ![9, 0, 0] S15x8x1024.size inb_S24x8x1024_S15x8x1024_9_0_0).toLoadRect⟩]

theorem L8_eq : (run c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 x0 x1 x2 x3 x4 x5 x6 s0).1
    = mixP c arg1 harg1 arg2 harg2 arg3 harg3 arg4 harg4 arg5 harg5 arg6 harg6 arg7 harg7 arg11 arg12 arg13 arg14 arg15 arg16 harg16 x0 x1 x2 x3 x4 x5 x6 s0 8 le_rfl := rfl

theorem L9_eq : (run c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 x0 x1 x2 x3 x4 x5 x6 s0).2.1
    = histP c arg1 harg1 arg2 harg2 arg11 x0 x1 := rfl

theorem L10_eq : (run c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 x0 x1 x2 x3 x4 x5 x6 s0).2.2.1
    = stP c arg1 harg1 arg3 harg3 arg4 harg4 arg12 arg13 arg15 x0 x2 x3 8 le_rfl := rfl

theorem F16_eq : (run c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 x0 x1 x2 x3 x4 x5 x6 s0).2.2.2.2.2.2.2.1
    = scW c arg1 harg1 arg4 harg4 arg12 arg13 arg14 arg15 arg16 harg16 x0 x3 s0 8 le_rfl := rfl

end results

end Cert.KernelIdeal.Mixer
-- ==== Proof.First.lean ====
/-
  The sampling mixer's body at the first grid point: it clears the table of scores, and then does what it does at any
  other point.
-/
module

public import proofs.«01_k».proof.Proof.Body

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The cleared table of scores. -/
def zeroTab : Vec F S8x64x64 .f32 :=
  shapeCast S8x64x64 (broadcast S8x64x64 (Scalar.ofBits .f32 0x00000000#32)) shapeCasts_S8x64x64_S8x64x64

/-- Clearing the table of scores. -/
def clear (arg16 : Memref sig .tc .vmem S8x64x64 .f32) : Prog (TpuEff nD τ sig (Elt F) Λ₀ .tc) PUnit := do
  let _ ← Prog.lift (.load arg16 (Rect.unit (s := S8x64x64) ![0, 0, 0] S8x64x64.size inb_S8x64x64_S8x64x64_0_0_0).toLoadRect (View.loadsAt_vmem h_S8x64x64))
  Prog.lift (.store arg16 (Rect.unit (s := S8x64x64) ![0, 0, 0] S8x64x64.size inb_S8x64x64_S8x64x64_0_0_0) zeroTab Finset.univ (View.stores_vmem_bits_univ h_S8x64x64 rfl) (.inl rfl))

section
variable (arg1 : Memref sig .tc .vmem S64x5120 .f32) (harg1 : arg1.IsWhole) (arg2 : Memref sig .tc .vmem S1x15x8x1024 .f32) (harg2 : arg2.IsWhole) (arg3 : Memref sig .tc .vmem S8x8x128x128 .f32) (harg3 : arg3.IsWhole) (arg4 : Memref sig .tc .vmem S2x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S64x2048 .bf16) (harg8 : arg8.IsWhole) (arg9 : Memref sig .tc .vmem S15x8x1024 .f32) (harg9 : arg9.IsWhole) (arg10 : Memref sig .tc .vmem S8x8x128x128 .f32) (harg10 : arg10.IsWhole) (arg11 : Memref sig .tc .vmem S24x8x1024 .f32) (harg11 : arg11.IsWhole) (arg12 : Memref sig .tc .vmem S3x8x64x128 .f32) (harg12 : arg12.IsWhole) (arg13 : Memref sig .tc .vmem S128x8x128 .f32) (harg13 : arg13.IsWhole) (arg14 : Memref sig .tc .vmem S2x64x1024 .bf16) (harg14 : arg14.IsWhole) (arg15 : Memref sig .tc .vmem S5x512x128 .f32) (harg15 : arg15.IsWhole) (arg16 : Memref sig .tc .vmem S8x64x64 .f32) (harg16 : arg16.IsWhole)

theorem part1_first (i i' : grid0.Coords) (h : firstPt i) (h' : ¬firstPt i') :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do clear arg16; k0_part1 i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold k0_part1
  rw [dif_pos h, dif_neg h']
  rfl

theorem part146_first (i i' : grid0.Coords) (h : firstPt i) (h' : ¬firstPt i') :
    k0_part146 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do clear arg16; k0_part146 i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold k0_part146
  rw [part1_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 i i' h h']
  rfl

theorem body_first (i i' : grid0.Coords) (h : firstPt i) (h' : ¬firstPt i') :
    cc0_mixer_sample (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do clear arg16; cc0_mixer_sample i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_mixer_sample
  rw [part146_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 i i' h h']
  rfl

set_option maxHeartbeats 400000 in
/-- Clearing the table of scores and then running `p`. -/
theorem wp_clear (c : Dev nD) (arg16 : Memref sig .tc .vmem S8x64x64 .f32) (harg16 : arg16.IsWhole)
    (p : Prog (TpuEff nD τ sig (Elt F) Λ₀ .tc) PUnit) (E : Set ℕ) (K : PUnit → sProp 𝕄) :
    iprop((∃ d, owns (c : Thread nD τ) arg16 fullShare d)
      ∗ (owns (c : Thread nD τ) arg16 fullShare zeroTab -∗ wp frame (wpE (defs₀ (F := F)) Variants.none c none) E p K))
    ⊢ wp frame (wpE (defs₀ (F := F)) Variants.none c none) E (do clear arg16; p) K := by
  unfold clear owns
  iintro ⟨⟨%ds5, %f5, -, HS5⟩, Hk⟩
  sl_exec
  iapply Hk
  iexists _
  isplitr
  swap
  · iexact HS5
  ipureintro
  funext y
  refine View.read_writes_apply_of_pieces _ _ zeroTab _ (fun q hq x => ?_) y (View.cover_of_tiledL _ S8x64x64.size (by sl_kernel_rfl) y)
  obtain rfl := List.mem_singleton.mp hq
  rfl

/-- A run of `p` from the cleared table of scores is a run of the clearing followed by `p`, from any table. -/
theorem seq_clear (c : Dev nD) (arg16 : Memref sig .tc .vmem S8x64x64 .f32) (harg16 : arg16.IsWhole)
    (q p : Prog (TpuEff nD τ sig (Elt F) Λ₀ .tc) PUnit) (hq : q = (do clear arg16; p)) (E : Set ℕ) (K : PUnit → sProp 𝕄) {A0 A1 A2 A3 A4 A5 A6 A7 A8 A9 A10 A11 A12 A13 A14 B : sProp 𝕄}
    (h : iprop(A0 ∗ A1 ∗ A2 ∗ A3 ∗ A4 ∗ A5 ∗ A6 ∗ A7 ∗ A8 ∗ A9 ∗ A10 ∗ A11 ∗ A12 ∗ A13 ∗ A14 ∗ owns (c : Thread nD τ) arg16 fullShare zeroTab ∗ (B -∗ K ⟨⟩))
      ⊢ wp frame (wpE (defs₀ (F := F)) Variants.none c none) E p K) :
    iprop(A0 ∗ A1 ∗ A2 ∗ A3 ∗ A4 ∗ A5 ∗ A6 ∗ A7 ∗ A8 ∗ A9 ∗ A10 ∗ A11 ∗ A12 ∗ A13 ∗ A14 ∗ (∃ d, owns (c : Thread nD τ) arg16 fullShare d) ∗ (B -∗ K ⟨⟩))
      ⊢ wp frame (wpE (defs₀ (F := F)) Variants.none c none) E q K := by
  subst hq
  iintro ⟨HA0, HA1, HA2, HA3, HA4, HA5, HA6, HA7, HA8, HA9, HA10, HA11, HA12, HA13, HA14, HS5, Hk⟩
  iapply (wp_clear c arg16 harg16 p E K)
  isplitl [HS5]; · iexact HS5
  iintro HS5
  iapply h
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HA11]; · iexact HA11
  isplitl [HA12]; · iexact HA12
  isplitl [HA13]; · iexact HA13
  isplitl [HA14]; · iexact HA14
  isplitl [HS5]; · iexact HS5
  iexact Hk

set_option maxHeartbeats 1000000 in
/-- The body at the first point: what it writes is what it writes at another point from the cleared table. -/
theorem run_first (c : Dev nD) (i i' : grid0.Coords) (h : firstPt i) (h' : ¬firstPt i')
    (x0 : Vec F S64x5120 .f32) (x1 : Vec F S1x15x8x1024 .f32) (x2 : Vec F S8x8x128x128 .f32) (x3 : Vec F S2x1024 .f32) (x4 : Vec F S4x256x256 .bf16) (x5 : Vec F S1x1024 .f32) (x6 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).1) ∗ (∃ f, arg9.view.loc (c : Thread nD τ) ↦[arg9.view.set]{fullShare} arg9.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.1) ∗ (∃ f, arg10.view.loc (c : Thread nD τ) ↦[arg10.view.set]{fullShare} arg10.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.1) ∗ (∃ d, owns (c : Thread nD τ) arg11 fullShare d) ∗ (∃ f, arg12.view.loc (c : Thread nD τ) ↦[arg12.view.set]{fullShare} arg12.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.1) ∗ (∃ f, arg13.view.loc (c : Thread nD τ) ↦[arg13.view.set]{fullShare} arg13.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.2.1) ∗ (∃ f, arg14.view.loc (c : Thread nD τ) ↦[arg14.view.set]{fullShare} arg14.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.2.2.1) ∗ (∃ f, arg15.view.loc (c : Thread nD τ) ↦[arg15.view.set]{fullShare} arg15.view.writes (Elt F) f (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.2.2.2.1) ∗ (arg16.view.loc (c : Thread nD τ) ↦[arg16.view.set]{fullShare} (run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.2.2.2.2.1)) -∗ K ⟨⟩))
    ⊢ wp frame (wpE (defs₀ (F := F)) Variants.none c none) E (cc0_mixer_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  exact seq_clear c arg16 harg16 _ _ (body_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 i i' h h') E K ((run c i' arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h' x0 x1 x2 x3 x4 x5 x6 zeroTab).2.2.2.2.2.2.2.2 E K)

end

end Cert.KernelIdeal.Mixer

end
-- ==== Proof.Launch.lean ====
/-
  The launch of the sampling mixer: what each grid point leaves in the results' blocks and in the table of scores, the
  run of the whole program, and the frame.
-/
module

public import proofs.«01_k».proof.Proof.Vocab
public import proofs.«01_k».proof.Proof.First
public import Idealize.ShloMosaic.Lib.Claim

@[expose] public section

set_option maxRecDepth 16384

noncomputable section

namespace Cert.KernelIdeal.Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms1 (t : Fin cfg0.N) : Memref sig .tc .vmem S64x5120 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S1x15x8x1024 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S8x8x128x128 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S2x1024 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S4x256x256 .bf16 := win0_4.stage (cfg0.slots t 4)
abbrev hs5 (t : Fin cfg0.N) : (ms5 t).IsWhole := hstage0_4 ((cfg0.slots t 4).cast nbuf0_4)
abbrev ms6 (t : Fin cfg0.N) : Memref sig .tc .vmem S1x1024 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S1x1024 .f32 := win0_6.stage (cfg0.slots t 6)
abbrev hs7 (t : Fin cfg0.N) : (ms7 t).IsWhole := hstage0_6 ((cfg0.slots t 6).cast nbuf0_6)
abbrev ms8 (t : Fin cfg0.N) : Memref sig .tc .vmem S64x2048 .bf16 := win0_7.stage (cfg0.slots t 7)
abbrev hs8 (t : Fin cfg0.N) : (ms8 t).IsWhole := hstage0_7 ((cfg0.slots t 7).cast nbuf0_7)
abbrev ms9 (t : Fin cfg0.N) : Memref sig .tc .vmem S15x8x1024 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S8x8x128x128 .f32 := win0_9.stage (cfg0.slots t 9)
abbrev hs10 (t : Fin cfg0.N) : (ms10 t).IsWhole := hstage0_9 ((cfg0.slots t 9).cast nbuf0_9)
abbrev sM11 : Memref sig .tc .vmem S24x8x1024 .f32 := Memref.whole cc0_scratch0
abbrev sM12 : Memref sig .tc .vmem S3x8x64x128 .f32 := Memref.whole cc0_scratch1
abbrev sM13 : Memref sig .tc .vmem S128x8x128 .f32 := Memref.whole cc0_scratch2
abbrev sM14 : Memref sig .tc .vmem S2x64x1024 .bf16 := Memref.whole cc0_scratch3
abbrev sM15 : Memref sig .tc .vmem S5x512x128 .f32 := Memref.whole cc0_scratch4
abbrev sM16 : Memref sig .tc .vmem S8x64x64 .f32 := Memref.whole cc0_scratch5

theorem PhiA_eq (c : Dev nD) : (Pipeline.ΦA spec0 c : sProp 𝕄)
    = iprop(iprop((∃ d, owns (c : Thread nD τ) sM11 fullShare d) ∗ (∃ d, owns (c : Thread nD τ) sM12 fullShare d) ∗ (∃ d, owns (c : Thread nD τ) sM13 fullShare d) ∗ (∃ d, owns (c : Thread nD τ) sM14 fullShare d) ∗ (∃ d, owns (c : Thread nD τ) sM15 fullShare d) ∗ (∃ d, owns (c : Thread nD τ) sM16 fullShare d)) ∗ (∃ r, prngReg c r)) := by
  unfold Pipeline.ΦA; rw [scopedRest0_eq]; simp only [sM11, sM12, sM13, sM14, sM15, sM16, owns_whole]; try rfl

/-- The table of scores after point `t`, from what it held before. -/
def scAfter (c : Dev nD) (t : Fin cfg0.N) (s : Vec F S8x64x64 .f32) : Vec F S8x64x64 .f32 :=
  sM16.view.read (Elt F) (scW c (ms1 t) (hs1 t) (ms4 t) (hs4 t) sM12 sM13 sM14 sM15 sM16 (Memref.isWhole_whole _) (iblk m c 0 t) (iblk m c 3 t) s 8 le_rfl)

/-- The table of scores the heads of point `n` start from. -/
def scAt (c : Dev nD) : (n : ℕ) → n ≤ cfg0.N → Vec F S8x64x64 .f32
  | 0, _ => zeroTab
  | n + 1, h => scAfter m c ⟨n, h⟩ (scAt c n (Nat.le_of_succ_le h))

/-- The writes of the three results at point `t`. -/
def mixL (c : Dev nD) (t : Fin cfg0.N) (s : Vec F S8x64x64 .f32) : List (View.Piece (Elt F) S64x2048 .bf16) :=
  mixP c (ms1 t) (hs1 t) (ms2 t) (hs2 t) (ms3 t) (hs3 t) (ms4 t) (hs4 t) (ms5 t) (hs5 t) (ms6 t) (hs6 t) (ms7 t) (hs7 t) sM11 sM12 sM13 sM14 sM15 sM16 (Memref.isWhole_whole _) (iblk m c 0 t) (iblk m c 1 t) (iblk m c 2 t) (iblk m c 3 t) (iblk m c 4 t) (iblk m c 5 t) (iblk m c 6 t) s 8 le_rfl
@[inherit_doc mixL] def histL (c : Dev nD) (t : Fin cfg0.N) : List (View.Piece (Elt F) S15x8x1024 .f32) :=
  histP c (ms1 t) (hs1 t) (ms2 t) (hs2 t) sM11 (iblk m c 0 t) (iblk m c 1 t)
@[inherit_doc mixL] def stL (c : Dev nD) (t : Fin cfg0.N) : List (View.Piece (Elt F) S8x8x128x128 .f32) :=
  stP c (ms1 t) (hs1 t) (ms3 t) (hs3 t) (ms4 t) (hs4 t) sM12 sM13 sM15 (iblk m c 0 t) (iblk m c 2 t) (iblk m c 3 t) 8 le_rfl

theorem mix_cover (c : Dev nD) (t : Fin cfg0.N) (s) : ∀ y, ∃ p ∈ mixL m c t s, y ∈ p.1.set :=
  View.cover_of_tiledBy (mixL m c t s) S64x128.size (by sl_kernel_rfl)
theorem hist_cover (c : Dev nD) (t : Fin cfg0.N) : ∀ y, ∃ p ∈ histL m c t, y ∈ p.1.set :=
  View.cover_of_tiledL (histL m c t) S15x8x1024.size (by sl_kernel_rfl)
theorem st_cover (c : Dev nD) (t : Fin cfg0.N) : ∀ y, ∃ p ∈ stL m c t, y ∈ p.1.set :=
  View.cover_of_tiledL (stL m c t) S8x1x128x128.size (by sl_kernel_rfl)

/-- What holds between points: at the start the scratch holds anything, afterwards the table of scores what the points
    before left in it. -/
def Phi (c : Dev nD) : (n : ℕ) → n ≤ cfg0.N → sProp 𝕄
  | 0, _ => Pipeline.ΦA spec0 c
  | n + 1, h => iprop(iprop((∃ d, owns (c : Thread nD τ) sM11 fullShare d) ∗ (∃ d, owns (c : Thread nD τ) sM12 fullShare d) ∗ (∃ d, owns (c : Thread nD τ) sM13 fullShare d) ∗ (∃ d, owns (c : Thread nD τ) sM14 fullShare d) ∗ (∃ d, owns (c : Thread nD τ) sM15 fullShare d) ∗ owns (c : Thread nD τ) sM16 fullShare (scAt m c (n + 1) h)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) : Phi m c n h
    = iprop(iprop((∃ d, owns (c : Thread nD τ) sM11 fullShare d) ∗ (∃ d, owns (c : Thread nD τ) sM12 fullShare d) ∗ (∃ d, owns (c : Thread nD τ) sM13 fullShare d) ∗ (∃ d, owns (c : Thread nD τ) sM14 fullShare d) ∗ (∃ d, owns (c : Thread nD τ) sM15 fullShare d) ∗ owns (c : Thread nD τ) sM16 fullShare (scAt m c n h)) ∗ (∃ r, prngReg c r)) := by
  cases n with
  | zero => exact absurd rfl hz
  | succ n => rfl

/-- What the launch leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (mixL m c t (scAt m c t.val (Nat.le_of_lt t.isLt)))
    | ⟨8, _⟩ => View.canon (histL m c t)
    | ⟨9, _⟩ => View.canon (stL m c t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d

theorem after7 (c : Dev nD) (t : Fin cfg0.N) : (dats m 0 c).after 7 t = View.canon (mixL m c t (scAt m c t.val (Nat.le_of_lt t.isLt))) := by dsimp only [dats]
theorem after8 (c : Dev nD) (t : Fin cfg0.N) : (dats m 0 c).after 8 t = View.canon (histL m c t) := by dsimp only [dats]
theorem after9 (c : Dev nD) (t : Fin cfg0.N) : (dats m 0 c).after 9 t = View.canon (stL m c t) := by dsimp only [dats]

theorem leaves0 (c : Dev nD) (t : Fin cfg0.N) : (dats m 0 c).leavesExact 0 t = owns (c : Thread nD τ) (ms1 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms2 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms3 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms4 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms5 t) fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (ms6 t) fullShare ((dats m 0 c).after 5 t) := by
  unfold Dat.leavesExact; rw [show cfg0.idle 5 (grid0.coords t) = false from rfl]
theorem leaves6 (c : Dev nD) (t : Fin cfg0.N) : (dats m 0 c).leavesExact 6 t = owns (c : Thread nD τ) (ms7 t) fullShare ((dats m 0 c).after 6 t) := by
  unfold Dat.leavesExact; rw [show cfg0.idle 6 (grid0.coords t) = false from rfl]
theorem leaves7 (c : Dev nD) (t : Fin cfg0.N) : (dats m 0 c).leavesExact 7 t = owns (c : Thread nD τ) (ms8 t) fullShare ((dats m 0 c).after 7 t) := by
  unfold Dat.leavesExact; rw [show cfg0.idle 7 (grid0.coords t) = false from rfl]
theorem leaves8 (c : Dev nD) (t : Fin cfg0.N) : (dats m 0 c).leavesExact 8 t = owns (c : Thread nD τ) (ms9 t) fullShare ((dats m 0 c).after 8 t) := by
  unfold Dat.leavesExact; rw [show cfg0.idle 8 (grid0.coords t) = false from rfl]
theorem leaves9 (c : Dev nD) (t : Fin cfg0.N) : (dats m 0 c).leavesExact 9 t = owns (c : Thread nD τ) (ms10 t) fullShare ((dats m 0 c).after 9 t) := by
  unfold Dat.leavesExact; rw [show cfg0.idle 9 (grid0.coords t) = false from rfl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The first point is the one that clears the table. -/
theorem firstPt_iff : ∀ t : Fin cfg0.N, firstPt (grid0.coords t) ↔ t.val = 0 :=
  (by decide +kernel : ∀ t : Fin grid0.N, firstPt (grid0.coords t) ↔ t.val = 0)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Phi m c (t.val + 1) t.isLt from rfl, Phi_pos m c (t.val + 1) _ (Nat.succ_ne_zero _)]
  rw [leaves0 m c t, leaves1 m c t, leaves2 m c t, leaves3 m c t, leaves4 m c t, leaves5 m c t, leaves6 m c t, leaves7 m c t, leaves8 m c t, leaves9 m c t]
  rw [after0 m c t, after1 m c t, after2 m c t, after3 m c t, after4 m c t, after5 m c t, after6 m c t, after7 m c t, after8 m c t, after9 m c t]
  rw [show scAt m c (t.val + 1) t.isLt = scAfter m c t (scAt m c t.val (Nat.le_of_lt t.isLt)) from rfl]
  by_cases hz : t.val = 0
  · rw [Phi_castSucc m c t, Phi_zero m c _ _ hz, PhiA_eq]
    have hs : scAt m c t.val (Nat.le_of_lt t.isLt) = zeroTab := by
      obtain ⟨n, hn⟩ := t; obtain rfl : n = 0 := hz; rfl
    rw [hs]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sM11 (Memref.isWhole_whole _) sM12 (Memref.isWhole_whole _) sM13 (Memref.isWhole_whole _) sM14 (Memref.isWhole_whole _) sM15 (Memref.isWhole_whole _) sM16 (Memref.isWhole_whole _) c (grid0.coords t) (grid0.coords t0_1) ((firstPt_iff t).mpr hz) (fun h => absurd ((firstPt_iff t0_1).mp h) (by decide)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, ⟨%e7, H7⟩, ⟨%e8, H8⟩, ⟨%e9, H9⟩, HS0, ⟨%e12, HS1⟩, ⟨%e13, HS2⟩, ⟨%e14, HS3⟩, ⟨%e15, HS4⟩, HS5⟩
    isplitl [HS0 HS1 HS2 HS3 HS4 HS5 Hg]
    · isplitl [HS0 HS1 HS2 HS3 HS4 HS5]
      · isplitl [HS0]; · iexact HS0
        isplitl [HS1]
        · unfold owns; iexists _, _; isplitr
          swap; · iexact HS1
          ipureintro; rfl
        isplitl [HS2]
        · unfold owns; iexists _, _; isplitr
          swap; · iexact HS2
          ipureintro; rfl
        isplitl [HS3]
        · unfold owns; iexists _, _; isplitr
          swap; · iexact HS3
          ipureintro; rfl
        isplitl [HS4]
        · unfold owns; iexists _, _; isplitr
          swap; · iexact HS4
          ipureintro; rfl
        unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (mix_cover m c t _)
    isplitl [H8]
    · unfold owns; iexists _; isplitr
      swap; · iexact H8
      ipureintro; exact View.read_writes_eq_canon _ _ _ (hist_cover m c t )
    unfold owns; iexists _; isplitr
    swap; · iexact H9
    ipureintro; exact View.read_writes_eq_canon _ _ _ (st_cover m c t)
  · rw [Phi_castSucc m c t, Phi_pos m c _ _ hz]
    generalize scAt m c t.val (Nat.le_of_lt t.isLt) = s
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run c (grid0.coords t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sM11 (Memref.isWhole_whole _) sM12 (Memref.isWhole_whole _) sM13 (Memref.isWhole_whole _) sM14 (Memref.isWhole_whole _) sM15 (Memref.isWhole_whole _) sM16 (Memref.isWhole_whole _) (fun h => hz ((firstPt_iff t).mp h)) (iblk m c 0 t) (iblk m c 1 t) (iblk m c 2 t) (iblk m c 3 t) (iblk m c 4 t) (iblk m c 5 t) (iblk m c 6 t) s).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, ⟨%e7, H7⟩, ⟨%e8, H8⟩, ⟨%e9, H9⟩, HS0, ⟨%e12, HS1⟩, ⟨%e13, HS2⟩, ⟨%e14, HS3⟩, ⟨%e15, HS4⟩, HS5⟩
    isplitl [HS0 HS1 HS2 HS3 HS4 HS5 Hg]
    · isplitl [HS0 HS1 HS2 HS3 HS4 HS5]
      · isplitl [HS0]; · iexact HS0
        isplitl [HS1]
        · unfold owns; iexists _, _; isplitr
          swap; · iexact HS1
          ipureintro; rfl
        isplitl [HS2]
        · unfold owns; iexists _, _; isplitr
          swap; · iexact HS2
          ipureintro; rfl
        isplitl [HS3]
        · unfold owns; iexists _, _; isplitr
          swap; · iexact HS3
          ipureintro; rfl
        isplitl [HS4]
        · unfold owns; iexists _, _; isplitr
          swap; · iexact HS4
          ipureintro; rfl
        unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (mix_cover m c t _)
    isplitl [H8]
    · unfold owns; iexists _; isplitr
      swap; · iexact H8
      ipureintro; exact View.read_writes_eq_canon _ _ _ (hist_cover m c t )
    unfold owns; iexists _; isplitr
    swap; · iexact H9
    ipureintro; exact View.read_writes_eq_canon _ _ _ (st_cover m c t)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl,
    Phi_pos m c _ _ (by have : cfg0.N = 16 := N_0; omega), PhiA_eq]
  iintro ⟨⟨HS0, HS1, HS2, HS3, HS4, HS5⟩, Hg⟩
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexists _; iexact HS5
  iexact Hg

set_option backward.isDefEq.respectTransparency.types false in
/-- Every execution of the program ends with the results' arrays at what the points left and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Mixer

end
-- ==== Proof.Ffn.lean ====
/-
  What the feed-forward call's payloads hold, entry by entry: the normalised rows, and one block of 512 hidden units.
-/
module

public import proofs.«01_k».proof.Proof.Gen.Kernel2Ideal.Value
public import Idealize.ShloMosaic.Lib.Pointwise
public import Idealize.ShloMosaic.Lib.WholeRead

@[expose] public section

set_option maxRecDepth 16384

noncomputable section

namespace Cert.Kernel2Ideal.Ffn

open Idealize.ShloMosaic Idealize.ShloMosaic.TcCoe
open Cert.Kernel2Ideal.Gen

/-- A row divided by its root mean square and scaled by `g`. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The gated unit: `gate · logistic gate · up`. -/
def act (a u : EReal) : EReal := a * Ideal.div 1 (1 + Ideal.exp (0 - a)) * u

/-- One block of `K` hidden units of a row: gate and up projections, the unit, the down projection at column `n`. -/
def blk {K : ℕ} (h : Fin 2048 → EReal) (wg wu : Fin 2048 → Fin K → EReal) (wd : Fin K → EReal) : EReal :=
  ∑ q : Fin K, act (∑ k : Fin 2048, h k * wg k q) (∑ k : Fin 2048, h k * wu k q) * wd q

theorem pay9_apply (X : Vec Ideal S256x2048 .f32) (g : Vec Ideal S1x2048 .f32) (r : Fin 256) (k : Fin 2048) :
    k0_pay9 X g (ix2 r k) = nrm (fun k => X (ix2 r k)) (fun k => g (ix2 0 k)) k := by
  unfold nrm
  pointwise! [k0_pay9]

theorem pay11_apply (a b : Vec Ideal S2048x512 .bf16) (d : Vec Ideal S512x2048 .bf16) (X : Vec Ideal S256x2048 .f32) (g : Vec Ideal S1x2048 .f32) (r : Fin 256) (n : Fin 2048) :
    k0_pay11 a b d X g (ix2 r n) = blk (nrm (fun k => X (ix2 r k)) (fun k => g (ix2 0 k))) (fun k q => a (ix2 k q)) (fun k q => b (ix2 k q)) (fun q => d (ix2 q n)) := by
  unfold blk act nrm
  pointwise! [k0_pay11, k0_pay6, k0_pay7, k0_pay8, k0_pay9]

theorem pay4_apply (Y : Vec Ideal S1024x2048 .f32) (H : Vec Ideal S1024x2048 .bf16) (a b : Vec Ideal S2048x512 .bf16) (d : Vec Ideal S512x2048 .bf16) (r : Fin 1024) (n : Fin 2048) :
    k0_pay4 Y H a b d (ix2 r n) = Y (ix2 r n) + blk (fun k => H (ix2 r k)) (fun k q => a (ix2 k q)) (fun k q => b (ix2 k q)) (fun q => d (ix2 q n)) := by
  unfold blk act
  pointwise! [k0_pay4]

theorem pay5_apply (a b : Vec Ideal S2048x512 .bf16) (d : Vec Ideal S512x2048 .bf16) (X Y : Vec Ideal S256x2048 .f32) (H : Vec Ideal S256x2048 .bf16) (g : Vec Ideal S1x2048 .f32) (r : Fin 256) (n : Fin 2048) :
    k0_pay5 a b d X Y H g (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay5]

theorem pay10_apply (X : Vec Ideal S256x2048 .f32) (g : Vec Ideal S1x2048 .f32) (r : Fin 256) (k : Fin 2048) :
    k0_pay10 X g (ix2 r k) = nrm (fun k => X (ix2 r k)) (fun k => g (ix2 0 k)) k := by
  unfold nrm
  pointwise! [k0_pay10, k0_pay9, k0_pay12, k0_pay15]

theorem pay12_apply (X : Vec Ideal S256x2048 .f32) (g : Vec Ideal S1x2048 .f32) (r : Fin 256) (k : Fin 2048) :
    k0_pay12 X g (ix2 r k) = nrm (fun k => X (ix2 r k)) (fun k => g (ix2 0 k)) k := by
  unfold nrm
  pointwise! [k0_pay12, k0_pay9, k0_pay12, k0_pay15]

theorem pay13_apply (X : Vec Ideal S256x2048 .f32) (g : Vec Ideal S1x2048 .f32) (r : Fin 256) (k : Fin 2048) :
    k0_pay13 X g (ix2 r k) = nrm (fun k => X (ix2 r k)) (fun k => g (ix2 0 k)) k := by
  unfold nrm
  pointwise! [k0_pay13, k0_pay9, k0_pay12, k0_pay15]

theorem pay15_apply (X : Vec Ideal S256x2048 .f32) (g : Vec Ideal S1x2048 .f32) (r : Fin 256) (k : Fin 2048) :
    k0_pay15 X g (ix2 r k) = nrm (fun k => X (ix2 r k)) (fun k => g (ix2 0 k)) k := by
  unfold nrm
  pointwise! [k0_pay15, k0_pay9, k0_pay12, k0_pay15]

theorem pay16_apply (X : Vec Ideal S256x2048 .f32) (g : Vec Ideal S1x2048 .f32) (r : Fin 256) (k : Fin 2048) :
    k0_pay16 X g (ix2 r k) = nrm (fun k => X (ix2 r k)) (fun k => g (ix2 0 k)) k := by
  unfold nrm
  pointwise! [k0_pay16, k0_pay9, k0_pay12, k0_pay15]

theorem pay14_apply (a b : Vec Ideal S2048x512 .bf16) (d : Vec Ideal S512x2048 .bf16) (X : Vec Ideal S256x2048 .f32) (g : Vec Ideal S1x2048 .f32) (r : Fin 256) (n : Fin 2048) :
    k0_pay14 a b d X g (ix2 r n) = blk (nrm (fun k => X (ix2 r k)) (fun k => g (ix2 0 k))) (fun k q => a (ix2 k q)) (fun k q => b (ix2 k q)) (fun q => d (ix2 q n)) := by
  unfold blk act nrm
  pointwise! [k0_pay14, k0_pay12, k0_pay15]

theorem pay17_apply (a b : Vec Ideal S2048x512 .bf16) (d : Vec Ideal S512x2048 .bf16) (X : Vec Ideal S256x2048 .f32) (g : Vec Ideal S1x2048 .f32) (r : Fin 256) (n : Fin 2048) :
    k0_pay17 a b d X g (ix2 r n) = blk (nrm (fun k => X (ix2 r k)) (fun k => g (ix2 0 k))) (fun k q => a (ix2 k q)) (fun k q => b (ix2 k q)) (fun q => d (ix2 q n)) := by
  unfold blk act nrm
  pointwise! [k0_pay17, k0_pay12, k0_pay15]

theorem pay2_apply (X : Vec Ideal S256x2048 .f32) (g : Vec Ideal S1x2048 .f32) (r : Fin 256) (k : Fin 2048) :
    k0_pay2 X (k0_pay18 g) (k0_pay19 X) (FloatOps.ofBits (F := Ideal) .f32 0x45000000#32) (ix2 r k) = nrm (fun k => X (ix2 r k)) (fun k => g (ix2 0 k)) k := by
  unfold nrm
  pointwise! [k0_pay2, k0_pay1, k0_pay18, k0_pay19]

theorem pay3_apply (a b : Vec Ideal S2048x512 .bf16) (d : Vec Ideal S512x2048 .bf16) (X : Vec Ideal S256x2048 .f32) (g : Vec Ideal S1x2048 .f32) (r : Fin 256) (n : Fin 2048) :
    k0_pay3 a b d X (k0_pay18 g) (k0_pay19 X) (FloatOps.ofBits (F := Ideal) .f32 0x45000000#32) (ix2 r n) = blk (nrm (fun k => X (ix2 r k)) (fun k => g (ix2 0 k))) (fun k q => a (ix2 k q)) (fun k q => b (ix2 k q)) (fun q => d (ix2 q n)) := by
  unfold blk act nrm
  pointwise! [k0_pay3, k0_pay1, k0_pay18, k0_pay19]

theorem pay26_apply (a b : Vec Ideal S2048x512 .bf16) (d : Vec Ideal S512x2048 .bf16) (X Y : Vec Ideal S256x2048 .f32) (H : Vec Ideal S256x2048 .bf16) (g : Vec Ideal S1x2048 .f32) (r : Fin 256) (n : Fin 2048) :
    k0_pay26 a b d X Y H g (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay26]

theorem pay27_apply (a b : Vec Ideal S2048x512 .bf16) (d : Vec Ideal S512x2048 .bf16) (X Y : Vec Ideal S256x2048 .f32) (H : Vec Ideal S256x2048 .bf16) (g : Vec Ideal S1x2048 .f32) (r : Fin 256) (n : Fin 2048) :
    k0_pay27 a b d X Y H g (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay27]

theorem pay25_apply (a b : Vec Ideal S2048x512 .bf16) (d : Vec Ideal S512x2048 .bf16) (X Y : Vec Ideal S256x2048 .f32) (H : Vec Ideal S256x2048 .bf16) (g : Vec Ideal S1x2048 .f32) (r : Fin 256) (n : Fin 2048) :
    k0_pay25 (k0_pay23 g) (k0_pay24 a b d X Y H) (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay25, k0_pay23, k0_pay24, k0_pay20, k0_pay21, k0_pay22]

theorem pay6_eq (a : Vec Ideal S2048x512 .bf16) : k0_pay6 a = a := by funext j; idx_vars j; pointwise! [k0_pay6]
theorem pay7_eq (a : Vec Ideal S2048x512 .bf16) : k0_pay7 a = a := by funext j; idx_vars j; pointwise! [k0_pay7]
theorem pay8_eq (a : Vec Ideal S512x2048 .bf16) : k0_pay8 a = a := by funext j; idx_vars j; pointwise! [k0_pay8]
theorem pay20_eq (a : Vec Ideal S2048x512 .bf16) : k0_pay20 a = a := by funext j; idx_vars j; pointwise! [k0_pay20]
theorem pay21_eq (a : Vec Ideal S2048x512 .bf16) : k0_pay21 a = a := by funext j; idx_vars j; pointwise! [k0_pay21]
theorem pay22_eq (a : Vec Ideal S512x2048 .bf16) : k0_pay22 a = a := by funext j; idx_vars j; pointwise! [k0_pay22]

end Cert.Kernel2Ideal.Ffn

end
-- ==== Proof.FfnPoint.lean ====
/-
  What a grid point of the feed-forward call leaves in its output block and in its scratch, entry by entry.
-/
module

public import proofs.«01_k».proof.Proof.Ffn

@[expose] public section

set_option maxRecDepth 16384

noncomputable section

namespace Cert.Kernel2Ideal.Ffn

open Idealize.ShloMosaic Idealize.ShloMosaic.TcCoe
open Cert.Kernel2Ideal.Gen

/-- A function of row and column as a function of the block's index. -/
def ofRC (f : Fin 1024 → Fin 2048 → EReal) (y : S1024x2048.Idx) : EReal := f (y 0) (y 1)

theorem row_lt {o : ℕ} (ho : ∀ a : Fin 2, (![o, 0] : Fin 2 → ℕ) a + (![256, 2048] : Fin 2 → ℕ) a ≤ S1024x2048.size a) (r : Fin 256) :
    o + r.val < 1024 :=
  lt_of_lt_of_le (Nat.add_lt_add_left r.isLt o) (ho 0)

theorem ofRC_row (f : Fin 1024 → Fin 2048 → EReal) {o : ℕ} (ho : ∀ a : Fin 2, (![o, 0] : Fin 2 → ℕ) a + (![256, 2048] : Fin 2 → ℕ) a ≤ S1024x2048.size a)
    (r : Fin 256) (k : Fin 2048) :
    ofRC f ((Rect.unit (s := S1024x2048) ![o, 0] ![256, 2048] ho).emb (ix2 r k)) = f ⟨o + r.val, row_lt ho r⟩ k := by
  refine congrArg₂ f (Fin.ext ?_) (Fin.ext ?_)
  · exact (show o + 1 * r.val = o + r.val by omega)
  · exact (show 0 + 1 * k.val = k.val by omega)

theorem ofRC_whole (f : Fin 1024 → Fin 2048 → EReal) (ho : ∀ a : Fin 2, (![0, 0] : Fin 2 → ℕ) a + (![1024, 2048] : Fin 2 → ℕ) a ≤ S1024x2048.size a)
    (r : Fin 1024) (k : Fin 2048) :
    ofRC f ((Rect.unit (s := S1024x2048) ![0, 0] ![1024, 2048] ho).emb (ix2 r k)) = f r k := by
  refine congrArg₂ f (Fin.ext ?_) (Fin.ext ?_)
  · exact (show 0 + 1 * r.val = r.val by omega)
  · exact (show 0 + 1 * k.val = k.val by omega)

/-- A load of 256 rows of a 1024-row block reads the block's rows. -/
theorem readAt_row {e : EltTy} {m : Memref sig .tc .vmem S1024x2048 e} (h : m.IsWhole) (X : Vec Ideal S1024x2048 e) {o : ℕ}
    (ho : ∀ a : Fin 2, (![o, 0] : Fin 2 → ℕ) a + (![256, 2048] : Fin 2 → ℕ) a ≤ S1024x2048.size a) (r : Fin 256) (k : Fin 2048) :
    View.readAt (Elt Ideal) m.view (Rect.unit (s := S1024x2048) ![o, 0] ![256, 2048] ho).toLoadRect (h.unread X) (ix2 r k)
      = X (ix2 ⟨o + r.val, row_lt ho r⟩ k) := by
  rw [h.readAt_unread]
  congr 1
  funext a
  apply Fin.ext
  match a with
  | 0 => exact (show o + 1 * r.val = o + r.val by omega)
  | 1 => exact (show 0 + 1 * k.val = k.val by omega)

/-- A load of a whole matrix reads it. -/
theorem readAt_full {e : EltTy} {a b : ℕ} {m : Memref sig .tc .vmem (⟨2, ![a, b]⟩ : Shape) e} (h : m.IsWhole) (X : Vec Ideal (⟨2, ![a, b]⟩ : Shape) e)
    (ho : ∀ i : Fin 2, (![0, 0] : Fin 2 → ℕ) i + (![a, b] : Fin 2 → ℕ) i ≤ (![a, b] : Fin 2 → ℕ) i) (r : Fin a) (k : Fin b) :
    View.readAt (Elt Ideal) m.view (Rect.unit (s := (⟨2, ![a, b]⟩ : Shape)) ![0, 0] ![a, b] ho).toLoadRect (h.unread X) (ix2 r k) = X (ix2 r k) := by
  rw [h.readAt_unread]
  congr 1
  funext i
  apply Fin.ext
  match i with
  | 0 => exact (show 0 + 1 * r.val = r.val by omega)
  | 1 => exact (show 0 + 1 * k.val = k.val by omega)

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16)

/-- A point that opens a row block leaves the products of the normalised rows with its weight block. -/
theorem outA_apply (hc0 : cond0_0 i) (hc1 : ¬cond0_1 i) (hc2 : ¬cond0_2 i) (r : Fin 1024) (n : Fin 2048) :
    out0_A_6 c i arg2 harg2 arg3 harg3 arg4 harg4 arg5 harg5 arg6 harg6 arg7 harg7 arg8 harg8 arg9 harg9 hc0 hc1 hc2 x0 x1 x2 x3 x4 x5 (ix2 r n) = blk (nrm (fun k => x0 (ix2 r k)) (fun k => x1 (ix2 0 k))) (fun k q => x2 (ix2 k q)) (fun k q => x3 (ix2 k q)) (fun q => x4 (ix2 q n)) := by
  unfold out0_A_6
  refine View.read_writes_apply_of_pieces (Val := Elt Ideal) VO0_6 _ (ofRC fun r n => blk (nrm (fun k => x0 (ix2 r k)) (fun k => x1 (ix2 0 k))) (fun k q => x2 (ix2 k q)) (fun k q => x3 (ix2 k q)) (fun q => x4 (ix2 q n))) _ ?_ (ix2 r n) (cover0_A_6 (c := c) (harg2 := harg2) (harg3 := harg3) (harg4 := harg4) (harg5 := harg5) (harg6 := harg6) (harg7 := harg7) (harg8 := harg8) (harg9 := harg9) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [ofRC_row]
    try simp only [kernelRun0_A.sl.cst_62, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7]
    first | rw [pay3_apply] | rw [pay17_apply] | rw [pay14_apply] | rw [pay11_apply]
    simp only [pay6_eq, pay7_eq, pay8_eq, pay20_eq, pay21_eq, pay22_eq, readAt_row, readAt_full]

/-- It leaves the normalised rows in the scratch. -/
theorem soutA_apply (hc0 : cond0_0 i) (hc1 : ¬cond0_1 i) (hc2 : ¬cond0_2 i) (r : Fin 1024) (n : Fin 2048) :
    sout0_A_0 c i arg2 harg2 arg3 harg3 arg4 harg4 arg5 harg5 arg6 harg6 arg7 harg7 arg8 harg8 arg9 harg9 hc0 hc1 hc2 x0 x1 x2 x3 x4 x5 (ix2 r n) = nrm (fun k => x0 (ix2 r k)) (fun k => x1 (ix2 0 k)) n := by
  unfold sout0_A_0
  refine View.read_writes_apply_of_pieces (Val := Elt Ideal) VS0_0 _ (ofRC fun r n => nrm (fun k => x0 (ix2 r k)) (fun k => x1 (ix2 0 k)) n) _ ?_ (ix2 r n) (scover0_A_0 (c := c) (harg2 := harg2) (harg3 := harg3) (harg4 := harg4) (harg5 := harg5) (harg6 := harg6) (harg7 := harg7) (harg8 := harg8) (harg9 := harg9) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [ofRC_row]
    try simp only [kernelRun0_A.sl.cst_62, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7]
    first | rw [pay2_apply] | rw [pay16_apply] | rw [pay13_apply] | rw [pay10_apply]
    simp only [pay6_eq, pay7_eq, pay8_eq, pay20_eq, pay21_eq, pay22_eq, readAt_row, readAt_full]

/-- A point inside adds the products of the scratch rows with its weight block. -/
theorem outB_apply (hc0 : ¬cond0_0 i) (hc1 : cond0_1 i) (hc2 : ¬cond0_2 i) (r : Fin 1024) (n : Fin 2048) :
    out0_B_6 c i arg2 harg2 arg3 harg3 arg4 harg4 arg5 harg5 arg6 harg6 arg7 harg7 arg8 harg8 arg9 harg9 hc0 hc1 hc2 x0 x1 x2 x3 x4 x5 xo6 xs0 (ix2 r n) = xo6 (ix2 r n) + blk (fun k => xs0 (ix2 r k)) (fun k q => x2 (ix2 k q)) (fun k q => x3 (ix2 k q)) (fun q => x4 (ix2 q n)) := by
  unfold out0_B_6
  refine View.read_writes_apply_of_pieces (Val := Elt Ideal) VO0_6 _ (ofRC fun r n => xo6 (ix2 r n) + blk (fun k => xs0 (ix2 r k)) (fun k q => x2 (ix2 k q)) (fun k q => x3 (ix2 k q)) (fun q => x4 (ix2 q n))) _ ?_ (ix2 r n) (cover0_B_6 (c := c) (harg2 := harg2) (harg3 := harg3) (harg4 := harg4) (harg5 := harg5) (harg6 := harg6) (harg7 := harg7) (harg8 := harg8) (harg9 := harg9) (y := _) ..)
  unfold kernelRun0_B
  dsimp only
  simp only [List.forall_mem_cons]
  refine ⟨?_, by simp⟩
  all_goals
    intro x
    obtain ⟨r, n, rfl⟩ : ∃ (r : Fin 1024) (n : Fin 2048), x = ix2 r n := ⟨_, _, eq_ix2 x⟩
    rw [ofRC_whole]
    first | rw [pay4_apply]
    simp only [pay6_eq, pay7_eq, pay8_eq, pay20_eq, pay21_eq, pay22_eq, readAt_row, readAt_full]

/-- The last point adds its own products and the residual, and normalises. -/
theorem outC_apply (hc0 : ¬cond0_0 i) (hc1 : ¬cond0_1 i) (hc2 : cond0_2 i) (r : Fin 1024) (n : Fin 2048) :
    out0_C_6 c i arg2 harg2 arg3 harg3 arg4 harg4 arg5 harg5 arg6 harg6 arg7 harg7 arg8 harg8 arg9 harg9 hc0 hc1 hc2 x0 x1 x2 x3 x4 x5 xo6 xs0 (ix2 r n) = nrm (fun n => x0 (ix2 r n) + xo6 (ix2 r n) + blk (fun k => xs0 (ix2 r k)) (fun k q => x2 (ix2 k q)) (fun k q => x3 (ix2 k q)) (fun q => x4 (ix2 q n))) (fun n => x5 (ix2 0 n)) n := by
  unfold out0_C_6
  refine View.read_writes_apply_of_pieces (Val := Elt Ideal) VO0_6 _ (ofRC fun r n => nrm (fun n => x0 (ix2 r n) + xo6 (ix2 r n) + blk (fun k => xs0 (ix2 r k)) (fun k q => x2 (ix2 k q)) (fun k q => x3 (ix2 k q)) (fun q => x4 (ix2 q n))) (fun n => x5 (ix2 0 n)) n) _ ?_ (ix2 r n) (cover0_C_6 (c := c) (harg2 := harg2) (harg3 := harg3) (harg4 := harg4) (harg5 := harg5) (harg6 := harg6) (harg7 := harg7) (harg8 := harg8) (harg9 := harg9) (y := _) ..)
  unfold kernelRun0_C
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [ofRC_row]
    try simp only [kernelRun0_C.sl.r, kernelRun0_C.sl.r_1, kernelRun0_C.sl.r_2, kernelRun0_C.sl.r_3, kernelRun0_C.sl.r_4, kernelRun0_C.sl.r_5, kernelRun0_C.sl.v120, kernelRun0_C.sl.v52, kernelRun0_C.sl.v86]
    first | rw [pay5_apply] | rw [pay27_apply] | rw [pay26_apply] | rw [pay25_apply]
    simp only [pay6_eq, pay7_eq, pay8_eq, pay20_eq, pay21_eq, pay22_eq, readAt_row, readAt_full]

end

end Cert.Kernel2Ideal.Ffn

end
-- ==== Proof.FfnValue.lean ====
/-
  The feed-forward call's result, entry by entry: the eleven points of a row block add up the hidden units' products, and
  the last one normalises.
-/
module

public import proofs.«01_k».proof.Proof.FfnPoint

@[expose] public section

set_option maxRecDepth 16384

noncomputable section

namespace Cert.Kernel2Ideal.Ffn

open Idealize.ShloMosaic Idealize.ShloMosaic.TcCoe
open Cert.Kernel2Ideal.Gen

variable (m : (ℓ : Loc nD τ sig) → Buf (Elt Ideal) ℓ)

/-! ## The arrays the call finds -/

theorem V_v1 (c : Dev nD) (k : Fin 2048) : V m c main_v1 (ix2 0 k) = m ((c : Thread nD τ).loc main_arg1) (ix2 0 k) := by
  unfold_abbrev_sides
  after_results
  pointwise!

theorem V_v2 (c : Dev nD) (k : Fin 2048) : V m c main_v2 (ix2 0 k) = m ((c : Thread nD τ).loc main_arg5) (ix1 k) := by
  unfold_abbrev_sides
  after_results
  pointwise!

theorem V_v4 (c : Dev nD) (k : Fin 2048) (q : Fin 5632) : V m c main_v4 (ix2 k q) = m ((c : Thread nD τ).loc main_arg2) (ix3 0 k q) := by
  unfold_abbrev_sides
  after_results
  pointwise!

theorem V_v6 (c : Dev nD) (k : Fin 2048) (q : Fin 5632) : V m c main_v6 (ix2 k q) = m ((c : Thread nD τ).loc main_arg3) (ix3 0 k q) := by
  unfold_abbrev_sides
  after_results
  pointwise!

theorem V_v8 (c : Dev nD) (q : Fin 5632) (k : Fin 2048) : V m c main_v8 (ix2 q k) = m ((c : Thread nD τ).loc main_arg4) (ix3 0 q k) := by
  unfold_abbrev_sides
  after_results
  pointwise!

/-! ## The windows' blocks -/

theorem idx_in : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] :=
  (by decide +kernel : ∀ t : Fin grid0.N, _)

theorem iblk0 (c : Dev nD) (t : Fin cfg0.N) (r : Fin 1024) (k : Fin 2048) (R : Fin 8192) (hR : R.val = 1024 * (t.val / 11) + r.val) :
    iblk m c 0 t (ix2 r k) = m ((c : Thread nD τ).loc main_arg0) (ix2 R k) := by
  obtain ⟨e0, e1, e2, e3, e4, e5⟩ := idx_in t
  have : ((cfg0.win 0).blk t).view.emb (ix2 r k) = ix2 R k := by
    funext a; apply Fin.ext
    match a with
    | ⟨0, _⟩ => show win0_0.index t (0 : Fin 2) * 1024 + 1 * r.val = R.val; rw [e0, hR]; show t.val / 11 * 1024 + _ = _; omega
    | ⟨1, _⟩ => show win0_0.index t (1 : Fin 2) * 2048 + 1 * k.val = k.val; rw [e0]; show 0 * 2048 + _ = _; omega
  exact (congrArg (V m c main_arg0) this).trans (congrFun (V_main_arg0 m c) _)

theorem iblk1 (c : Dev nD) (t : Fin cfg0.N) (k : Fin 2048) :
    iblk m c 1 t (ix2 0 k) = m ((c : Thread nD τ).loc main_arg1) (ix2 0 k) := by
  obtain ⟨e0, e1, e2, e3, e4, e5⟩ := idx_in t
  have : ((cfg0.win 1).blk t).view.emb (ix2 0 k) = ix2 0 k := by
    funext a; apply Fin.ext
    match a with
    | ⟨0, _⟩ => show win0_1.index t (0 : Fin 2) * 1 + 1 * 0 = 0; rw [e1]; rfl
    | ⟨1, _⟩ => show win0_1.index t (1 : Fin 2) * 2048 + 1 * k.val = k.val; rw [e1]; show 0 * 2048 + _ = _; omega
  exact (congrArg (V m c main_v1) this).trans (V_v1 m c k)

theorem iblk5 (c : Dev nD) (t : Fin cfg0.N) (k : Fin 2048) :
    iblk m c 5 t (ix2 0 k) = m ((c : Thread nD τ).loc main_arg5) (ix1 k) := by
  obtain ⟨e0, e1, e2, e3, e4, e5⟩ := idx_in t
  have : ((cfg0.win 5).blk t).view.emb (ix2 0 k) = ix2 0 k := by
    funext a; apply Fin.ext
    match a with
    | ⟨0, _⟩ => show win0_5.index t (0 : Fin 2) * 1 + 1 * 0 = 0; rw [e5]; rfl
    | ⟨1, _⟩ => show win0_5.index t (1 : Fin 2) * 2048 + 1 * k.val = k.val; rw [e5]; show 0 * 2048 + _ = _; omega
  exact (congrArg (V m c main_v2) this).trans (V_v2 m c k)

theorem iblk2 (c : Dev nD) (t : Fin cfg0.N) (k : Fin 2048) (q : Fin 512) (Q : Fin 5632) (hQ : Q.val = 512 * (t.val % 11) + q.val) :
    iblk m c 2 t (ix2 k q) = m ((c : Thread nD τ).loc main_arg2) (ix3 0 k Q) := by
  obtain ⟨e0, e1, e2, e3, e4, e5⟩ := idx_in t
  have : ((cfg0.win 2).blk t).view.emb (ix2 k q) = ix2 k Q := by
    funext a; apply Fin.ext
    match a with
    | ⟨0, _⟩ => show win0_2.index t (0 : Fin 2) * 2048 + 1 * k.val = k.val; rw [e2]; show 0 * 2048 + _ = _; omega
    | ⟨1, _⟩ => show win0_2.index t (1 : Fin 2) * 512 + 1 * q.val = Q.val; rw [e2, hQ]; show t.val % 11 * 512 + _ = _; omega
  exact (congrArg (V m c main_v4) this).trans (V_v4 m c k Q)

theorem iblk3 (c : Dev nD) (t : Fin cfg0.N) (k : Fin 2048) (q : Fin 512) (Q : Fin 5632) (hQ : Q.val = 512 * (t.val % 11) + q.val) :
    iblk m c 3 t (ix2 k q) = m ((c : Thread nD τ).loc main_arg3) (ix3 0 k Q) := by
  obtain ⟨e0, e1, e2, e3, e4, e5⟩ := idx_in t
  have : ((cfg0.win 3).blk t).view.emb (ix2 k q) = ix2 k Q := by
    funext a; apply Fin.ext
    match a with
    | ⟨0, _⟩ => show win0_3.index t (0 : Fin 2) * 2048 + 1 * k.val = k.val; rw [e3]; show 0 * 2048 + _ = _; omega
    | ⟨1, _⟩ => show win0_3.index t (1 : Fin 2) * 512 + 1 * q.val = Q.val; rw [e3, hQ]; show t.val % 11 * 512 + _ = _; omega
  exact (congrArg (V m c main_v6) this).trans (V_v6 m c k Q)

theorem iblk4 (c : Dev nD) (t : Fin cfg0.N) (q : Fin 512) (k : Fin 2048) (Q : Fin 5632) (hQ : Q.val = 512 * (t.val % 11) + q.val) :
    iblk m c 4 t (ix2 q k) = m ((c : Thread nD τ).loc main_arg4) (ix3 0 Q k) := by
  obtain ⟨e0, e1, e2, e3, e4, e5⟩ := idx_in t
  have : ((cfg0.win 4).blk t).view.emb (ix2 q k) = ix2 Q k := by
    funext a; apply Fin.ext
    match a with
    | ⟨0, _⟩ => show win0_4.index t (0 : Fin 2) * 512 + 1 * q.val = Q.val; rw [e4, hQ]; show t.val % 11 * 512 + _ = _; omega
    | ⟨1, _⟩ => show win0_4.index t (1 : Fin 2) * 2048 + 1 * k.val = k.val; rw [e4]; show 0 * 2048 + _ = _; omega
  exact (congrArg (V m c main_v8) this).trans (V_v8 m c Q k)

/-! ## The sum over the hidden units -/

/-- A row of the normalised input. -/
def hrow (c : Dev nD) (R : Fin 8192) : Fin 2048 → EReal :=
  nrm (fun k => m ((c : Thread nD τ).loc main_arg0) (ix2 R k)) (fun k => m ((c : Thread nD τ).loc main_arg1) (ix2 0 k))

/-- Hidden unit `p`'s product at row `R` and column `n`. -/
def unitAt (c : Dev nD) (R : Fin 8192) (n : Fin 2048) (p : Fin 5632) : EReal :=
  act (∑ k : Fin 2048, hrow m c R k * m ((c : Thread nD τ).loc main_arg2) (ix3 0 k p))
    (∑ k : Fin 2048, hrow m c R k * m ((c : Thread nD τ).loc main_arg3) (ix3 0 k p)) * m ((c : Thread nD τ).loc main_arg4) (ix3 0 p n)

/-- The same at any number, zero past the last unit. -/
def unitN (c : Dev nD) (R : Fin 8192) (n : Fin 2048) (p : ℕ) : EReal := if h : p < 5632 then unitAt m c R n ⟨p, h⟩ else 0

theorem blk_eq (c : Dev nD) (t : Fin cfg0.N) (R : Fin 8192) (n : Fin 2048) (h : Fin 2048 → EReal) (hh : h = hrow m c R) :
    blk h (fun k q => iblk m c 2 t (ix2 k q)) (fun k q => iblk m c 3 t (ix2 k q)) (fun q => iblk m c 4 t (ix2 q n))
      = ∑ q ∈ Finset.range 512, unitN m c R n (512 * (t.val % 11) + q) := by
  have hN := t.isLt
  rw [Finset.sum_range]
  unfold blk
  refine Finset.sum_congr rfl fun q _ => ?_
  have hQ : 512 * (t.val % 11) + q.val < 5632 := by have := q.isLt; have := Nat.mod_lt t.val (show 11 > 0 by omega); omega
  unfold unitN
  rw [dif_pos hQ]
  unfold unitAt
  simp only [hh, iblk2 m c t _ q ⟨_, hQ⟩ rfl, iblk3 m c t _ q ⟨_, hQ⟩ rfl, iblk4 m c t q _ ⟨_, hQ⟩ rfl]

/-- What the output block and the scratch hold after the first ten points of a row block. -/
theorem outs_run (c : Dev nD) (i : ℕ) (r : Fin 1024) (R : Fin 8192) (hR : R.val = 1024 * i + r.val) :
    ∀ (j : ℕ) (hn : 11 * i + j < cfg0.N), j ≤ 9 →
      (∀ n : Fin 2048, (outsAt0 m c (11 * i + j) hn).1 (ix2 r n) = ∑ p ∈ Finset.range (512 * (j + 1)), unitN m c R n p)
      ∧ (∀ k : Fin 2048, (outsAt0 m c (11 * i + j) hn).2 (ix2 r k) = hrow m c R k)
  | 0, hn, _ => by
    have hR' : R.val = 1024 * ((⟨11 * i + 0, hn⟩ : Fin cfg0.N).val / 11) + r.val := by rw [hR]; dsimp only; omega
    have hh : nrm (fun k => iblk m c 0 ⟨11 * i + 0, hn⟩ (ix2 r k)) (fun k => iblk m c 1 ⟨11 * i + 0, hn⟩ (ix2 0 k)) = hrow m c R := by
      unfold hrow
      congr 1
      · funext k; exact iblk0 m c _ r k R hR'
      · funext k; exact iblk1 m c _ k
    have e := outsAt0_A m c ⟨11 * i + 0, hn⟩ (by dsimp only; omega) (by dsimp only; omega) (by dsimp only; omega)
    dsimp only at e
    rw [e]
    refine ⟨fun n => ?_, fun k => ?_⟩
    · dsimp only
      rw [outA_apply, blk_eq m c _ R n _ hh]
      refine Finset.sum_congr rfl fun q _ => congrArg _ ?_
      dsimp only
      omega
    · dsimp only
      rw [soutA_apply]
      exact congrFun hh k
  | j + 1, hn, hj => by
    obtain ⟨ih1, ih2⟩ := outs_run c i r R hR j (by omega) (by omega)
    have e := outsAt0_B m c ⟨11 * i + j + 1, hn⟩ (by dsimp only; omega) (by dsimp only; omega) (by dsimp only; omega)
    dsimp only at e
    show (∀ n : Fin 2048, (outsAt0 m c (11 * i + j + 1) hn).1 (ix2 r n) = _) ∧ (∀ k : Fin 2048, (outsAt0 m c (11 * i + j + 1) hn).2 (ix2 r k) = _)
    rw [e]
    refine ⟨fun n => ?_, fun k => ih2 k⟩
    dsimp only
    rw [outB_apply, show 512 * (j + 1 + 1) = 512 * (j + 1) + 512 by omega, Finset.sum_range_add]
    refine congrArg₂ _ (ih1 n) ((blk_eq m c _ R n _ (funext ih2)).trans (Finset.sum_congr rfl fun q _ => congrArg _ ?_))
    dsimp only
    omega

/-- The row before the last normalisation. -/
def yrow (c : Dev nD) (R : Fin 8192) (n : Fin 2048) : EReal :=
  HAdd.hAdd (α := EReal) (β := EReal) (γ := EReal) (m ((c : Thread nD τ).loc main_arg0) (ix2 R n)) (∑ p : Fin 5632, unitAt m c R n p)

theorem outs_last (c : Dev nD) (i : ℕ) (hn : 11 * i + 10 < cfg0.N) (r : Fin 1024) (R : Fin 8192) (hR : R.val = 1024 * i + r.val) (n : Fin 2048) :
    (outsAt0 m c (11 * i + 10) hn).1 (ix2 r n) = nrm (yrow m c R) (fun k => m ((c : Thread nD τ).loc main_arg5) (ix1 k)) n := by
  obtain ⟨ih1, ih2⟩ := outs_run m c i r R hR 9 (by omega) (by omega)
  have hR' : R.val = 1024 * ((⟨11 * i + 9 + 1, hn⟩ : Fin cfg0.N).val / 11) + r.val := by rw [hR]; dsimp only; omega
  have e := outsAt0_C m c ⟨11 * i + 9 + 1, hn⟩ (by dsimp only; omega) (by dsimp only; omega) (by dsimp only; omega)
  dsimp only at e
  show (outsAt0 m c (11 * i + 9 + 1) hn).1 (ix2 r n) = _
  rw [e]
  dsimp only
  rw [outC_apply]
  congr 1
  · funext n
    rw [iblk0 m c _ r n R hR', add_assoc]
    unfold yrow
    congr 1
    have : ∑ p : Fin 5632, unitAt m c R n p = ∑ p ∈ Finset.range (512 * (9 + 1) + 512), unitN m c R n p := by
      rw [Finset.sum_range]
      refine Finset.sum_congr rfl fun p _ => ?_
      unfold unitN
      rw [dif_pos p.isLt]
    rw [this, Finset.sum_range_add]
    refine congrArg₂ _ (ih1 n) ((blk_eq m c _ R n _ (funext ih2)).trans (Finset.sum_congr rfl fun q _ => congrArg _ ?_))
    dsimp only
    omega
  · funext k; exact iblk5 m c _ k

open Cert.Kernel2Ideal.Value in
/-- The call's result at row `R` and column `n`. -/
theorem result_apply (c : Dev nD) (R : Fin 8192) (n : Fin 2048) :
    G6 m c (ix2 R n) = nrm (yrow m c R) (fun k => m ((c : Thread nD τ).loc main_arg5) (ix1 k)) n := by
  have hR := R.isLt
  have hn := n.isLt
  have hp : pt6Of (ix2 R n) = 11 * (R.val / 1024) + 10 := by
    show 11 * (1 * (R.val / 1024 - 0) + 1 * (n.val / 2048 - 0)) + 10 = _
    rw [Nat.div_eq_of_lt hn]; omega
  have hlt : 11 * (R.val / 1024) + 10 < cfg0.N := lt_of_lt_of_eq (by omega) N_0.symm
  have hl : loc6Of (ix2 R n) = ix2 (⟨R.val % 1024, Nat.mod_lt _ (by omega)⟩ : Fin 1024) n := by
    funext a; apply Fin.ext
    match a with
    | ⟨0, _⟩ => rfl
    | ⟨1, _⟩ => exact Nat.mod_eq_of_lt hn
  unfold G6
  rw [dif_pos (by rw [hp]; exact hlt), hl, fold0_congr m c _ _ (11 * (R.val / 1024) + 10) (by omega) hp, ← outsAt0_sweep m c _ hlt]
  exact outs_last m c (R.val / 1024) hlt _ R (by dsimp only; omega) n

end Cert.Kernel2Ideal.Ffn

end
-- ==== Proof.FfnAlg.lean ====
/-
  The feed-forward reference at an entry, and the two programs' results equal.
-/
module

public import proofs.«01_k».proof.Defs
public import proofs.«01_k».proof.Proof.FfnValue
public import proofs.«01_k».proof.Proof.Gen.Reference2Ideal.Read

@[expose] public section

set_option maxRecDepth 16384

noncomputable section

namespace Cert.Kernel2Ideal.Ffn

open Idealize.ShloMosaic Idealize.ShloMosaic.TcCoe
open Cert.Reference2Ideal Cert.Reference2Ideal.Read

section
variable (x0 : (⟨S8192x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

theorem ref_norm (R : Fin 8192) (k : Fin 2048) :
    val_main_v13 x0 x1 (ix2 R k) = nrm (fun k => x0 (ix2 R k)) (fun k => x1 (ix2 0 k)) k := by
  unfold nrm
  pointwise! [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

theorem ref_unit (R : Fin 8192) (p : Fin 5632) :
    val_main_v19 x0 x1 x2 x3 (ix2 R p) = act (∑ k : Fin 2048, nrm (fun k => x0 (ix2 R k)) (fun k => x1 (ix2 0 k)) k * x2 (ix3 0 k p))
      (∑ k : Fin 2048, nrm (fun k => x0 (ix2 R k)) (fun k => x1 (ix2 0 k)) k * x3 (ix3 0 k p)) := by
  simp only [← ref_norm]
  unfold act
  pointwise! [val_main_v19, val_main_v18, val_main_v17, val_main_v16, val_main_call0_v5, val_main_call0_v4, val_main_call0_v3, val_main_call0_v2, val_main_call0_v1, val_main_call0_v0,
    val_main_call0_cst, val_main_call0_cst_0, val_main_v15, val_main_v14, zero_sub]

theorem ref_row (R : Fin 8192) (n : Fin 2048) :
    val_main_v22 x0 x1 x2 x3 x4 (ix2 R n) = HAdd.hAdd (α := EReal) (β := EReal) (γ := EReal) (x0 (ix2 R n)) (∑ p : Fin 5632, val_main_v19 x0 x1 x2 x3 (ix2 R p) * x4 (ix3 0 p n)) := by
  pointwise! [val_main_v22, val_main_v21, val_main_v20]

theorem ref_result (R : Fin 8192) (n : Fin 2048) :
    val_main_v35 x0 x1 x2 x3 x4 x5 (ix2 R n) = nrm (fun n => val_main_v22 x0 x1 x2 x3 x4 (ix2 R n)) (fun k => x5 (ix1 k)) n := by
  unfold nrm
  pointwise! [val_main_v35, val_main_v34, val_main_v33, val_main_v32, val_main_v31, val_main_v30, val_main_v29, val_main_v28, val_main_v27, val_main_v26,
    val_main_v25, val_main_v24, val_main_v23, val_main_cst_2, val_main_cst_3, val_main_cst_4]
end

/-- The reference's result at row `R` and column `n`, in the kernel's words. -/
theorem ref_eq (m : (ℓ : Loc Cert.Kernel2Ideal.nD Cert.Kernel2Ideal.τ Cert.Kernel2Ideal.sig) → Buf (Elt Ideal) ℓ) (c : Dev Cert.Kernel2Ideal.nD) (R : Fin 8192) (n : Fin 2048) :
    val_main_v35 (m (c.tc.loc Cert.Kernel2Ideal.main_arg0)) (m (c.tc.loc Cert.Kernel2Ideal.main_arg1)) (m (c.tc.loc Cert.Kernel2Ideal.main_arg2))
      (m (c.tc.loc Cert.Kernel2Ideal.main_arg3)) (m (c.tc.loc Cert.Kernel2Ideal.main_arg4)) (m (c.tc.loc Cert.Kernel2Ideal.main_arg5)) (ix2 R n)
      = nrm (yrow m c R) (fun k => m (c.tc.loc Cert.Kernel2Ideal.main_arg5) (ix1 k)) n := by
  rw [ref_result]
  congr 1
  funext n
  rw [ref_row]
  simp only [ref_unit]
  rfl

theorem algebraic : Cert.algebraic_Kernel2Ideal_Reference2Ideal := by
  intro m g m' g' _ hm
  refine ⟨fun c => Cert.Kernel2Ideal.Value.G6 m c, Cert.Kernel2Ideal.Value.run m g,
    (θ_run Cert.Reference2Ideal.defs _ _).mono (fun r h c => ⟨(h c).1.trans ?_, (h c).2⟩) (Cert.Reference2Ideal.Value.run m' g')⟩
  obtain ⟨h0, h1, h2, h3, h4, h5⟩ := hm c
  rw [val_main_v35_eq, h0, h1, h2, h3, h4, h5]
  funext j
  obtain ⟨R, n, rfl⟩ : ∃ (R : Fin 8192) (n : Fin 2048), j = ix2 R n := ⟨_, _, eq_ix2 j⟩
  exact (ref_eq m c R n).trans (result_apply m c R n).symm

end Cert.Kernel2Ideal.Ffn

end
-- ==== Proof.MixGate.lean ====
/-
  The gates of the sampling mixer's body over the extended reals, entry by entry, and the table that holds them.
-/
module

public import proofs.«01_k».proof.Proof.Vocab
public import Idealize.ShloMosaic.Lib.Pointwise
public import Idealize.ShloMosaic.Lib.WholeRead

@[expose] public section

set_option maxRecDepth 16384

noncomputable section

namespace Cert.KernelIdeal.Mixer

open Idealize.ShloMosaic Idealize.ShloMosaic.TcCoe
open Cert.KernelIdeal.Gen

/-- The logistic function as the body writes it. -/
def sg (z : EReal) : EReal := Ideal.div 1 (1 + Ideal.exp (0 - z))

/-- The forget gate from its lower bound and its input. -/
def fg (l z : EReal) : EReal := l + (1 - l) * sg z

/-- The first row of the softmax of two rows. -/
def lbE (a b : EReal) : EReal :=
  Ideal.div (Ideal.exp (a - max a b)) (Ideal.exp (a - max a b) + Ideal.exp (b - max a b))

theorem sgm_apply (z : FVec Ideal S64x128 .f32) (t : Fin 64) (k : Fin 128) : sgm z (ix2 t k) = sg (z (ix2 t k)) := by
  unfold sgm sg
  pointwise!

theorem negInf : Ideal.ofBits .f32 4286578688#32 = ⊥ := by simp [Ideal.ofBits, Ideal.ieee]

theorem univ_two_fold (f : Fin 2 → EReal) : Finset.fold max ⊥ f Finset.univ = max (f 0) (f 1) := by
  rw [show (Finset.univ : Finset (Fin 2)) = {0, 1} from rfl, Finset.fold_insert (by decide), Finset.fold_singleton]
  simp

theorem pay19_apply (x : Vec Ideal S2x1024 .f32) (k : Fin 1024) :
    k0_pay19 x (ix2 0 k) = lbE (x (ix2 0 k)) (x (ix2 1 k)) := by
  unfold k0_pay19 lbE
  pointwise!
  simp only [Fin.sum_univ_two, univ_two_fold, negInf, Finset.univ_unique, Finset.sum_singleton]

section

variable (arg1 : Memref sig .tc .vmem S64x5120 .f32) (harg1 : arg1.IsWhole)
  (arg4 : Memref sig .tc .vmem S2x1024 .f32) (harg4 : arg4.IsWhole)
  (x0 : Vec Ideal S64x5120 .f32) (x3 : Vec Ideal S2x1024 .f32)

theorem cols_lt {o : ℕ} (h : o + 128 ≤ 5120) (k : Fin 128) : o + k.val < 5120 :=
  lt_of_lt_of_le (Nat.add_lt_add_left k.isLt o) h

theorem head_lt {n : ℕ} (h : n < 8) (k : Fin 128) : n * 128 + k.val < 1024 := by omega

theorem cols_apply (o : ℕ) (h : o + 128 ≤ 5120) (t : Fin 64) (k : Fin 128) :
    cols arg1 harg1 x0 o h (ix2 t k) = x0 (ix2 t ⟨o + k.val, cols_lt h k⟩) := by
  unfold cols
  rw [harg1.readAt_unread]
  congr 1
  funext a
  apply Fin.ext
  match a with
  | 0 => exact (show 0 + 1 * t.val = t.val by omega)
  | 1 => exact (show o + 1 * k.val = o + k.val by omega)

theorem lbv_apply (k : Fin 1024) : lbv arg4 harg4 x3 (ix2 0 k) = lbE (x3 (ix2 0 k)) (x3 (ix2 1 k)) := by
  unfold lbv
  rw [pay19_apply]
  congr 1 <;> rw [harg4.readAt_unread] <;> congr 1 <;> funext a <;> apply Fin.ext
  · match a with
    | 0 => rfl
    | 1 => exact (show 0 + 1 * k.val = k.val by omega)
  · match a with
    | 0 => rfl
    | 1 => exact (show 0 + 1 * k.val = k.val by omega)

theorem lbc_apply (n : ℕ) (h : n < 8) (k : Fin 128) :
    lbc arg4 harg4 x3 n h (ix2 0 k) = lbE (x3 (ix2 0 ⟨n * 128 + k.val, head_lt h k⟩)) (x3 (ix2 1 ⟨n * 128 + k.val, head_lt h k⟩)) := by
  rw [← lbv_apply arg4 harg4]
  unfold lbc
  pointwise!

theorem gateF_apply (n : ℕ) (h : n < 8) (t : Fin 64) (k : Fin 128) :
    gateF arg1 harg1 arg4 harg4 x0 x3 n h (ix2 t k)
      = fg (lbE (x3 (ix2 0 ⟨n * 128 + k.val, head_lt h k⟩)) (x3 (ix2 1 ⟨n * 128 + k.val, head_lt h k⟩)))
        (x0 (ix2 t ⟨2048 + n * 128 + k.val, cols_lt (o := 2048 + n * 128) (by omega) k⟩)) := by
  rw [← lbc_apply arg4 harg4, ← cols_apply arg1 harg1 x0 (2048 + n * 128) (by omega)]
  unfold gateF fg
  rw [← sgm_apply]
  pointwise!

theorem gateQ_apply (n : ℕ) (h : n < 8) (t : Fin 64) (k : Fin 128) :
    gateQ arg1 harg1 x0 n h (ix2 t k)
      = (fun z => z * sg z) (x0 (ix2 t ⟨1024 + n * 128 + k.val, cols_lt (o := 1024 + n * 128) (by omega) k⟩)) := by
  rw [← cols_apply arg1 harg1 x0 (1024 + n * 128) (by omega)]
  unfold gateQ
  beta_reduce
  rw [← sgm_apply]
  pointwise!

theorem gateK_apply (n : ℕ) (h : n < 8) (t : Fin 64) (k : Fin 128) :
    gateK arg1 harg1 arg4 harg4 x0 x3 n h (ix2 t k) = 1 - gateF arg1 harg1 arg4 harg4 x0 x3 n h (ix2 t k) := by
  unfold gateK
  pointwise!

/-- A gate of head `n` at token `t`: its query, its key or its forget gate. -/
def gv (a n t : ℕ) (k : Fin 128) : EReal :=
  if h : n < 8 ∧ t < 64 then
    if a = 0 then gateQ arg1 harg1 x0 n h.1 (ix2 ⟨t, h.2⟩ k)
    else if a = 1 then gateK arg1 harg1 arg4 harg4 x0 x3 n h.1 (ix2 ⟨t, h.2⟩ k)
    else gateF arg1 harg1 arg4 harg4 x0 x3 n h.1 (ix2 ⟨t, h.2⟩ k)
  else 0

theorem gv_zero (n t : ℕ) (h : n < 8) (ht : t < 64) (k : Fin 128) :
    gv arg1 harg1 arg4 harg4 x0 x3 0 n t k = gateQ arg1 harg1 x0 n h (ix2 ⟨t, ht⟩ k) := by
  rw [gv, dif_pos ⟨h, ht⟩, if_pos rfl]

theorem gv_one (n t : ℕ) (h : n < 8) (ht : t < 64) (k : Fin 128) :
    gv arg1 harg1 arg4 harg4 x0 x3 1 n t k = gateK arg1 harg1 arg4 harg4 x0 x3 n h (ix2 ⟨t, ht⟩ k) := by
  rw [gv, dif_pos ⟨h, ht⟩, if_neg (by decide), if_pos rfl]

theorem gv_two (n t : ℕ) (h : n < 8) (ht : t < 64) (k : Fin 128) :
    gv arg1 harg1 arg4 harg4 x0 x3 2 n t k = gateF arg1 harg1 arg4 harg4 x0 x3 n h (ix2 ⟨t, ht⟩ k) := by
  rw [gv, dif_pos ⟨h, ht⟩, if_neg (by decide), if_neg (by decide)]

end

/-! ### The table of gates -/

/-- Row `r` of a table of gates belongs to head `r / 8`, position `r % 8`. -/
def ofGates (f : ℕ → ℕ → ℕ → Fin 128 → EReal) (y : S3x8x64x128.Idx) : EReal :=
  f (y 0).val ((y 2).val / 8) ((y 1).val * 8 + (y 2).val % 8) (y 3)

theorem natBlk_apply (x : FVec Ideal S64x128 .f32) (a : Fin 1) (g s : Fin 8) (k : Fin 128) :
    natBlk x (ix4 a g s k) = x (ix2 ⟨g.val * 8 + s.val, by omega⟩ k) := by
  unfold natBlk
  pointwise!

theorem qkBlk_apply (x : FVec Ideal S64x128 .f32) (a : Fin 1) (t : Fin 64) (k : Fin 128) :
    qkBlk x (ix3 a t k) = x (ix2 t k) := by
  unfold qkBlk
  pointwise!

theorem cast4_apply (w : FVec Ideal S1x1x8x128 .f32) (n : Fin 8) (k : Fin 128) :
    shapeCast S8x128 w shapeCasts_S1x1x8x128_S8x128 (ix2 n k) = w (ix4 0 0 n k) := by
  pointwise!

theorem cast3_apply (w : FVec Ideal S1x64x128 .bf16) (t : Fin 64) (k : Fin 128) :
    shapeCast S64x128 w shapeCasts_S1x64x128_S64x128 (ix2 t k) = w (ix3 0 t k) := by
  pointwise!

theorem ofGates_emb (f : ℕ → ℕ → ℕ → Fin 128 → EReal) (a n : ℕ) (ha : a < 3) (h : n < 8) (z : Fin 1) (g s : Fin 8) (k : Fin 128) :
    ofGates f ((Rect.unit (s := S3x8x64x128) ![a, 0, n * 8, 0] S1x8x8x128.size (nat_inb a n ha h)).emb (ix4 z g s k))
      = f a n (g.val * 8 + s.val) k := by
  have e0 : a + 1 * z.val = a := by omega
  have e1 : (n * 8 + 1 * s.val) / 8 = n := by omega
  have e2 : (0 + 1 * g.val) * 8 + (n * 8 + 1 * s.val) % 8 = g.val * 8 + s.val := by omega
  have e3 : (⟨0 + 1 * k.val, by omega⟩ : Fin 128) = k := Fin.ext (by show 0 + 1 * k.val = k.val; omega)
  show f (a + 1 * z.val) ((n * 8 + 1 * s.val) / 8) ((0 + 1 * g.val) * 8 + (n * 8 + 1 * s.val) % 8) ⟨0 + 1 * k.val, _⟩ = _
  rw [e0, e1, e2, e3]

section

variable (c : Dev nD) (arg1 : Memref sig .tc .vmem S64x5120 .f32) (harg1 : arg1.IsWhole)
  (arg4 : Memref sig .tc .vmem S2x1024 .f32) (harg4 : arg4.IsWhole)
  (arg12 : Memref sig .tc .vmem S3x8x64x128 .f32) (arg14 : Memref sig .tc .vmem S2x64x1024 .bf16)
  (x0 : Vec Ideal S64x5120 .f32) (x3 : Vec Ideal S2x1024 .f32)

theorem natP_agree : ∀ (n : ℕ) (h : n ≤ 8), ∀ p ∈ natP arg1 harg1 arg4 harg4 x0 x3 n h, ∀ x : p.1.shape.Idx,
    p.2 x = ofGates (gv arg1 harg1 arg4 harg4 x0 x3) (p.1.emb x)
  | 0, _ => by intro p hp; cases hp
  | n + 1, h => by
    rw [natP]
    simp only [List.forall_mem_cons]
    refine ⟨?_, ?_, ?_, natP_agree n (by omega)⟩
    all_goals
      intro x
      obtain ⟨z, g, s, k, rfl⟩ : ∃ (z : Fin 1) (g s : Fin 8) (k : Fin 128), x = ix4 z g s k := ⟨_, _, _, _, eq_ix4 x⟩
      rw [natBlk_apply]
    · exact ((ofGates_emb _ 2 n (by decide) h z g s k).trans (gv_two _ _ _ _ _ _ n _ h (by omega) k)).symm
    · exact ((ofGates_emb _ 1 n (by decide) h z g s k).trans (gv_one _ _ _ _ _ _ n _ h (by omega) k)).symm
    · exact ((ofGates_emb _ 0 n (by decide) h z g s k).trans (gv_zero _ _ _ _ _ _ n _ h (by omega) k)).symm

/-- A token's rows in the table of gates hold its gates, a row for each head. -/
theorem tok_apply (a t : ℕ) (ha : a < 3) (ht : t < 64) (n : Fin 8) (k : Fin 128) :
    tok c arg1 harg1 arg4 harg4 arg12 x0 x3 a t ha ht (ix2 n k) = gv arg1 harg1 arg4 harg4 x0 x3 a n.val t k := by
  unfold tok
  rw [View.readCov_eq_canon', nat_eq, cast4_apply]
  refine (View.canon_apply_of_pieces (ofGates (gv arg1 harg1 arg4 harg4 x0 x3)) _ (natP_agree arg1 harg1 arg4 harg4 x0 x3 8 le_rfl) _
    (View.cover_of_tiledL (natP arg1 harg1 arg4 harg4 x0 x3 8 le_rfl) S1x8x8x128.size (by sl_kernel_rfl) _)).trans ?_
  have e1 : (t % 8 + 8 * n.val) / 8 = n.val := by omega
  have e2 : (t / 8 + 1 * 0) * 8 + (t % 8 + 8 * n.val) % 8 = t := by omega
  have e3 : (⟨0 + 1 * k.val, by omega⟩ : Fin 128) = k := Fin.ext (by show 0 + 1 * k.val = k.val; omega)
  show gv arg1 harg1 arg4 harg4 x0 x3 (a + 1 * 0) ((t % 8 + 8 * n.val) / 8) ((t / 8 + 1 * 0) * 8 + (t % 8 + 8 * n.val) % 8) ⟨0 + 1 * k.val, _⟩ = _
  rw [e1, e2, e3]
  rfl

/-- Column `q` of the table of the products' operands belongs to head `q / 128`. -/
def ofQK (f : ℕ → ℕ → ℕ → Fin 128 → EReal) (y : S2x64x1024.Idx) : EReal :=
  f (y 0).val ((y 2).val / 128) (y 1).val ⟨(y 2).val % 128, Nat.mod_lt _ (by decide)⟩

theorem ofQK_emb (f : ℕ → ℕ → ℕ → Fin 128 → EReal) (a n : ℕ) (ha : a < 2) (h : n < 8) (z : Fin 1) (t : Fin 64) (k : Fin 128) :
    ofQK f ((Rect.unit (s := S2x64x1024) ![a, 0, n * 128] S1x64x128.size (qk_inb a n ha h)).emb (ix3 z t k)) = f a n t.val k := by
  have e0 : a + 1 * z.val = a := by omega
  have e1 : (n * 128 + 1 * k.val) / 128 = n := by omega
  have e2 : 0 + 1 * t.val = t.val := by omega
  have e3 : (⟨(n * 128 + 1 * k.val) % 128, Nat.mod_lt _ (by decide)⟩ : Fin 128) = k := Fin.ext (by show (n * 128 + 1 * k.val) % 128 = k.val; omega)
  show f (a + 1 * z.val) ((n * 128 + 1 * k.val) / 128) (0 + 1 * t.val) ⟨(n * 128 + 1 * k.val) % 128, _⟩ = _
  rw [e0, e1, e2, e3]

theorem qkP_agree : ∀ (n : ℕ) (h : n ≤ 8), ∀ p ∈ qkP arg1 harg1 arg4 harg4 x0 x3 n h, ∀ x : p.1.shape.Idx,
    p.2 x = ofQK (gv arg1 harg1 arg4 harg4 x0 x3) (p.1.emb x)
  | 0, _ => by intro p hp; cases hp
  | n + 1, h => by
    rw [qkP]
    simp only [List.forall_mem_cons]
    refine ⟨?_, ?_, qkP_agree n (by omega)⟩
    all_goals
      intro x
      obtain ⟨z, t, k, rfl⟩ : ∃ (z : Fin 1) (t : Fin 64) (k : Fin 128), x = ix3 z t k := ⟨_, _, _, eq_ix3 x⟩
      rw [qkBlk_apply]
    · exact ((ofQK_emb _ 1 n (by decide) h z t k).trans (gv_one _ _ _ _ _ _ n _ h t.isLt k)).symm
    · exact ((ofQK_emb _ 0 n (by decide) h z t k).trans (gv_zero _ _ _ _ _ _ n _ h t.isLt k)).symm

/-- A head's operand of the products holds its gates, a row for each token. -/
theorem qkRows_apply (a n : ℕ) (ha : a < 2) (h : n < 8) (t : Fin 64) (k : Fin 128) :
    qkRows c arg1 harg1 arg4 harg4 arg14 x0 x3 a n ha h (ix2 t k) = gv arg1 harg1 arg4 harg4 x0 x3 a n t.val k := by
  unfold qkRows
  rw [View.readCov_eq_canon', qk_eq, cast3_apply]
  refine (View.canon_apply_of_pieces (ofQK (gv arg1 harg1 arg4 harg4 x0 x3)) _ (qkP_agree arg1 harg1 arg4 harg4 x0 x3 8 le_rfl) _
    (View.cover_of_tiledL (qkP arg1 harg1 arg4 harg4 x0 x3 8 le_rfl) S1x64x128.size (by sl_kernel_rfl) _)).trans ?_
  exact ofQK_emb _ a n ha h 0 t k

end

end Cert.KernelIdeal.Mixer
-- ==== Proof.MixSeg.lean ====
/-
  The products of forget gates over segments of tokens and the rows of the levels, entry by entry.
-/
module

public import proofs.«01_k».proof.Proof.MixGate

@[expose] public section

set_option maxRecDepth 16384

noncomputable section

namespace Cert.KernelIdeal.Mixer

open Idealize.ShloMosaic Idealize.ShloMosaic.TcCoe
open Cert.KernelIdeal.Gen

/-! ### Products over segments, for a sequence of gates -/

/-- Slot `m` of the table of segments: one gate, the product of two or the product of four. -/
def segV (f : ℕ → EReal) (m : ℕ) : EReal :=
  if m < 64 then f m
  else if m < 96 then f (2 * (m - 64)) * f (2 * (m - 64) + 1)
  else (f (4 * (m - 96)) * f (4 * (m - 96) + 1)) * (f (4 * (m - 96) + 2) * f (4 * (m - 96) + 3))

/-- The product of the gates from the start of token `t`'s segment of `2 ^ l` tokens to `t`. -/
def preE (f : ℕ → EReal) (t : ℕ) : ℕ → EReal
  | 0 => segV f t
  | l + 1 => match bit l t with
    | 0 => preE f t l
    | _ + 1 => preE f t l * segV f (sib l t)

/-- The product of the gates after token `t` to the end of its segment of `2 ^ l` tokens. -/
def sufE (f : ℕ → EReal) (t : ℕ) : ℕ → EReal
  | 0 => 1
  | l + 1 => match bit l t with
    | 0 => sufE f t l * segV f (sib l t)
    | _ + 1 => sufE f t l

section

variable (c : Dev nD) (arg1 : Memref sig .tc .vmem S64x5120 .f32) (harg1 : arg1.IsWhole)
  (arg4 : Memref sig .tc .vmem S2x1024 .f32) (harg4 : arg4.IsWhole)
  (arg12 : Memref sig .tc .vmem S3x8x64x128 .f32) (arg13 : Memref sig .tc .vmem S128x8x128 .f32)
  (arg15 : Memref sig .tc .vmem S5x512x128 .f32)
  (x0 : Vec Ideal S64x5120 .f32) (x3 : Vec Ideal S2x1024 .f32)

/-- The forget gates of head `n` at entry `k`, token by token. -/
def fgs (n : Fin 8) (k : Fin 128) (t : ℕ) : EReal := gv arg1 harg1 arg4 harg4 x0 x3 2 n.val t k

theorem cast38_apply (w : FVec Ideal S1x8x128 .f32) (n : Fin 8) (k : Fin 128) :
    shapeCast S8x128 w shapeCasts_S1x8x128_S8x128 (ix2 n k) = w (ix3 0 n k) := by
  pointwise!

theorem cast83_apply (w : FVec Ideal S8x128 .f32) (z : Fin 1) (n : Fin 8) (k : Fin 128) :
    shapeCast S1x8x128 w shapeCasts_S8x128_S1x8x128 (ix3 z n k) = w (ix2 n k) := by
  pointwise!

theorem seg_emb (m : ℕ) (h : m < 128) (z : Fin 1) (n : Fin 8) (k : Fin 128) :
    (Rect.unit (s := S128x8x128) ![m, 0, 0] S1x8x128.size (seg_inb m h)).emb (ix3 z n k) = ix3 ⟨m, h⟩ n k := by
  funext a
  apply Fin.ext
  match a with
  | 0 => exact (show m + 1 * z.val = m by omega)
  | 1 => exact (show 0 + 1 * n.val = n.val by omega)
  | 2 => exact (show 0 + 1 * k.val = k.val by omega)

theorem segAt_apply (L : List (View.Piece (Elt Ideal) S128x8x128 .f32)) (m : ℕ) (h : m < 128) (n : Fin 8) (k : Fin 128) :
    segAt arg13 L m h (ix2 n k) = View.canon L (ix3 ⟨m, h⟩ n k) := by
  unfold segAt
  rw [View.readCov_eq_canon', cast38_apply]
  exact congrArg _ (seg_emb m h 0 n k)

theorem canon_seg_self (L : List (View.Piece (Elt Ideal) S128x8x128 .f32)) (m : ℕ) (h : m < 128) (v : FVec Ideal S8x128 .f32) (n : Fin 8) (k : Fin 128) :
    View.canon (⟨Rect.unit (s := S128x8x128) ![m, 0, 0] S1x8x128.size (seg_inb m h), shapeCast S1x8x128 v shapeCasts_S8x128_S1x8x128⟩ :: L) (ix3 ⟨m, h⟩ n k)
      = v (ix2 n k) := by
  have e := View.canon_cons_emb (Val := Elt Ideal) (Rect.unit (s := S128x8x128) ![m, 0, 0] S1x8x128.size (seg_inb m h))
    (shapeCast S1x8x128 v shapeCasts_S8x128_S1x8x128) L (ix3 0 n k)
  rw [seg_emb m h 0 n k] at e
  exact e.trans (cast83_apply v 0 n k)

theorem canon_seg_ne (L : List (View.Piece (Elt Ideal) S128x8x128 .f32)) (m m' : ℕ) (h : m < 128) (h' : m' < 128) (hne : m' ≠ m)
    (w : (Rect.unit (s := S128x8x128) ![m, 0, 0] S1x8x128.size (seg_inb m h)).shape.Idx → Elt Ideal .f32) (n : Fin 8) (k : Fin 128) :
    View.canon (⟨Rect.unit (s := S128x8x128) ![m, 0, 0] S1x8x128.size (seg_inb m h), w⟩ :: L) (ix3 ⟨m', h'⟩ n k)
      = View.canon L (ix3 ⟨m', h'⟩ n k) := by
  refine View.canon_cons_of_not_mem _ L fun hm => ?_
  have h0 : m ≤ m' ∧ m' < m + 1 := (Rect.mem_set_unit (inb := seg_inb m h)).mp hm (0 : Fin 3)
  omega

/-- The first slots hold the tokens' forget gates. -/
theorem seg0P_apply : ∀ (N : ℕ) (hN : N ≤ 64) (m : ℕ) (h : m < 128), m < N → ∀ (n : Fin 8) (k : Fin 128),
    View.canon (seg0P c arg1 harg1 arg4 harg4 arg12 x0 x3 N hN) (ix3 ⟨m, h⟩ n k) = segV (fgs arg1 harg1 arg4 harg4 x0 x3 n k) m
  | 0, _, _, _, hm, _, _ => absurd hm (Nat.not_lt_zero _)
  | N + 1, hN, m, h, hm, n, k => by
    rw [seg0P]
    by_cases e : m = N
    · subst e
      rw [canon_seg_self, tok_apply, segV, if_pos (by omega)]
      rfl
    · rw [canon_seg_ne _ N m (by omega) h e]
      exact seg0P_apply N (by omega) m h (by omega) n k

theorem segV_double (f : ℕ → EReal) (i : ℕ) (h : i < 48) : segV f (64 + i) = segV f (2 * i) * segV f (2 * i + 1) := by
  unfold segV
  by_cases h1 : i < 32
  · rw [if_neg (by omega), if_pos (by omega), if_pos (by omega), if_pos (by omega)]
    congr 2 <;> omega
  · rw [if_neg (by omega), if_neg (by omega), if_neg (by omega), if_pos (by omega), if_neg (by omega), if_pos (by omega)]
    congr 3 <;> omega

/-- Every slot holds the product of the gates of its segment. -/
theorem segH_apply : ∀ (N : ℕ) (_ : N ≤ 48) (m : ℕ) (h : m < 128), m < 64 + N → ∀ (n : Fin 8) (k : Fin 128),
    View.canon (segH c arg1 harg1 arg4 harg4 arg12 arg13 x0 x3 N) (ix3 ⟨m, h⟩ n k) = segV (fgs arg1 harg1 arg4 harg4 x0 x3 n k) m
  | 0, _, m, h, hm, n, k => by
    rw [show segH c arg1 harg1 arg4 harg4 arg12 arg13 x0 x3 0 = run.sl.HS2_64 c arg1 harg1 arg4 harg4 arg12 x0 x3 from rfl, seg0_eq]
    exact seg0P_apply c arg1 harg1 arg4 harg4 arg12 x0 x3 64 le_rfl m h hm n k
  | N + 1, hN, m, h, hm, n, k => by
    rw [segH_succ c arg1 harg1 arg4 harg4 arg12 arg13 x0 x3 N hN]
    by_cases e : m = 64 + N
    · subst e
      rw [canon_seg_self, segV_double _ N hN]
      refine (congrArg₂ (HMul.hMul (α := EReal) (β := EReal) (γ := EReal)) (segAt_apply arg13 _ (2 * N) (by omega) n k) (segAt_apply arg13 _ (2 * N + 1) (by omega) n k)).trans ?_
      rw [segH_apply N (by omega) (2 * N) (by omega) (by omega), segH_apply N (by omega) (2 * N + 1) (by omega) (by omega)]
    · rw [canon_seg_ne _ (64 + N) m (by omega) h e]
      exact segH_apply N (by omega) m h (by omega) n k

theorem slot_apply (m : ℕ) (h : m < 128) (hm : m < 112) (n : Fin 8) (k : Fin 128) :
    slot c arg1 harg1 arg4 harg4 arg12 arg13 x0 x3 m h (ix2 n k) = segV (fgs arg1 harg1 arg4 harg4 x0 x3 n k) m := by
  unfold slot
  rw [segAt_apply, show run.sl.HS2_112 c arg1 harg1 arg4 harg4 arg12 arg13 x0 x3 = segH c arg1 harg1 arg4 harg4 arg12 arg13 x0 x3 48 from rfl]
  exact segH_apply c arg1 harg1 arg4 harg4 arg12 arg13 x0 x3 48 le_rfl m h hm n k

theorem sib_lt' (l t : ℕ) (h : t < 64) : sib l t < 112 := by
  unfold sib; split <;> omega

theorem pre_apply (t : ℕ) (h : t < 64) (n : Fin 8) (k : Fin 128) : ∀ l : ℕ,
    pre c arg1 harg1 arg4 harg4 arg12 arg13 x0 x3 t h l (ix2 n k) = preE (fgs arg1 harg1 arg4 harg4 x0 x3 n k) t l
  | 0 => by
    rw [pre, preE, slot_apply c arg1 harg1 arg4 harg4 arg12 arg13 x0 x3 t _ (by omega)]
  | l + 1 => by
    rw [pre, preE]
    cases hb : bit l t with
    | zero => exact pre_apply t h n k l
    | succ b =>
      exact congrArg₂ (HMul.hMul (α := EReal) (β := EReal) (γ := EReal)) (pre_apply t h n k l)
        (slot_apply c arg1 harg1 arg4 harg4 arg12 arg13 x0 x3 _ _ (sib_lt' l t h) n k)

theorem suf_apply (t : ℕ) (h : t < 64) (n : Fin 8) (k : Fin 128) : ∀ l : ℕ,
    (match suf c arg1 harg1 arg4 harg4 arg12 arg13 x0 x3 t h l with | none => (1 : EReal) | some r => r (ix2 n k))
      = sufE (fgs arg1 harg1 arg4 harg4 x0 x3 n k) t l
  | 0 => by rw [suf, sufE]
  | l + 1 => by
    have ih := suf_apply t h n k l
    rw [suf, sufE]
    cases hb : bit l t with
    | zero =>
      rw [← ih]
      cases hs : suf c arg1 harg1 arg4 harg4 arg12 arg13 x0 x3 t h l with
      | none => exact (slot_apply c arg1 harg1 arg4 harg4 arg12 arg13 x0 x3 _ _ (sib_lt' l t h) n k).trans (one_mul _).symm
      | some r => exact congrArg (HMul.hMul (α := EReal) (β := EReal) (γ := EReal) _) (slot_apply c arg1 harg1 arg4 harg4 arg12 arg13 x0 x3 _ _ (sib_lt' l t h) n k)
    | succ b => exact ih

theorem qLev_apply (t : ℕ) (h : t < 64) (l : ℕ) (n : Fin 8) (k : Fin 128) :
    qLev c arg1 harg1 arg4 harg4 arg12 arg13 x0 x3 t h l (ix2 n k)
      = gv arg1 harg1 arg4 harg4 x0 x3 0 n.val t k * preE (fgs arg1 harg1 arg4 harg4 x0 x3 n k) t l :=
  congrArg₂ (HMul.hMul (α := EReal) (β := EReal) (γ := EReal)) (tok_apply c arg1 harg1 arg4 harg4 arg12 x0 x3 0 t (by decide) h n k)
    (pre_apply c arg1 harg1 arg4 harg4 arg12 arg13 x0 x3 t h n k l)

theorem kLev_apply (t : ℕ) (h : t < 64) (l : ℕ) (n : Fin 8) (k : Fin 128) :
    kLev c arg1 harg1 arg4 harg4 arg12 arg13 x0 x3 t h l (ix2 n k)
      = gv arg1 harg1 arg4 harg4 x0 x3 1 n.val t k * sufE (fgs arg1 harg1 arg4 harg4 x0 x3 n k) t l := by
  rw [← suf_apply c arg1 harg1 arg4 harg4 arg12 arg13 x0 x3 t h n k l, kLev]
  have e := tok_apply c arg1 harg1 arg4 harg4 arg12 x0 x3 1 t (by decide) h n k
  cases suf c arg1 harg1 arg4 harg4 arg12 arg13 x0 x3 t h l with
  | none => exact e.trans (mul_one _).symm
  | some r => exact congrArg (fun z : EReal => z * r (ix2 n k)) e

/-! ### The table of levels -/

/-- What level `l` holds of token `t`. -/
def levE (l t n : ℕ) (k : Fin 128) : EReal :=
  if h : n < 8 ∧ t < 64 then
    if l = 4 then kLev c arg1 harg1 arg4 harg4 arg12 arg13 x0 x3 t h.2 3 (ix2 ⟨n, h.1⟩ k)
    else if l = 3 then qLev c arg1 harg1 arg4 harg4 arg12 arg13 x0 x3 t h.2 3 (ix2 ⟨n, h.1⟩ k)
    else lev c arg1 harg1 arg4 harg4 arg12 arg13 x0 x3 t h.2 l (ix2 ⟨n, h.1⟩ k)
  else 0

/-- Row `r` of a level belongs to token `r / 8`, head `r % 8`. -/
def ofLev (f : ℕ → ℕ → ℕ → Fin 128 → EReal) (y : S5x512x128.Idx) : EReal :=
  f (y 0).val ((y 1).val / 8) ((y 1).val % 8) (y 2)

theorem ofLev_emb (f : ℕ → ℕ → ℕ → Fin 128 → EReal) (l t : ℕ) (hl : l < 5) (h : t < 64) (z : Fin 1) (n : Fin 8) (k : Fin 128) :
    ofLev f ((Rect.unit (s := S5x512x128) ![l, t * 8, 0] S1x8x128.size (lev_inb l t hl h)).emb (ix3 z n k)) = f l t n.val k := by
  have e0 : l + 1 * z.val = l := by omega
  have e1 : (t * 8 + 1 * n.val) / 8 = t := by omega
  have e2 : (t * 8 + 1 * n.val) % 8 = n.val := by omega
  have e3 : (⟨0 + 1 * k.val, by omega⟩ : Fin 128) = k := Fin.ext (by show 0 + 1 * k.val = k.val; omega)
  show f (l + 1 * z.val) ((t * 8 + 1 * n.val) / 8) ((t * 8 + 1 * n.val) % 8) ⟨0 + 1 * k.val, _⟩ = _
  rw [e0, e1, e2, e3]

theorem levPiece_agree (l t : ℕ) (hl : l < 5) (h : t < 64) (v : FVec Ideal S8x128 .f32)
    (hv : ∀ (n : Fin 8) (k : Fin 128), v (ix2 n k) = levE c arg1 harg1 arg4 harg4 arg12 arg13 x0 x3 l t n.val k) (x : (levPiece l t hl h v).1.shape.Idx) :
    (levPiece l t hl h v).2 x = ofLev (levE c arg1 harg1 arg4 harg4 arg12 arg13 x0 x3) ((levPiece l t hl h v).1.emb x) := by
  unfold levPiece at x ⊢
  obtain ⟨z, n, k, rfl⟩ : ∃ (z : Fin 1) (n : Fin 8) (k : Fin 128), x = ix3 z n k := ⟨_, _, _, eq_ix3 x⟩
  exact (cast83_apply v z n k).trans ((hv n k).trans (ofLev_emb _ l t hl h z n k).symm)

theorem levP_agree : ∀ (N : ℕ) (h : N ≤ 64), ∀ p ∈ levP c arg1 harg1 arg4 harg4 arg12 arg13 x0 x3 N h, ∀ x : p.1.shape.Idx,
    p.2 x = ofLev (levE c arg1 harg1 arg4 harg4 arg12 arg13 x0 x3) (p.1.emb x)
  | 0, _ => by intro p hp; cases hp
  | N + 1, h => by
    rw [levP]
    simp only [List.forall_mem_cons]
    refine ⟨levPiece_agree c arg1 harg1 arg4 harg4 arg12 arg13 x0 x3 4 N _ h _ ?_, levPiece_agree c arg1 harg1 arg4 harg4 arg12 arg13 x0 x3 3 N _ h _ ?_,
      levPiece_agree c arg1 harg1 arg4 harg4 arg12 arg13 x0 x3 2 N _ h _ ?_, levPiece_agree c arg1 harg1 arg4 harg4 arg12 arg13 x0 x3 1 N _ h _ ?_,
      levPiece_agree c arg1 harg1 arg4 harg4 arg12 arg13 x0 x3 0 N _ h _ ?_, levP_agree N (by omega)⟩
    all_goals
      intro n k
      rw [levE, dif_pos ⟨n.isLt, h⟩]
      rfl

/-- A head's rows of a level, a row for each token. -/
theorem levRow_apply (l n : ℕ) (hl : l < 5) (h : n < 8) (z : Fin 1) (t : Fin 64) (k : Fin 128) :
    levRow c arg1 harg1 arg4 harg4 arg12 arg13 arg15 x0 x3 l n hl h (ix3 z t k) = levE c arg1 harg1 arg4 harg4 arg12 arg13 x0 x3 l t.val n k := by
  unfold levRow
  rw [View.readCov_eq_canon', lev_eq]
  refine (View.canon_apply_of_pieces (ofLev (levE c arg1 harg1 arg4 harg4 arg12 arg13 x0 x3)) _ (levP_agree c arg1 harg1 arg4 harg4 arg12 arg13 x0 x3 64 le_rfl) _
    (View.cover_of_tiledL (levP c arg1 harg1 arg4 harg4 arg12 arg13 x0 x3 64 le_rfl) S1x8x128.size (by sl_kernel_rfl) _)).trans ?_
  have e0 : l + 1 * z.val = l := by omega
  have e1 : (n + 8 * t.val) / 8 = t.val := by omega
  have e2 : (n + 8 * t.val) % 8 = n := by omega
  have e3 : (⟨0 + 1 * k.val, by omega⟩ : Fin 128) = k := Fin.ext (by show 0 + 1 * k.val = k.val; omega)
  show levE c arg1 harg1 arg4 harg4 arg12 arg13 x0 x3 (l + 1 * z.val) ((n + 8 * t.val) / 8) ((n + 8 * t.val) % 8) ⟨0 + 1 * k.val, _⟩ = _
  rw [e0, e1, e2, e3]

/-- Level 3 holds the queries carried back to the start of their sequences, -/
theorem levRow_three (n : ℕ) (h : n < 8) (z : Fin 1) (t : Fin 64) (k : Fin 128) :
    levRow c arg1 harg1 arg4 harg4 arg12 arg13 arg15 x0 x3 3 n (by decide) h (ix3 z t k)
      = gv arg1 harg1 arg4 harg4 x0 x3 0 n t.val k * preE (fgs arg1 harg1 arg4 harg4 x0 x3 ⟨n, h⟩ k) t.val 3 := by
  rw [levRow_apply, levE, dif_pos ⟨h, t.isLt⟩, if_neg (by decide), if_pos rfl, qLev_apply]

/-- level 4 the keys carried to the end of theirs, -/
theorem levRow_four (n : ℕ) (h : n < 8) (z : Fin 1) (t : Fin 64) (k : Fin 128) :
    levRow c arg1 harg1 arg4 harg4 arg12 arg13 arg15 x0 x3 4 n (by decide) h (ix3 z t k)
      = gv arg1 harg1 arg4 harg4 x0 x3 1 n t.val k * sufE (fgs arg1 harg1 arg4 harg4 x0 x3 ⟨n, h⟩ k) t.val 3 := by
  rw [levRow_apply, levE, dif_pos ⟨h, t.isLt⟩, if_pos rfl, kLev_apply]

/-- a lower level the queries of the later halves -/
theorem levRow_query (l n : ℕ) (hl : l < 3) (h : n < 8) (z : Fin 1) (t : Fin 64) (k : Fin 128) (hb : bit l t.val = 1) :
    levRow c arg1 harg1 arg4 harg4 arg12 arg13 arg15 x0 x3 l n (by omega) h (ix3 z t k)
      = gv arg1 harg1 arg4 harg4 x0 x3 0 n t.val k * preE (fgs arg1 harg1 arg4 harg4 x0 x3 ⟨n, h⟩ k) t.val l := by
  rw [levRow_apply, levE, dif_pos ⟨h, t.isLt⟩, if_neg (by omega), if_neg (by omega), lev, hb]
  exact qLev_apply c arg1 harg1 arg4 harg4 arg12 arg13 x0 x3 t.val t.isLt l ⟨n, h⟩ k

/-- and the keys of the earlier halves. -/
theorem levRow_key (l n : ℕ) (hl : l < 3) (h : n < 8) (z : Fin 1) (t : Fin 64) (k : Fin 128) (hb : bit l t.val = 0) :
    levRow c arg1 harg1 arg4 harg4 arg12 arg13 arg15 x0 x3 l n (by omega) h (ix3 z t k)
      = gv arg1 harg1 arg4 harg4 x0 x3 1 n t.val k * sufE (fgs arg1 harg1 arg4 harg4 x0 x3 ⟨n, h⟩ k) t.val l := by
  rw [levRow_apply, levE, dif_pos ⟨h, t.isLt⟩, if_neg (by omega), if_neg (by omega), lev, hb]
  exact kLev_apply c arg1 harg1 arg4 harg4 arg12 arg13 x0 x3 t.val t.isLt l ⟨n, h⟩ k

end

/-! ### The products in closed form -/

theorem bit_add (l b i : ℕ) (hi : i < 8) : bit l (8 * b + i) = bit l i := by
  unfold bit; split <;> omega

theorem segV_sib (f : ℕ → EReal) (l b i : ℕ) (hb : b < 8) (hi : i < 8) :
    segV f (sib l (8 * b + i)) = segV (fun u => f (8 * b + u)) (sib l i) := by
  unfold sib segV
  split
  · rw [if_pos (by omega), if_pos (by omega)]
    exact congrArg f (by omega)
  · rw [if_neg (by omega), if_pos (by omega), if_neg (by omega), if_pos (by omega)]
    exact congrArg₂ (· * ·) (congrArg f (by omega)) (congrArg f (by omega))
  · rw [if_neg (by omega), if_neg (by omega), if_neg (by omega), if_neg (by omega)]
    exact congrArg₂ (· * ·) (congrArg₂ (· * ·) (congrArg f (by omega)) (congrArg f (by omega)))
      (congrArg₂ (· * ·) (congrArg f (by omega)) (congrArg f (by omega)))

theorem preE_block (f : ℕ → EReal) (b i : ℕ) (hb : b < 8) (hi : i < 8) : ∀ l, preE f (8 * b + i) l = preE (fun u => f (8 * b + u)) i l
  | 0 => by rw [preE, preE, segV, segV, if_pos (by omega), if_pos (by omega)]
  | l + 1 => by
    rw [preE, preE, bit_add l b i hi, segV_sib f l b i hb hi, preE_block f b i hb hi l]

theorem sufE_block (f : ℕ → EReal) (b i : ℕ) (hb : b < 8) (hi : i < 8) : ∀ l, sufE f (8 * b + i) l = sufE (fun u => f (8 * b + u)) i l
  | 0 => by rw [sufE, sufE]
  | l + 1 => by
    rw [sufE, sufE, bit_add l b i hi, segV_sib f l b i hb hi, sufE_block f b i hb hi l]

theorem preE_three (g : ℕ → EReal) (i : ℕ) (hi : i < 8) : preE g i 3 = ∏ u ∈ Finset.range (i + 1), g u := by
  interval_cases i <;> simp [preE, bit, sib, segV, Finset.prod_range_succ] <;> ac_rfl

theorem sufE_three (g : ℕ → EReal) (i : ℕ) (hi : i < 8) : sufE g i 3 = ∏ u ∈ Finset.Ioc i 7, g u := by
  interval_cases i <;> simp [sufE, bit, sib, segV, ← Finset.Ico_succ_succ_eq_Ioc, Finset.prod_Ico_succ_top] <;> ac_rfl

/-- The level at which two positions of a sequence meet. -/
def meet (i j : ℕ) : ℕ := if i / 2 = j / 2 then 0 else if i / 4 = j / 4 then 1 else 2

theorem pair_prod (g : ℕ → EReal) (i j : ℕ) (hi : i < 8) (hj : j < i) :
    preE g i (meet i j) * sufE g j (meet i j) = ∏ u ∈ Finset.Ioc j i, g u := by
  interval_cases i <;> interval_cases j <;>
    simp [meet, preE, sufE, bit, sib, segV, ← Finset.Ico_succ_succ_eq_Ioc, Finset.prod_Ico_succ_top] <;> ac_rfl

end Cert.KernelIdeal.Mixer
-- ==== Proof.MixScore.lean ====
/-
  The table of scores, entry by entry: the masked stores leave the scores of the causal pairs and nothing else.
-/
module

public import proofs.«01_k».proof.Proof.MixSeg
public import Idealize.ShloMosaic.Lib.TopK.GroupedStream

@[expose] public section

set_option maxRecDepth 16384

noncomputable section

namespace Cert.KernelIdeal.Mixer

open Idealize.ShloMosaic Idealize.ShloMosaic.TcCoe
open Cert.KernelIdeal.Gen

/-! ### The masks -/

/-- The pairs whose positions meet at level `l`, the later one first. -/
def meets (l t u : ℕ) : Prop := t / 8 = u / 8 ∧ u % 8 < t % 8 ∧ meet (t % 8) (u % 8) = l

instance (l t u : ℕ) : Decidable (meets l t u) := by unfold meets; infer_instance

theorem maskEye_apply (t u : Fin 64) : maskEye (ix3 0 t u) = 1#1 ↔ t = u := by
  unfold maskEye k0_pay899 k0_pay897
  pointwise!
  revert t u
  decide +kernel

theorem mask0_apply (t u : Fin 64) : mask0 (ix3 0 t u) = 1#1 ↔ meets 0 t.val u.val := by
  unfold mask0 k0_pay901 k0_pay891 k0_pay890
  pointwise!
  revert t u
  decide +kernel

theorem mask1_apply (t u : Fin 64) : mask1 (ix3 0 t u) = 1#1 ↔ meets 1 t.val u.val := by
  unfold mask1 k0_pay903 k0_pay892 k0_pay890
  pointwise!
  revert t u
  decide +kernel

theorem mask2_apply (t u : Fin 64) : mask2 (ix3 0 t u) = 1#1 ↔ meets 2 t.val u.val := by
  unfold mask2 k0_pay906 k0_pay896 k0_pay893 k0_pay894 k0_pay895 k0_pay890
  pointwise!
  revert t u
  decide +kernel

theorem meets_bits : ∀ (l : Fin 3) (t u : Fin 64), meets l.val t.val u.val → bit l.val t.val = 1 ∧ bit l.val u.val = 0 := by
  decide +kernel

/-! ### One masked store -/

section store

variable (arg16 : Memref sig .tc .vmem S8x64x64 .f32)

theorem sc_emb (N : ℕ) (h : N < 8) (z : Fin 1) (t u : Fin 64) :
    (scRect N h).emb (ix3 z t u) = ix3 ⟨N, h⟩ t u := by
  funext a
  apply Fin.ext
  match a with
  | 0 => exact (show N + 1 * z.val = N by omega)
  | 1 => exact (show 0 + 1 * t.val = t.val by omega)
  | 2 => exact (show 0 + 1 * u.val = u.val by omega)

theorem store_hit (N : ℕ) (h : N < 8) (f : arg16.view.ty.Contents (Elt Ideal)) (w : Vec Ideal S1x64x64 .f32) (mk : IVec S1x64x64 1)
    (t u : Fin 64) (hm : mk (ix3 0 t u) = 1#1) :
    arg16.view.read (Elt Ideal) (View.write (Elt Ideal) (arg16.access (scRect N h)) f w mk.on) (ix3 ⟨N, h⟩ t u) = w (ix3 0 t u) := by
  have e := View.read_slice_write_emb (Val := Elt Ideal) (v := arg16.view) (scRect N h) f w (M := mk.on) (x := ix3 0 t u) ((IVec.mem_on_iff mk _).mpr hm)
  rw [sc_emb] at e
  exact e

theorem store_miss (N : ℕ) (h : N < 8) (f : arg16.view.ty.Contents (Elt Ideal)) (w : Vec Ideal S1x64x64 .f32) (mk : IVec S1x64x64 1)
    (t u : Fin 64) (hm : ¬mk (ix3 0 t u) = 1#1) :
    arg16.view.read (Elt Ideal) (View.write (Elt Ideal) (arg16.access (scRect N h)) f w mk.on) (ix3 ⟨N, h⟩ t u)
      = arg16.view.read (Elt Ideal) f (ix3 ⟨N, h⟩ t u) := by
  refine View.read_slice_write_of_not_mem (Val := Elt Ideal) (v := arg16.view) (scRect N h) f w mk.on fun hy => ?_
  obtain ⟨x, hx, e⟩ := Finset.mem_map.mp hy
  obtain ⟨z, t', u', rfl⟩ : ∃ (z : Fin 1) (t' u' : Fin 64), x = ix3 z t' u' := ⟨_, _, _, eq_ix3 x⟩
  rw [sc_emb] at e
  have ht : t' = t := congrFun e 1
  have hu : u' = u := congrFun e 2
  have hz : z = 0 := Subsingleton.elim _ _
  subst ht hu hz
  exact hm ((IVec.mem_on_iff mk _).mp hx)

theorem store_other (N N' : ℕ) (h : N < 8) (h' : N' < 8) (hne : N' ≠ N) (f : arg16.view.ty.Contents (Elt Ideal)) (w : Vec Ideal S1x64x64 .f32)
    (mk : IVec S1x64x64 1) (t u : Fin 64) :
    arg16.view.read (Elt Ideal) (View.write (Elt Ideal) (arg16.access (scRect N h)) f w mk.on) (ix3 ⟨N', h'⟩ t u)
      = arg16.view.read (Elt Ideal) f (ix3 ⟨N', h'⟩ t u) := by
  refine View.read_slice_write_of_not_mem (Val := Elt Ideal) (v := arg16.view) (scRect N h) f w mk.on fun hy => ?_
  obtain ⟨x, hx, e⟩ := Finset.mem_map.mp hy
  obtain ⟨z, t', u', rfl⟩ : ∃ (z : Fin 1) (t' u' : Fin 64), x = ix3 z t' u' := ⟨_, _, _, eq_ix3 x⟩
  rw [sc_emb] at e
  have hn : (⟨N, h⟩ : Fin 8) = ⟨N', h'⟩ := congrFun e 0
  exact hne (congrArg Fin.val hn).symm

end store

section

variable (c : Dev nD) (arg1 : Memref sig .tc .vmem S64x5120 .f32) (harg1 : arg1.IsWhole)
  (arg4 : Memref sig .tc .vmem S2x1024 .f32) (harg4 : arg4.IsWhole)
  (arg12 : Memref sig .tc .vmem S3x8x64x128 .f32) (arg13 : Memref sig .tc .vmem S128x8x128 .f32)
  (arg14 : Memref sig .tc .vmem S2x64x1024 .bf16)
  (arg15 : Memref sig .tc .vmem S5x512x128 .f32)
  (arg16 : Memref sig .tc .vmem S8x64x64 .f32) (harg16 : arg16.IsWhole)
  (x0 : Vec Ideal S64x5120 .f32) (x3 : Vec Ideal S2x1024 .f32) (s0 : Vec Ideal S8x64x64 .f32)

/-- The score of tokens `t` and `u`: the query times the key, each entry carried by the gates between them; zero
    unless `u` is a token of the same sequence, not later than `t`. -/
def scV (n : Fin 8) (t u : ℕ) : EReal :=
  if t / 8 = u / 8 ∧ u % 8 ≤ t % 8 then
    ∑ k : Fin 128, gv arg1 harg1 arg4 harg4 x0 x3 0 n.val t k * gv arg1 harg1 arg4 harg4 x0 x3 1 n.val u k
      * ∏ w ∈ Finset.Ioc (u % 8) (t % 8), fgs arg1 harg1 arg4 harg4 x0 x3 n k (8 * (t / 8) + w)
  else 0

theorem eyeF_apply (q k : FVec Ideal S64x128 .bf16) (t u : Fin 64) :
    shapeCast S1x64x64 (matmul dot_S64x128_S64x128_S64x64_1_1_0_0_n_n none q k (constant S64x64 .f32 0x00000000#32)) shapeCasts_S64x64_S1x64x64 (ix3 0 t u)
      = ∑ x : Fin 128, q (ix2 t x) * k (ix2 u x) := by
  pointwise!

theorem levF_apply (q : FVec Ideal S1x64x128 .f32) (t u : Fin 64) :
    shapeCast S1x64x64 (matmul dot_S64x128_S64x128_S64x64_1_1_0_0_n_n none
      (truncf .bf16 (shapeCast S64x128 q shapeCasts_S1x64x128_S64x128) bitsLt_bf16_f32)
      (truncf .bf16 (shapeCast S64x128 q shapeCasts_S1x64x128_S64x128) bitsLt_bf16_f32)
      (constant S64x64 .f32 0x00000000#32)) shapeCasts_S64x64_S1x64x64 (ix3 0 t u)
      = ∑ x : Fin 128, q (ix3 0 t x) * q (ix3 0 u x) := by
  pointwise!

theorem payEye_apply (n : ℕ) (h : n < 8) (t : Fin 64) :
    payEye c arg1 harg1 arg4 harg4 arg14 x0 x3 n h (ix3 0 t t) = scV arg1 harg1 arg4 harg4 x0 x3 ⟨n, h⟩ t.val t.val := by
  unfold payEye scV
  rw [eyeF_apply, if_pos ⟨rfl, le_rfl⟩]
  refine Finset.sum_congr rfl fun k _ => ?_
  rw [qkRows_apply, qkRows_apply, Finset.Ioc_self, Finset.prod_empty, mul_one]

theorem payLev_apply (l n : ℕ) (hl : l < 3) (h : n < 8) (t u : Fin 64) (hm : meets l t.val u.val) :
    payLev c arg1 harg1 arg4 harg4 arg12 arg13 arg15 x0 x3 l n (by omega) h (ix3 0 t u) = scV arg1 harg1 arg4 harg4 x0 x3 ⟨n, h⟩ t.val u.val := by
  obtain ⟨bt, bu⟩ := meets_bits ⟨l, hl⟩ t u hm
  unfold payLev scV
  rw [levF_apply, if_pos ⟨hm.1, hm.2.1.le⟩]
  refine Finset.sum_congr rfl fun k _ => ?_
  rw [levRow_query c arg1 harg1 arg4 harg4 arg12 arg13 arg15 x0 x3 l n hl h 0 t k bt, levRow_key c arg1 harg1 arg4 harg4 arg12 arg13 arg15 x0 x3 l n hl h 0 u k bu]
  have e := pair_prod (fun w => fgs arg1 harg1 arg4 harg4 x0 x3 ⟨n, h⟩ k (8 * (t.val / 8) + w)) (t.val % 8) (u.val % 8) (Nat.mod_lt _ (by decide)) hm.2.1
  rw [hm.2.2, ← preE_block _ (t.val / 8) (t.val % 8) (by omega) (Nat.mod_lt _ (by decide)),
    ← sufE_block _ (t.val / 8) (u.val % 8) (by omega) (Nat.mod_lt _ (by decide)),
    show 8 * (t.val / 8) + t.val % 8 = t.val by omega, show 8 * (t.val / 8) + u.val % 8 = u.val by have := hm.1; omega] at e
  rw [← e]
  exact mul_mul_mul_comm _ _ _ _

/-- Off the causal pairs a table of scores is zero. -/
def OffZero (s : Vec Ideal S8x64x64 .f32) : Prop :=
  ∀ (n : Fin 8) (t u : Fin 64), ¬(t.val / 8 = u.val / 8 ∧ u.val % 8 ≤ t.val % 8) → s (ix3 n t u) = (0 : EReal)

theorem level_cases (t u : Fin 64) (h : t.val / 8 = u.val / 8 ∧ u.val % 8 ≤ t.val % 8) :
    t = u ∨ meets 0 t.val u.val ∨ meets 1 t.val u.val ∨ meets 2 t.val u.val := by
  revert t u; decide +kernel

theorem meets_causal {l : ℕ} {t u : Fin 64} (h : meets l t.val u.val) : t.val / 8 = u.val / 8 ∧ u.val % 8 ≤ t.val % 8 := ⟨h.1, h.2.1.le⟩

theorem meets_ne {l l' t u : ℕ} (h : meets l t u) (hne : l ≠ l') : ¬meets l' t u := fun h' => hne (h.2.2.symm.trans h'.2.2)

theorem not_meets_self (l t : ℕ) : ¬meets l t t := fun h => lt_irrefl _ h.2.1

/-- The table of scores after `N` heads: the scores of those heads, and what was there of the others. -/
theorem scW_apply (hs : OffZero s0) : ∀ (N : ℕ) (hN : N ≤ 8) (n : Fin 8) (t u : Fin 64),
    arg16.view.read (Elt Ideal) (scW c arg1 harg1 arg4 harg4 arg12 arg13 arg14 arg15 arg16 harg16 x0 x3 s0 N hN) (ix3 n t u)
      = if n.val < N then scV arg1 harg1 arg4 harg4 x0 x3 n t.val u.val else s0 (ix3 n t u)
  | 0, _, n, t, u => by
    rw [scW, if_neg (Nat.not_lt_zero _), harg16.read_unread]
  | N + 1, hN, n, t, u => by
    have ih := scW_apply hs N (by omega) n t u
    rw [scW]
    obtain ⟨n, hn⟩ := n
    by_cases e : n = N
    · subst e
      rw [if_pos (by exact Nat.lt_succ_self _)]
      rw [if_neg (by exact lt_irrefl _)] at ih
      by_cases h2 : meets 2 t.val u.val
      · rw [store_hit _ _ _ _ _ _ _ _ ((mask2_apply t u).mpr h2)]
        exact payLev_apply c arg1 harg1 arg4 harg4 arg12 arg13 arg15 x0 x3 2 n (by decide) hn t u h2
      rw [store_miss _ _ _ _ _ _ _ _ (fun e => h2 ((mask2_apply t u).mp e))]
      by_cases h1 : meets 1 t.val u.val
      · rw [store_hit _ _ _ _ _ _ _ _ ((mask1_apply t u).mpr h1)]
        exact payLev_apply c arg1 harg1 arg4 harg4 arg12 arg13 arg15 x0 x3 1 n (by decide) hn t u h1
      rw [store_miss _ _ _ _ _ _ _ _ (fun e => h1 ((mask1_apply t u).mp e))]
      by_cases h0 : meets 0 t.val u.val
      · rw [store_hit _ _ _ _ _ _ _ _ ((mask0_apply t u).mpr h0)]
        exact payLev_apply c arg1 harg1 arg4 harg4 arg12 arg13 arg15 x0 x3 0 n (by decide) hn t u h0
      rw [store_miss _ _ _ _ _ _ _ _ (fun e => h0 ((mask0_apply t u).mp e))]
      by_cases hd : t = u
      · subst hd
        rw [store_hit _ _ _ _ _ _ _ _ ((maskEye_apply t t).mpr rfl)]
        exact payEye_apply c arg1 harg1 arg4 harg4 arg14 x0 x3 n hn t
      rw [store_miss _ _ _ _ _ _ _ _ (fun e => hd ((maskEye_apply t u).mp e)), ih]
      have hnc : ¬(t.val / 8 = u.val / 8 ∧ u.val % 8 ≤ t.val % 8) := fun hc => by
        rcases level_cases t u hc with h | h | h | h
        exacts [hd h, h0 h, h1 h, h2 h]
      rw [hs _ t u hnc, scV, if_neg hnc]
    · rw [store_other _ N n _ hn e, store_other _ N n _ hn e, store_other _ N n _ hn e, store_other _ N n _ hn e, ih]
      exact if_congr (by show n < N ↔ n < N + 1; omega) rfl rfl

/-- The scores a head reads back. -/
theorem scores_apply (hs : OffZero s0) (n : ℕ) (h : n < 8) (t u : Fin 64) :
    scores c arg1 harg1 arg4 harg4 arg12 arg13 arg14 arg15 arg16 harg16 x0 x3 s0 n h (ix2 t u) = scV arg1 harg1 arg4 harg4 x0 x3 ⟨n, h⟩ t.val u.val := by
  unfold scores
  generalize hw : scW c arg1 harg1 arg4 harg4 arg12 arg13 arg14 arg15 arg16 harg16 x0 x3 s0 (n + 1) h = f
  have e := scW_apply c arg1 harg1 arg4 harg4 arg12 arg13 arg14 arg15 arg16 harg16 x0 x3 s0 hs (n + 1) h ⟨n, h⟩ t u
  rw [hw, if_pos (by exact Nat.lt_succ_self n)] at e
  rw [← e]
  have e2 : ∀ w : Vec Ideal S1x64x64 .f32, shapeCast S64x64 w shapeCasts_S1x64x64_S64x64 (ix2 t u) = w (ix3 0 t u) := by
    intro w; pointwise!
  rw [e2]
  exact congrArg (arg16.view.read (Elt Ideal) f) (sc_emb n h 0 t u)

/-- The table stays zero off the causal pairs. -/
theorem scW_offZero (hs : OffZero s0) :
    OffZero (arg16.view.read (Elt Ideal) (scW c arg1 harg1 arg4 harg4 arg12 arg13 arg14 arg15 arg16 harg16 x0 x3 s0 8 le_rfl)) := fun n t u h => by
  rw [scW_apply c arg1 harg1 arg4 harg4 arg12 arg13 arg14 arg15 arg16 harg16 x0 x3 s0 hs, if_pos n.isLt, scV, if_neg h]

end

end Cert.KernelIdeal.Mixer
-- ==== Proof.MixBlk.lean ====
/-
  The blocks the sampling mixer's grid points read, in terms of the program's arguments.
-/
module

public import proofs.«01_k».proof.Proof.Launch
public import proofs.«01_k».proof.Proof.MixScore

@[expose] public section

set_option maxRecDepth 65536

noncomputable section

namespace Cert.KernelIdeal.Mixer

open Idealize.ShloMosaic Idealize.ShloMosaic.TcCoe Idealize.ShloMosaic.Tactic
open Cert.KernelIdeal.Gen

variable (m : (ℓ : Loc nD τ sig) → Buf (Elt Ideal) ℓ)

/-! ### What the host operations before the launch leave -/

theorem V_v1 (c : Dev nD) (g : Fin 4) (x j : Fin 256) : V m c main_v1 (ix3 g x j) = m ((c : Thread nD τ).loc main_arg4) (ix4 0 g x j) := by
  show StableHlo.after hostOps0 (fun b => m (c, b)) (Proc.devRef .tc main_v1) (ix3 g x j) = _
  unfold_abbrev_sides
  after_results
  pointwise!

theorem V_v3 (c : Dev nD) (j : Fin 1024) : V m c main_v3 (ix2 0 j) = m ((c : Thread nD τ).loc main_arg5) (ix2 0 j) := by
  show StableHlo.after hostOps0 (fun b => m (c, b)) (Proc.devRef .tc main_v3) (ix2 0 j) = _
  unfold_abbrev_sides
  after_results
  pointwise!

theorem V_v5 (c : Dev nD) (j : Fin 1024) : V m c main_v5 (ix2 0 j) = m ((c : Thread nD τ).loc main_arg6) (ix2 0 j) := by
  show StableHlo.after hostOps0 (fun b => m (c, b)) (Proc.devRef .tc main_v5) (ix2 0 j) = _
  unfold_abbrev_sides
  after_results
  pointwise!

theorem V_v6 (c : Dev nD) (r : Fin 15) (b : Fin 128) (j : Fin 1024) : V m c main_v6 (ix4 0 r b j) = m ((c : Thread nD τ).loc main_arg1) (ix4 0 b r j) := by
  show StableHlo.after hostOps0 (fun b => m (c, b)) (Proc.devRef .tc main_v6) (ix4 0 r b j) = _
  unfold_abbrev_sides
  after_results
  pointwise!

theorem V_v7 (c : Dev nD) (b : Fin 128) (n : Fin 8) (i j : Fin 128) : V m c main_v7 (ix4 b n i j) = m ((c : Thread nD τ).loc main_arg2) (ix5 0 b n i j) := by
  show StableHlo.after hostOps0 (fun b => m (c, b)) (Proc.devRef .tc main_v7) (ix4 b n i j) = _
  unfold_abbrev_sides
  after_results
  pointwise!

/-! ### The windows' blocks -/

theorem idx_mix : ∀ t : Fin cfg0.N, win0_0.index t = ![t.val, 0] ∧ win0_1.index t = ![0, 0, t.val, 0] ∧ win0_2.index t = ![t.val, 0, 0, 0]
    ∧ win0_3.index t = ![0, 0] ∧ win0_4.index t = ![0, 0, 0] ∧ win0_5.index t = ![0, 0] ∧ win0_6.index t = ![0, 0] :=
  (by decide +kernel : ∀ t : Fin grid0.N, _)

theorem idx_out : ∀ t : Fin cfg0.N, win0_7.index t = ![t.val, 0] ∧ win0_8.index t = ![0, t.val, 0] ∧ win0_9.index t = ![t.val, 0, 0, 0]
    ∧ (cfg0.win 7).flush t = true ∧ (cfg0.win 8).flush t = true ∧ (cfg0.win 9).flush t = true :=
  (by decide +kernel : ∀ t : Fin grid0.N, _)

theorem blk0 (c : Dev nD) (t : Fin cfg0.N) (r : Fin 64) (k : Fin 5120) (R : Fin 1024) (hR : R.val = 64 * t.val + r.val) :
    iblk m c 0 t (ix2 r k) = m ((c : Thread nD τ).loc main_arg0) (ix2 R k) := by
  obtain ⟨e0, e1, e2, e3, e4, e5, e6⟩ := idx_mix t
  have : ((cfg0.win 0).blk t).view.emb (ix2 r k) = ix2 R k := by
    funext a; apply Fin.ext
    match a with
    | ⟨0, _⟩ => show win0_0.index t (0 : Fin 2) * 64 + 1 * r.val = R.val; rw [e0, hR]; show t.val * 64 + _ = _; omega
    | ⟨1, _⟩ => show win0_0.index t (1 : Fin 2) * 5120 + 1 * k.val = k.val; rw [e0]; show 0 * 5120 + _ = _; omega
  exact (congrArg (V m c main_arg0) this).trans (congrFun (V_main_arg0 m c) _)

theorem blk1 (c : Dev nD) (t : Fin cfg0.N) (r : Fin 15) (b : Fin 8) (j : Fin 1024) (B : Fin 128) (hB : B.val = 8 * t.val + b.val) :
    iblk m c 1 t (ix4 0 r b j) = m ((c : Thread nD τ).loc main_arg1) (ix4 0 B r j) := by
  obtain ⟨e0, e1, e2, e3, e4, e5, e6⟩ := idx_mix t
  have : ((cfg0.win 1).blk t).view.emb (ix4 0 r b j) = ix4 0 r B j := by
    funext a; apply Fin.ext
    match a with
    | ⟨0, _⟩ => show win0_1.index t (0 : Fin 4) * 1 + 1 * 0 = 0; rw [e1]; rfl
    | ⟨1, _⟩ => show win0_1.index t (1 : Fin 4) * 15 + 1 * r.val = r.val; rw [e1]; show 0 * 15 + _ = _; omega
    | ⟨2, _⟩ => show win0_1.index t (2 : Fin 4) * 8 + 1 * b.val = B.val; rw [e1, hB]; show t.val * 8 + _ = _; omega
    | ⟨3, _⟩ => show win0_1.index t (3 : Fin 4) * 1024 + 1 * j.val = j.val; rw [e1]; show 0 * 1024 + _ = _; omega
  exact (congrArg (V m c main_v6) this).trans (V_v6 m c r B j)

theorem blk2 (c : Dev nD) (t : Fin cfg0.N) (b n : Fin 8) (i j : Fin 128) (B : Fin 128) (hB : B.val = 8 * t.val + b.val) :
    iblk m c 2 t (ix4 b n i j) = m ((c : Thread nD τ).loc main_arg2) (ix5 0 B n i j) := by
  obtain ⟨e0, e1, e2, e3, e4, e5, e6⟩ := idx_mix t
  have : ((cfg0.win 2).blk t).view.emb (ix4 b n i j) = ix4 B n i j := by
    funext a; apply Fin.ext
    match a with
    | ⟨0, _⟩ => show win0_2.index t (0 : Fin 4) * 8 + 1 * b.val = B.val; rw [e2, hB]; show t.val * 8 + _ = _; omega
    | ⟨1, _⟩ => show win0_2.index t (1 : Fin 4) * 8 + 1 * n.val = n.val; rw [e2]; show 0 * 8 + _ = _; omega
    | ⟨2, _⟩ => show win0_2.index t (2 : Fin 4) * 128 + 1 * i.val = i.val; rw [e2]; show 0 * 128 + _ = _; omega
    | ⟨3, _⟩ => show win0_2.index t (3 : Fin 4) * 128 + 1 * j.val = j.val; rw [e2]; show 0 * 128 + _ = _; omega
  exact (congrArg (V m c main_v7) this).trans (V_v7 m c B n i j)

theorem blk3 (c : Dev nD) (t : Fin cfg0.N) (a : Fin 2) (j : Fin 1024) :
    iblk m c 3 t (ix2 a j) = m ((c : Thread nD τ).loc main_arg3) (ix2 a j) := by
  obtain ⟨e0, e1, e2, e3, e4, e5, e6⟩ := idx_mix t
  have : ((cfg0.win 3).blk t).view.emb (ix2 a j) = ix2 a j := by
    funext z; apply Fin.ext
    match z with
    | ⟨0, _⟩ => show win0_3.index t (0 : Fin 2) * 2 + 1 * a.val = a.val; rw [e3]; show 0 * 2 + _ = _; omega
    | ⟨1, _⟩ => show win0_3.index t (1 : Fin 2) * 1024 + 1 * j.val = j.val; rw [e3]; show 0 * 1024 + _ = _; omega
  exact (congrArg (V m c main_arg3) this).trans (congrFun (V_main_arg3 m c) _)

theorem blk4 (c : Dev nD) (t : Fin cfg0.N) (g : Fin 4) (x j : Fin 256) :
    iblk m c 4 t (ix3 g x j) = m ((c : Thread nD τ).loc main_arg4) (ix4 0 g x j) := by
  obtain ⟨e0, e1, e2, e3, e4, e5, e6⟩ := idx_mix t
  have : ((cfg0.win 4).blk t).view.emb (ix3 g x j) = ix3 g x j := by
    funext a; apply Fin.ext
    match a with
    | ⟨0, _⟩ => show win0_4.index t (0 : Fin 3) * 4 + 1 * g.val = g.val; rw [e4]; show 0 * 4 + _ = _; omega
    | ⟨1, _⟩ => show win0_4.index t (1 : Fin 3) * 256 + 1 * x.val = x.val; rw [e4]; show 0 * 256 + _ = _; omega
    | ⟨2, _⟩ => show win0_4.index t (2 : Fin 3) * 256 + 1 * j.val = j.val; rw [e4]; show 0 * 256 + _ = _; omega
  exact (congrArg (V m c main_v1) this).trans (V_v1 m c g x j)

theorem blk5 (c : Dev nD) (t : Fin cfg0.N) (j : Fin 1024) :
    iblk m c 5 t (ix2 0 j) = m ((c : Thread nD τ).loc main_arg5) (ix2 0 j) := by
  obtain ⟨e0, e1, e2, e3, e4, e5, e6⟩ := idx_mix t
  have : ((cfg0.win 5).blk t).view.emb (ix2 0 j) = ix2 0 j := by
    funext a; apply Fin.ext
    match a with
    | ⟨0, _⟩ => show win0_5.index t (0 : Fin 2) * 1 + 1 * 0 = 0; rw [e5]; rfl
    | ⟨1, _⟩ => show win0_5.index t (1 : Fin 2) * 1024 + 1 * j.val = j.val; rw [e5]; show 0 * 1024 + _ = _; omega
  exact (congrArg (V m c main_v3) this).trans (V_v3 m c j)

theorem blk6 (c : Dev nD) (t : Fin cfg0.N) (j : Fin 1024) :
    iblk m c 6 t (ix2 0 j) = m ((c : Thread nD τ).loc main_arg6) (ix2 0 j) := by
  obtain ⟨e0, e1, e2, e3, e4, e5, e6⟩ := idx_mix t
  have : ((cfg0.win 6).blk t).view.emb (ix2 0 j) = ix2 0 j := by
    funext a; apply Fin.ext
    match a with
    | ⟨0, _⟩ => show win0_6.index t (0 : Fin 2) * 1 + 1 * 0 = 0; rw [e6]; rfl
    | ⟨1, _⟩ => show win0_6.index t (1 : Fin 2) * 1024 + 1 * j.val = j.val; rw [e6]; show 0 * 1024 + _ = _; omega
  exact (congrArg (V m c main_v5) this).trans (V_v5 m c j)

/-! ### The table of scores between points -/

theorem zeroTab_apply (n : Fin 8) (t u : Fin 64) : (zeroTab : Vec Ideal S8x64x64 .f32) (ix3 n t u) = (0 : EReal) := by
  unfold zeroTab
  pointwise!

/-- Outside the blocks of each sequence the table is zero at every point. -/
theorem scAt_offZero (c : Dev nD) : ∀ (n : ℕ) (h : n ≤ cfg0.N), OffZero (scAt m c n h)
  | 0, _ => fun n t u _ => zeroTab_apply n t u
  | n + 1, h => scW_offZero c (ms1 ⟨n, h⟩) (hs1 ⟨n, h⟩) (ms4 ⟨n, h⟩) (hs4 ⟨n, h⟩) sM12 sM13 sM14 sM15 sM16 (Memref.isWhole_whole _) (iblk m c 0 ⟨n, h⟩) (iblk m c 3 ⟨n, h⟩) _ (scAt_offZero c n _)

end Cert.KernelIdeal.Mixer

end
-- ==== Proof.MixPoint.lean ====
/-
  What one grid point of the sampling mixer writes, entry by entry.
-/
module

public import proofs.«01_k».proof.Proof.MixScore

@[expose] public section

set_option maxRecDepth 16384

noncomputable section

namespace Cert.KernelIdeal.Mixer

open Idealize.ShloMosaic Idealize.ShloMosaic.TcCoe
open Cert.KernelIdeal.Gen

theorem outF_apply (sc : FVec Ideal S64x64 .f32) (v : FVec Ideal S64x128 .f32) (q : FVec Ideal S1x64x128 .f32) (st : FVec Ideal S8x128x128 .f32)
    (b s : Fin 8) (j : Fin 128) :
    outF sc v q st (ix2 ⟨b.val * 8 + s.val, by omega⟩ j) = (∑ u : Fin 64, sc (ix2 ⟨b.val * 8 + s.val, by omega⟩ u) * v (ix2 u j))
      + ∑ k : Fin 128, q (ix3 0 ⟨b.val * 8 + s.val, by omega⟩ k) * st (ix3 b k j) := by
  unfold outF
  pointwise!

theorem stF_apply (n : ℕ) (h : n < 8) (d : FVec Ideal S8x128x8 .f32) (v : FVec Ideal S64x128 .f32) (k : FVec Ideal S1x64x128 .f32) (st : FVec Ideal S8x128x128 .f32)
    (b : Fin 8) (i j : Fin 128) :
    stF n h d v k st (ix3 b i j) = d (ix3 b i ⟨n, h⟩) * st (ix3 b i j)
      + ∑ s : Fin 8, k (ix3 0 ⟨b.val * 8 + s.val, by omega⟩ i) * v (ix2 ⟨b.val * 8 + s.val, by omega⟩ j) := by
  unfold stF
  pointwise!

theorem pay911_apply (o g : FVec Ideal S64x128 .f32) (w : FVec Ideal S1x128 .f32) (t : Fin 64) (j : Fin 128) :
    k0_pay911 o g w (ix2 t j) = o (ix2 t j)
      * Ideal.rsqrt (Ideal.div (∑ x : Fin 128, o (ix2 t x) * o (ix2 t x)) (Ideal.ofBits FTy.f32 1124073472#32) + Ideal.ofBits FTy.f32 897988541#32)
      * w (ix2 0 j) * (fun z => z * sg z) (g (ix2 t j)) := by
  unfold k0_pay911 sg
  pointwise!

theorem poolF_apply (g : ℕ) (h : g < 4) (ws : FVec Ideal S8x8x256 .f32) (u : FVec Ideal S64x1024 .f32) (wp : FVec Ideal S1x256x256 .bf16) (ps : FVec Ideal S1x256 .f32)
    (b s : Fin 8) (j : Fin 256) :
    poolF g h ws u wp ps (ix2 ⟨b.val * 8 + s.val, by omega⟩ j)
      = (∑ x : Fin 256, (Ideal.div (Ideal.div (ws (ix3 s b x)) (FloatOps.sitofp (F := Ideal) FTy.f32 (IntOp.minsi (IntOp.addi (IntOp.addi (16384#32) (BitVec.ofNat 32 s.val)) 1#32) (BitVec.ofNat 32 (2 ^ (g + 1)))))) 1
          - u (ix2 ⟨b.val * 8 + s.val, by omega⟩ ⟨g * 256 + x.val, by omega⟩)) * wp (ix3 0 x j)) * ps (ix2 0 j) := by
  unfold poolF k0_pay6
  pointwise!

section
variable (p0 p1 p2 p3 p4 p5 p6 p7 : FVec Ideal S8x128 .f32)
theorem pay889_apply (b n : Fin 8) (k : Fin 128) :
    k0_pay889 p0 p1 p2 p3 p4 p5 p6 p7 (ix3 b k n) = (![p0, p1, p2, p3, p4, p5, p6, p7] b) (ix2 n k) := by
  fin_cases b <;> unfold k0_pay889 <;> pointwise!
end

theorem pay4_apply (x : Vec Ideal S1x15x8x1024 .f32) (r : Fin 15) (b : Fin 8) (j : Fin 1024) : k0_pay4 x (ix3 r b j) = x (ix4 0 r b j) := by
  unfold k0_pay4
  pointwise!

theorem pay5_apply (x : Vec Ideal S64x1024 .f32) (s : Fin 8) (b : Fin 8) (j : Fin 1024) : k0_pay5 x (ix3 s b j) = x (ix2 ⟨b.val * 8 + s.val, by omega⟩ j) := by
  unfold k0_pay5
  pointwise!

end Cert.KernelIdeal.Mixer
-- ==== Proof.MixRef.lean ====
/-
  The reference of the sampling mixer over the extended reals, entry by entry.
-/
module

public import proofs.«01_k».proof.Proof.MixGate
public import proofs.«01_k».proof.Proof.Gen.ReferenceIdeal.Read

@[expose] public section

set_option maxRecDepth 16384

noncomputable section

namespace Cert.KernelIdeal.Mixer

open Idealize.ShloMosaic Idealize.ShloMosaic.TcCoe
open Cert.ReferenceIdeal Cert.ReferenceIdeal.Read Cert.ReferenceIdeal.Gen

/-! ### The running sums -/

theorem foldl_add_sum {n : ℕ} (g : Fin n → EReal) : (List.finRange n).foldl (fun r m => r + g m) 0 = ∑ m, g m := by
  rw [Fin.sum_univ_def, List.sum_eq_foldl, List.foldl_map]

theorem win2_idx : ∀ (m : Fin 2) (a : Fin 2), (((⟨2, ![2, 1]⟩ : Shape).rowMajor.symm m) a).val = (![m.val, 0] : Fin 2 → ℕ) a := by
  decide

theorem win8_idx : ∀ (m : Fin 8) (a : Fin 4), (((⟨4, ![1, 1, 8, 1]⟩ : Shape).rowMajor.symm m) a).val = (![0, 0, m.val, 0] : Fin 4 → ℕ) a := by
  decide

theorem cumsum2_apply (x : FVec Ideal S2x1024 .f32) (init : FVec Ideal S_ .f32) (hi : init ix0 = (0 : EReal)) (j : Fin 1024) :
    Host.reduceWindowAdd ![2, 1] ![1, 1] ![1, 0] ![0, 0] x init reduceWindows_S2x1024_S2x1024_w2s1p1_0_w1s1p0_0 h_S_ (ix2 0 j) = x (ix2 0 j) := by
  unfold Host.reduceWindowAdd
  rw [Ideal.hostReduceWindowAdd_def]
  unfold Ideal.hostReduceWindowAdd Host.reduceWindow
  have h0 : init (Shape.Idx.first h_S_) = (0 : EReal) := (congrArg init (Subsingleton.elim _ _)).trans hi
  simp only [h0]
  refine (foldl_add_sum (n := 2) _).trans ?_
  rw [Fin.sum_univ_two, dif_neg, dif_pos, zero_add]
  · congr 1
    funext a
    apply Fin.ext
    show (ix2 0 j (Fin.cast _ a)).val * ![1, 1] a + ((⟨2, ![2, 1]⟩ : Shape).rowMajor.symm (1 : Fin 2) a).val - ![1, 0] a = (ix2 0 j a).val
    rw [win2_idx]
    match a with
    | 0 => rfl
    | 1 => exact (show j.val * 1 + 0 - 0 = j.val by omega)
  · intro a
    rw [win2_idx]
    match a with
    | 0 => exact (show 1 ≤ 0 * 1 + 1 ∧ 0 * 1 + 1 - 1 < 2 by omega)
    | 1 => exact (show 0 ≤ j.val * 1 + 0 ∧ j.val * 1 + 0 - 0 < 1024 by omega)
  · intro h
    have h' := (h 0).1
    rw [win2_idx] at h'
    exact absurd (show 1 ≤ 0 * 1 + 0 from h') (by omega)

theorem cumsum8_apply (x : FVec Ideal S128x8x8x128 .f32) (init : FVec Ideal S_ .f32) (hi : init ix0 = (0 : EReal)) (b : Fin 128) (n t : Fin 8) (k : Fin 128) :
    Host.reduceWindowAdd ![1, 1, 8, 1] ![1, 1, 1, 1] ![0, 0, 7, 0] ![0, 0, 0, 0] x init
      reduceWindows_S128x8x8x128_S128x8x8x128_w1s1p0_0_w1s1p0_0_w8s1p7_0_w1s1p0_0 h_S_ (ix4 b n t k)
      = ∑ m : Fin 8, if h : 7 ≤ t.val + m.val then x (ix4 b n ⟨t.val + m.val - 7, by omega⟩ k) else (0 : EReal) := by
  unfold Host.reduceWindowAdd
  rw [Ideal.hostReduceWindowAdd_def]
  unfold Ideal.hostReduceWindowAdd Host.reduceWindow
  have h0 : init (Shape.Idx.first h_S_) = (0 : EReal) := (congrArg init (Subsingleton.elim _ _)).trans hi
  simp only [h0]
  refine (foldl_add_sum (n := 8) _).trans (Finset.sum_congr rfl fun m _ => ?_)
  simp only [win8_idx]
  by_cases h : 7 ≤ t.val + m.val
  · rw [dif_pos h, dif_pos]
    · congr 1
      funext a
      apply Fin.ext
      match a with
      | 0 => exact (show b.val * 1 + 0 - 0 = b.val by omega)
      | 1 => exact (show n.val * 1 + 0 - 0 = n.val by omega)
      | 2 => exact (show t.val * 1 + m.val - 7 = t.val + m.val - 7 by omega)
      | 3 => exact (show k.val * 1 + 0 - 0 = k.val by omega)
    · intro a
      match a with
      | 0 => exact (show 0 ≤ b.val * 1 + 0 ∧ b.val * 1 + 0 - 0 < 128 by omega)
      | 1 => exact (show 0 ≤ n.val * 1 + 0 ∧ n.val * 1 + 0 - 0 < 8 by omega)
      | 2 => exact (show 7 ≤ t.val * 1 + m.val ∧ t.val * 1 + m.val - 7 < 8 by omega)
      | 3 => exact (show 0 ≤ k.val * 1 + 0 ∧ k.val * 1 + 0 - 0 < 128 by omega)
  · rw [dif_neg h, dif_neg]
    intro h'
    exact h (by have := (h' 2).1; have : 7 ≤ t.val * 1 + m.val := this; omega)

/-! ### The gates -/

section

variable (x0 : (⟨S1024x5120, .f32⟩ : BufTy).Contents (Elt Ideal)) (x1 : (⟨S1x128x15x1024, .f32⟩ : BufTy).Contents (Elt Ideal))
  (x2 : (⟨S1x128x8x128x128, .f32⟩ : BufTy).Contents (Elt Ideal)) (x3 : (⟨S2x1024, .f32⟩ : BufTy).Contents (Elt Ideal))
  (x4 : (⟨S1x4x256x256, .f32⟩ : BufTy).Contents (Elt Ideal)) (x5 : (⟨S1x1024, .f32⟩ : BufTy).Contents (Elt Ideal))
  (x6 : (⟨S1x1024, .f32⟩ : BufTy).Contents (Elt Ideal))

theorem refMax_apply (j : Fin 1024) : val_main_v129 x3 (ix1 j) = max (x3 (ix2 0 j) : EReal) (x3 (ix2 1 j)) := by
  pointwise! [val_main_cst_14, val_main_v127, val_main_cst_15, val_main_v128, val_main_v129]
  rw [negInf, univ_two_fold]
  simp

theorem refSoft_apply (j : Fin 1024) : val_main_v137 x3 (ix2 0 j) = lbE (x3 (ix2 0 j)) (x3 (ix2 1 j)) := by
  have h := refMax_apply x3 j
  generalize hw : val_main_v129 x3 = w at h
  unfold lbE
  rw [← h, ← hw]
  pointwise! [val_main_v130, val_main_v131, val_main_v132, val_main_v133, val_main_cst_16, val_main_v134, val_main_v135, val_main_v136, val_main_v137]
  rw [Fin.sum_univ_two]

theorem refLb_apply (j : Fin 1024) : val_main_v140 x3 (ix1 j) = lbE (x3 (ix2 0 j)) (x3 (ix2 1 j)) := by
  rw [← refSoft_apply, ← cumsum2_apply (val_main_v137 x3) (val_main_call0_call0_v0 (F := Ideal)) (by pointwise! [val_main_call0_call0_cst, val_main_call0_call0_v0]) j]
  pointwise! [val_main_v139, val_main_v140]

theorem refF_apply (b : Fin 128) (t : Fin 8) (j : Fin 1024) :
    val_main_v154 x0 x3 (ix3 b t j) = fg (lbE (x3 (ix2 0 j)) (x3 (ix2 1 j))) (x0 (ix2 ⟨b.val * 8 + t.val, by omega⟩ ⟨2048 + j.val, by omega⟩)) := by
  rw [← refLb_apply]
  unfold fg sg
  pointwise! [val_main_cst_17, val_main_v141, val_main_v142, val_main_v143, val_main_v144, val_main_cst_18, val_main_v145, val_main_v146, val_main_cst_19, val_main_v147, val_main_v148, val_main_v149, val_main_v150, val_main_v151, val_main_v152, val_main_v153, val_main_v154, val_main_v3, val_main_v0, zero_sub]

theorem refQ_apply (b : Fin 128) (n t : Fin 8) (k : Fin 128) :
    val_main_v157 x0 (ix4 b n t k) = (fun z => z * sg z) (x0 (ix2 ⟨b.val * 8 + t.val, by omega⟩ ⟨1024 + n.val * 128 + k.val, by omega⟩)) := by
  unfold sg
  pointwise! [val_main_call1_v0, val_main_call1_v1, val_main_call1_cst, val_main_call1_v2, val_main_call1_v3, val_main_call1_cst_0, val_main_call1_v4, val_main_call1_v5, val_main_v155, val_main_v156, val_main_v157, val_main_v2, val_main_v0, zero_sub]

theorem refK_apply (b : Fin 128) (n t : Fin 8) (k : Fin 128) :
    val_main_v161 x0 x3 (ix4 b n t k) = 1 - val_main_v154 x0 x3 (ix3 b t ⟨n.val * 128 + k.val, by omega⟩) := by
  pointwise! [val_main_cst_20, val_main_v158, val_main_v159, val_main_v160, val_main_v161]

theorem refV_apply (b : Fin 128) (n t : Fin 8) (k : Fin 128) :
    val_main_v163 x0 (ix4 b n t k) = x0 (ix2 ⟨b.val * 8 + t.val, by omega⟩ ⟨3072 + n.val * 128 + k.val, by omega⟩) := by
  pointwise! [val_main_v162, val_main_v163, val_main_v4, val_main_v0]

theorem refL_apply (b : Fin 128) (n t : Fin 8) (k : Fin 128) :
    val_main_v166 x0 x3 (ix4 b n t k) = Ideal.log (val_main_v154 x0 x3 (ix3 b t ⟨n.val * 128 + k.val, by omega⟩)) := by
  pointwise! [val_main_v164, val_main_v165, val_main_v166]

theorem refCum_apply (b : Fin 128) (n t : Fin 8) (k : Fin 128) :
    val_main_v168 x0 x3 (ix4 b n t k) = ∑ m : Fin 8, if h : 7 ≤ t.val + m.val then val_main_v166 x0 x3 (ix4 b n ⟨t.val + m.val - 7, by omega⟩ k) else (0 : EReal) := by
  unfold val_main_v168
  rw [cumsum8_apply _ _ (by pointwise! [val_main_call2_call0_cst, val_main_call2_call0_v0])]

theorem refDecay_apply (b : Fin 128) (n t s : Fin 8) (k : Fin 128) :
    val_main_v178 x0 x3 (ix5 b n t s k) = if s ≤ t then Ideal.exp (val_main_v168 x0 x3 (ix4 b n t k) - val_main_v168 x0 x3 (ix4 b n s k)) else 0 := by
  pointwise! [val_main_c_21, val_main_v169, val_main_call3_v0, val_main_call3_c, val_main_call3_v1, val_main_call3_v2, val_main_call3_v3, val_main_call3_v4, val_main_call3_c_0, val_main_call3_v5, val_main_v170, val_main_v171, val_main_v172, val_main_v173, val_main_v174, val_main_v175, val_main_v176, val_main_v177, val_main_cst_22, val_main_call4_v0, val_main_call4_v1, val_main_call4_v2, val_main_v178]
  have e : Scalar.select (IntOp.cmpi CmpIPredicate.sge (IntOp.addi (BitVec.ofNat 32 t.val) 0#32) (BitVec.ofNat 32 s.val)) 1#1 0#1 = if s ≤ t then 1#1 else 0#1 := by
    revert t s; decide +kernel
  rw [e]
  by_cases h : s ≤ t
  · rw [if_pos h, if_pos h]; rfl
  · rw [if_neg h, if_neg h]
    exact Ideal.ofBits_zero_f32

theorem refScore_apply (b : Fin 128) (n t s : Fin 8) :
    val_main_v185 x0 x3 (ix4 b n t s) = ∑ k : Fin 128, val_main_v157 x0 (ix4 b n t k) * val_main_v161 x0 x3 (ix4 b n s k) * val_main_v178 x0 x3 (ix5 b n t s k) := by
  pointwise! [val_main_v179, val_main_v180, val_main_v181, val_main_v182, val_main_v183, val_main_v184, val_main_cst_23, val_main_v185]

theorem refO_apply (b : Fin 128) (n t : Fin 8) (j : Fin 128) :
    val_main_v190 x0 x2 x3 (ix4 b n t j) = (∑ s : Fin 8, val_main_v185 x0 x3 (ix4 b n t s) * val_main_v163 x0 (ix4 b n s j))
      + ∑ k : Fin 128, val_main_v157 x0 (ix4 b n t k) * Ideal.exp (val_main_v168 x0 x3 (ix4 b n t k)) * x2 (ix5 0 b n k j) := by
  pointwise! [val_main_v186, val_main_v187, val_main_v188, val_main_v189, val_main_v190, val_main_v167]

theorem refS_apply (b : Fin 128) (n : Fin 8) (k j : Fin 128) :
    val_main_v202 x0 x2 x3 (ix4 b n k j) = Ideal.exp (val_main_v168 x0 x3 (ix4 b n 7 k)) * x2 (ix5 0 b n k j)
      + ∑ s : Fin 8, val_main_v161 x0 x3 (ix4 b n s k) * Ideal.exp (val_main_v168 x0 x3 (ix4 b n 7 k) - val_main_v168 x0 x3 (ix4 b n s k)) * val_main_v163 x0 (ix4 b n s j) := by
  pointwise! [val_main_v191, val_main_v192, val_main_v193, val_main_v194, val_main_v195, val_main_v196, val_main_v197, val_main_v198, val_main_v199, val_main_v200, val_main_v201, val_main_v202, val_main_v167]

theorem refHist_apply (b : Fin 128) (r : Fin 15) (j : Fin 1024) :
    val_main_v225 x0 x1 (ix3 b r j) = if h : r.val < 7 then x1 (ix4 0 b ⟨8 + r.val, by omega⟩ j) else x0 (ix2 ⟨b.val * 8 + (r.val - 7), by omega⟩ ⟨j.val, by omega⟩) := by
  pointwise! [val_main_v225, val_main_v7, val_main_v6, val_main_v1, val_main_v0]
  by_cases h : r.val < 7
  · rw [dif_pos h, dif_pos (by omega)]
  · rw [dif_neg h, dif_neg (by omega)]
    congr 2
    exact Fin.ext (by show b.val * 8 + (8 + r.val - 15) = b.val * 8 + (r.val - 7); omega)

/-! ### The pool -/

/-- The cached rows of a sequence's channel followed by its eight new rows. -/
def extE (x0 : (⟨S1024x5120, .f32⟩ : BufTy).Contents (Elt Ideal)) (x1 : (⟨S1x128x15x1024, .f32⟩ : BufTy).Contents (Elt Ideal)) (b : Fin 128) (j : Fin 1024) (r : ℕ) : EReal :=
  if h : r < 15 then x1 (ix4 0 b ⟨r, h⟩ j) else if h' : r < 23 then x0 (ix2 ⟨b.val * 8 + (r - 15), by omega⟩ ⟨j.val, by omega⟩) else 0

/-- The number of rows a window of `2 ^ (g + 1)` rows holds at the `t`th new token. -/
def cntE (g t : ℕ) : EReal :=
  FloatOps.sitofp (F := Ideal) FTy.f32 (IntOp.minsi (IntOp.addi (IntOp.addi (16384#32) (BitVec.ofNat 32 t)) 1#32) (BitVec.ofNat 32 (2 ^ (g + 1))))

/-- The window sum: the last `2 ^ (g + 1)` rows up to row `15 + t`. -/
def winE (e : ℕ → EReal) (g t : ℕ) : EReal := ∑ i ∈ Finset.range (2 ^ (g + 1)), e (15 + t - i)

theorem refExt_apply (b : Fin 128) (r : Fin 23) (j : Fin 1024) : val_main_v7 x0 x1 (ix3 b r j) = extE x0 x1 b j r.val := by
  unfold extE
  pointwise! [val_main_v0, val_main_v1, val_main_v6, val_main_v7]

theorem refPool0_apply (b : Fin 128) (t : Fin 8) (x : Fin 256) :
    val_main_v23 x0 x1 (ix3 b t x) = Ideal.div (winE (extE x0 x1 b ⟨0 * 256 + x.val, by omega⟩) 0 t.val) (cntE 0 t.val) := by
  have e : ∀ i, i ≤ 15 → 15 + t.val - i = (15 - i) + t.val := fun i h => by omega
  unfold winE cntE
  rw [← Finset.sum_range_reflect]
  simp only [Finset.sum_range_succ', Finset.sum_range_zero, Nat.reduceAdd, Nat.reduceSub, Nat.reducePow, e 1 (by decide)]
  pointwise! [val_main_v8, val_main_cst, val_main_v9, val_main_v10, val_main_v11, val_main_v12, val_main_v13, val_main_c, val_main_v14, val_main_v15, val_main_c_0, val_main_v16, val_main_v17, val_main_c_1, val_main_v18, val_main_v19, val_main_v20, val_main_v21, val_main_v22, val_main_v23, refExt_apply]

theorem refPool1_apply (b : Fin 128) (t : Fin 8) (x : Fin 256) :
    val_main_v43 x0 x1 (ix3 b t x) = Ideal.div (winE (extE x0 x1 b ⟨1 * 256 + x.val, by omega⟩) 1 t.val) (cntE 1 t.val) := by
  have e : ∀ i, i ≤ 15 → 15 + t.val - i = (15 - i) + t.val := fun i h => by omega
  unfold winE cntE
  rw [← Finset.sum_range_reflect]
  simp only [Finset.sum_range_succ', Finset.sum_range_zero, Nat.reduceAdd, Nat.reduceSub, Nat.reducePow, e 1 (by decide), e 2 (by decide), e 3 (by decide)]
  pointwise! [val_main_v24, val_main_cst_2, val_main_v25, val_main_v26, val_main_v27, val_main_v28, val_main_v29, val_main_v30, val_main_v31, val_main_v32, val_main_v33, val_main_c_3, val_main_v34, val_main_v35, val_main_c_4, val_main_v36, val_main_v37, val_main_c_5, val_main_v38, val_main_v39, val_main_v40, val_main_v41, val_main_v42, val_main_v43, refExt_apply]

theorem refPool2_apply (b : Fin 128) (t : Fin 8) (x : Fin 256) :
    val_main_v71 x0 x1 (ix3 b t x) = Ideal.div (winE (extE x0 x1 b ⟨2 * 256 + x.val, by omega⟩) 2 t.val) (cntE 2 t.val) := by
  have e : ∀ i, i ≤ 15 → 15 + t.val - i = (15 - i) + t.val := fun i h => by omega
  unfold winE cntE
  rw [← Finset.sum_range_reflect]
  simp only [Finset.sum_range_succ', Finset.sum_range_zero, Nat.reduceAdd, Nat.reduceSub, Nat.reducePow, e 1 (by decide), e 2 (by decide), e 3 (by decide), e 4 (by decide), e 5 (by decide), e 6 (by decide), e 7 (by decide)]
  pointwise! [val_main_v44, val_main_cst_6, val_main_v45, val_main_v46, val_main_v47, val_main_v48, val_main_v49, val_main_v50, val_main_v51, val_main_v52, val_main_v53, val_main_v54, val_main_v55, val_main_v56, val_main_v57, val_main_v58, val_main_v59, val_main_v60, val_main_v61, val_main_c_7, val_main_v62, val_main_v63, val_main_c_8, val_main_v64, val_main_v65, val_main_c_9, val_main_v66, val_main_v67, val_main_v68, val_main_v69, val_main_v70, val_main_v71, refExt_apply]

set_option maxHeartbeats 2000000 in
theorem refPool3_apply (b : Fin 128) (t : Fin 8) (x : Fin 256) :
    val_main_v115 x0 x1 (ix3 b t x) = Ideal.div (winE (extE x0 x1 b ⟨3 * 256 + x.val, by omega⟩) 3 t.val) (cntE 3 t.val) := by
  have e : ∀ i, i ≤ 15 → 15 + t.val - i = (15 - i) + t.val := fun i h => by omega
  unfold winE cntE
  rw [← Finset.sum_range_reflect]
  simp only [Finset.sum_range_succ', Finset.sum_range_zero, Nat.reduceAdd, Nat.reduceSub, Nat.reducePow, e 1 (by decide), e 2 (by decide), e 3 (by decide), e 4 (by decide), e 5 (by decide), e 6 (by decide), e 7 (by decide), e 8 (by decide), e 9 (by decide), e 10 (by decide), e 11 (by decide), e 12 (by decide), e 13 (by decide), e 14 (by decide), e 15 (by decide)]
  pointwise! [val_main_v72, val_main_cst_10, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_c_11, val_main_v106, val_main_v107, val_main_c_12, val_main_v108, val_main_v109, val_main_c_13, val_main_v110, val_main_v111, val_main_v112, val_main_v113, val_main_v114, val_main_v115, refExt_apply]

theorem refPools_row (b : Fin 128) (t : Fin 8) (x : Fin 256) : ∀ g : Fin 4,
    (if h : g.val * 256 + x.val < 256 then val_main_v23 x0 x1 (ix3 b t ⟨g.val * 256 + x.val, h⟩)
      else if h : g.val * 256 + x.val - 256 < 256 then val_main_v43 x0 x1 (ix3 b t ⟨g.val * 256 + x.val - 256, h⟩)
      else if h : g.val * 256 + x.val - 256 - 256 < 256 then val_main_v71 x0 x1 (ix3 b t ⟨g.val * 256 + x.val - 256 - 256, h⟩)
      else val_main_v115 x0 x1 (ix3 b t ⟨g.val * 256 + x.val - 256 - 256 - 256, by omega⟩))
    = Ideal.div (winE (extE x0 x1 b ⟨g.val * 256 + x.val, by omega⟩) g.val t.val) (cntE g.val t.val)
  | ⟨0, _⟩ => by
    rw [dif_pos (show 0 * 256 + x.val < 256 by omega)]
    exact (congrArg (fun i => val_main_v23 x0 x1 (ix3 b t i)) (Fin.ext (show 0 * 256 + x.val = x.val by omega))).trans (refPool0_apply x0 x1 b t x)
  | ⟨1, _⟩ => by
    rw [dif_neg (show ¬ 1 * 256 + x.val < 256 by omega), dif_pos (show 1 * 256 + x.val - 256 < 256 by omega)]
    exact (congrArg (fun i => val_main_v43 x0 x1 (ix3 b t i)) (Fin.ext (show 1 * 256 + x.val - 256 = x.val by omega))).trans (refPool1_apply x0 x1 b t x)
  | ⟨2, _⟩ => by
    rw [dif_neg (show ¬ 2 * 256 + x.val < 256 by omega), dif_neg (show ¬ 2 * 256 + x.val - 256 < 256 by omega), dif_pos (show 2 * 256 + x.val - 256 - 256 < 256 by omega)]
    exact (congrArg (fun i => val_main_v71 x0 x1 (ix3 b t i)) (Fin.ext (show 2 * 256 + x.val - 256 - 256 = x.val by omega))).trans (refPool2_apply x0 x1 b t x)
  | ⟨3, _⟩ => by
    rw [dif_neg (show ¬ 3 * 256 + x.val < 256 by omega), dif_neg (show ¬ 3 * 256 + x.val - 256 < 256 by omega), dif_neg (show ¬ 3 * 256 + x.val - 256 - 256 < 256 by omega)]
    exact (congrArg (fun i => val_main_v115 x0 x1 (ix3 b t i)) (Fin.ext (show 3 * 256 + x.val - 256 - 256 - 256 = x.val by omega))).trans (refPool3_apply x0 x1 b t x)

theorem refPools_apply (b : Fin 128) (t : Fin 8) (g : Fin 4) (x : Fin 256) :
    val_main_v118 x0 x1 (ix4 b t g x) = Ideal.div (winE (extE x0 x1 b ⟨g.val * 256 + x.val, by omega⟩) g.val t.val) (cntE g.val t.val)
      - x0 (ix2 ⟨b.val * 8 + t.val, by omega⟩ ⟨g.val * 256 + x.val, by omega⟩) := by
  pointwise! [val_main_v116, val_main_v117, val_main_v118, val_main_v1, val_main_v0]
  rw [← refPools_row]

theorem refPooled_apply (b : Fin 128) (t : Fin 8) (g : Fin 4) (j : Fin 256) :
    val_main_v126 x0 x1 x4 x5 (ix3 b t ⟨g.val * 256 + j.val, by omega⟩)
      = (∑ x : Fin 256, x4 (ix4 0 g x j) * val_main_v118 x0 x1 (ix4 b t g x)) * x5 (ix2 0 ⟨g.val * 256 + j.val, by omega⟩) := by
  pointwise! [val_main_v119, val_main_v120, val_main_v121, val_main_v122, val_main_v123, val_main_v124, val_main_v125, val_main_v126]

theorem refHead_apply (b : Fin 128) (t n : Fin 8) (j : Fin 128) :
    val_main_v221 x0 x2 x3 x6 (ix3 b t ⟨n.val * 128 + j.val, by omega⟩)
      = val_main_v190 x0 x2 x3 (ix4 b n t j)
        * Ideal.rsqrt (Ideal.div (∑ x : Fin 128, val_main_v190 x0 x2 x3 (ix4 b n t x) * val_main_v190 x0 x2 x3 (ix4 b n t x)) (Ideal.ofBits FTy.f32 1124073472#32) + Ideal.ofBits FTy.f32 897988541#32)
        * x6 (ix2 0 ⟨n.val * 128 + j.val, by omega⟩)
        * (fun z => z * sg z) (x0 (ix2 ⟨b.val * 8 + t.val, by omega⟩ ⟨4096 + (n.val * 128 + j.val), by omega⟩)) := by
  unfold sg
  pointwise! [val_main_v203, val_main_v204, val_main_cst_24, val_main_v205, val_main_v206, val_main_cst_25, val_main_v207, val_main_v208, val_main_cst_26, val_main_v209, val_main_v210, val_main_v211, val_main_v212, val_main_v213, val_main_v214, val_main_v215, val_main_v216, val_main_v217, val_main_v218, val_main_v219, val_main_call5_v0, val_main_call5_v1, val_main_call5_cst, val_main_call5_v2, val_main_call5_v3, val_main_call5_cst_0, val_main_call5_v4, val_main_call5_v5, val_main_v220, val_main_v221, val_main_v5, val_main_v0, zero_sub]

theorem refOut_apply (b : Fin 128) (t : Fin 8) (c : Fin 2048) :
    val_main_v224 x0 x1 x2 x3 x4 x5 x6 (ix2 ⟨b.val * 8 + t.val, by omega⟩ c)
      = if h : c.val < 1024 then val_main_v126 x0 x1 x4 x5 (ix3 b t ⟨c.val, h⟩) else val_main_v221 x0 x2 x3 x6 (ix3 b t ⟨c.val - 1024, by omega⟩) := by
  pointwise! [val_main_v222, val_main_v223, val_main_v224]

end

end Cert.KernelIdeal.Mixer
-- ==== Proof.MixOut.lean ====
/-
  The results of one grid point of the sampling mixer, entry by entry, from the blocks of its arguments.
-/
module

public import proofs.«01_k».proof.Proof.MixPoint
public import proofs.«01_k».proof.Proof.MixRef

@[expose] public section

set_option maxRecDepth 65536

noncomputable section

namespace Cert.KernelIdeal.Mixer

open Idealize.ShloMosaic Idealize.ShloMosaic.TcCoe Idealize.ShloMosaic.Tactic
open Cert.KernelIdeal.Gen

/-! ### Loads of whole blocks' parts -/

section loads

variable (arg1 : Memref sig .tc .vmem S64x5120 .f32) (harg1 : arg1.IsWhole)
  (arg2 : Memref sig .tc .vmem S1x15x8x1024 .f32) (harg2 : arg2.IsWhole)
  (arg3 : Memref sig .tc .vmem S8x8x128x128 .f32) (harg3 : arg3.IsWhole)
  (arg5 : Memref sig .tc .vmem S4x256x256 .bf16) (harg5 : arg5.IsWhole)
  (arg6 : Memref sig .tc .vmem S1x1024 .f32) (harg6 : arg6.IsWhole)
  (arg7 : Memref sig .tc .vmem S1x1024 .f32) (harg7 : arg7.IsWhole)
  (x0 : Vec Ideal S64x5120 .f32) (x1 : Vec Ideal S1x15x8x1024 .f32) (x2 : Vec Ideal S8x8x128x128 .f32)
  (x4 : Vec Ideal S4x256x256 .bf16) (x5 : Vec Ideal S1x1024 .f32) (x6 : Vec Ideal S1x1024 .f32)

theorem uCols_apply (t : Fin 64) (j : Fin 1024) : uCols arg1 harg1 x0 (ix2 t j) = x0 (ix2 t ⟨j.val, by omega⟩) := by
  unfold uCols
  rw [harg1.readAt_unread]
  show x0 _ = x0 _
  congr 1; funext a; apply Fin.ext
  match a with
  | 0 => exact (show 0 + 1 * t.val = t.val by omega)
  | 1 => exact (show 0 + 1 * j.val = j.val by omega)

theorem hgn_apply (n : ℕ) (h : n < 8) (j : Fin 128) : hgn arg7 harg7 x6 n h (ix2 0 j) = x6 (ix2 0 ⟨n * 128 + j.val, by omega⟩) := by
  unfold hgn
  rw [harg7.readAt_unread]
  show x6 _ = x6 _
  congr 1; funext a; apply Fin.ext
  match a with
  | 0 => rfl
  | 1 => exact (show n * 128 + 1 * j.val = n * 128 + j.val by omega)

theorem pscale_apply (g : ℕ) (h : g < 4) (j : Fin 256) : pscale arg6 harg6 x5 g h (ix2 0 j) = x5 (ix2 0 ⟨g * 256 + j.val, by omega⟩) := by
  unfold pscale
  rw [harg6.readAt_unread]
  show x5 _ = x5 _
  congr 1; funext a; apply Fin.ext
  match a with
  | 0 => rfl
  | 1 => exact (show g * 256 + 1 * j.val = g * 256 + j.val by omega)

theorem wpool_apply (g : ℕ) (h : g < 4) (x j : Fin 256) : wpool arg5 harg5 x4 g h (ix3 0 x j) = x4 (ix3 ⟨g, h⟩ x j) := by
  unfold wpool
  rw [harg5.readAt_unread]
  show x4 _ = x4 _
  congr 1; funext a; apply Fin.ext
  match a with
  | 0 => rfl
  | 1 => exact (show 0 + 1 * x.val = x.val by omega)
  | 2 => exact (show 0 + 1 * j.val = j.val by omega)

theorem castSt_apply (w : FVec Ideal S8x1x128x128 .f32) (b : Fin 8) (i j : Fin 128) :
    shapeCast S8x128x128 w shapeCasts_S8x1x128x128_S8x128x128 (ix3 b i j) = w (ix4 b 0 i j) := by
  pointwise!

theorem stIn_apply (n : ℕ) (h : n < 8) (b : Fin 8) (i j : Fin 128) : stIn arg3 harg3 x2 n h (ix3 b i j) = x2 (ix4 b ⟨n, h⟩ i j) := by
  unfold stIn
  rw [castSt_apply, harg3.readAt_unread]
  show x2 _ = x2 _
  congr 1; funext a; apply Fin.ext
  match a with
  | 0 => exact (show 0 + 1 * b.val = b.val by omega)
  | 1 => exact (show n + 1 * 0 = n by omega)
  | 2 => exact (show 0 + 1 * i.val = i.val by omega)
  | 3 => exact (show 0 + 1 * j.val = j.val by omega)

/-- The cached rows of a sequence's channel followed by its eight new rows. -/
def extB (b : Fin 8) (j : Fin 1024) (r : ℕ) : EReal :=
  if h : r < 15 then x1 (ix4 0 ⟨r, h⟩ b j) else if h' : r < 23 then x0 (ix2 ⟨b.val * 8 + (r - 15), by omega⟩ ⟨j.val, by omega⟩) else 0

variable (c : Dev nD)

theorem ext_inb0 : ∀ a, (![16, 0, 0] : Fin 3 → ℕ) a + S8x8x1024.size a ≤ S24x8x1024.size a := by decide
theorem ext_inb1 : ∀ a, (![1, 0, 0] : Fin 3 → ℕ) a + S15x8x1024.size a ≤ S24x8x1024.size a := by decide

theorem ext_eq : ∃ L, run.sl.HS0_3 c arg1 harg1 arg2 harg2 x0 x1 =
    ⟨Rect.unit (s := S24x8x1024) ![16, 0, 0] S8x8x1024.size ext_inb0, k0_pay5 (uCols arg1 harg1 x0)⟩ ::
    ⟨Rect.unit (s := S24x8x1024) ![1, 0, 0] S15x8x1024.size ext_inb1, k0_pay4 (View.readAt (Elt Ideal) arg2.view (Rect.unit (s := S1x15x8x1024) ![0, 0, 0, 0] S1x15x8x1024.size inb_S1x15x8x1024_S1x15x8x1024_0_0_0_0).toLoadRect (harg2.unread x1))⟩ :: L :=
  ⟨_, rfl⟩

theorem extC_apply (r : ℕ) (h : r < 23) (b : Fin 8) (j : Fin 1024) :
    View.canon (run.sl.HS0_3 c arg1 harg1 arg2 harg2 x0 x1) (ix3 ⟨r + 1, by omega⟩ b j) = extB x0 x1 b j r := by
  obtain ⟨L, hL⟩ := ext_eq arg1 harg1 arg2 harg2 x0 x1 c
  rw [hL]
  unfold extB
  by_cases hr : r < 15
  · rw [dif_pos hr, View.canon_cons_of_not_mem]
    · have e : (ix3 ⟨r + 1, by omega⟩ b j : S24x8x1024.Idx) = (Rect.unit (s := S24x8x1024) ![1, 0, 0] S15x8x1024.size ext_inb1).emb (ix3 ⟨r, hr⟩ b j) := by
        funext a; apply Fin.ext
        match a with
        | 0 => exact (show r + 1 = 1 + 1 * r by omega)
        | 1 => exact (show b.val = 0 + 1 * b.val by omega)
        | 2 => exact (show j.val = 0 + 1 * j.val by omega)
      rw [e, View.canon_cons_emb, pay4_apply, harg2.readAt_unread]
      show x1 _ = x1 _
      congr 1; funext a; apply Fin.ext
      match a with
      | 0 => rfl
      | 1 => exact (show 0 + 1 * r = r by omega)
      | 2 => exact (show 0 + 1 * b.val = b.val by omega)
      | 3 => exact (show 0 + 1 * j.val = j.val by omega)
    · intro hm
      have h0 : 16 ≤ r + 1 ∧ r + 1 < 16 + 8 := (Rect.mem_set_unit (inb := ext_inb0)).mp hm (0 : Fin 3)
      omega
  · have e : (ix3 ⟨r + 1, by omega⟩ b j : S24x8x1024.Idx) = (Rect.unit (s := S24x8x1024) ![16, 0, 0] S8x8x1024.size ext_inb0).emb (ix3 ⟨r - 15, by omega⟩ b j) := by
      funext a; apply Fin.ext
      match a with
      | 0 => exact (show r + 1 = 16 + 1 * (r - 15) by omega)
      | 1 => exact (show b.val = 0 + 1 * b.val by omega)
      | 2 => exact (show j.val = 0 + 1 * j.val by omega)
    rw [dif_neg hr, dif_pos h, e, View.canon_cons_emb, pay5_apply, uCols_apply]

variable (arg11 : Memref sig .tc .vmem S24x8x1024 .f32)

theorem ext_apply (d g : ℕ) (hd : d ≤ 16) (h : g < 4) (h1 : 1 ≤ d) (s b : Fin 8) (x : Fin 256) :
    ext c arg1 harg1 arg2 harg2 arg11 x0 x1 d g hd h (ix3 s b x) = extB x0 x1 b ⟨g * 256 + x.val, by omega⟩ (d + s.val - 1) := by
  unfold ext
  rw [View.readCov_eq_canon', ← extC_apply arg1 harg1 arg2 harg2 x0 x1 c (d + s.val - 1) (by omega)]
  refine congrArg _ ?_
  funext a; apply Fin.ext
  match a with
  | 0 => exact (show d + 1 * s.val = d + s.val - 1 + 1 by omega)
  | 1 => exact (show 0 + 1 * b.val = b.val by omega)
  | 2 => exact (show g * 256 + 1 * x.val = g * 256 + x.val by omega)

theorem win_apply (g : ℕ) (h : g < 4) (s b : Fin 8) (x : Fin 256) : ∀ n, n ≤ 15 →
    win c arg1 harg1 arg2 harg2 arg11 x0 x1 g h n (ix3 s b x) = ∑ i ∈ Finset.range (n + 1), extB x0 x1 b ⟨g * 256 + x.val, by omega⟩ (15 + s.val - i)
  | 0, _ => by
    rw [win, ext_apply _ _ _ _ _ _ _ _ 16 g le_rfl h (by decide), Finset.sum_range_one]
    exact congrArg _ (by omega)
  | n + 1, hn => by
    rw [win, Finset.sum_range_succ, ← win_apply g h s b x n (by omega)]
    show HAdd.hAdd (α := EReal) (β := EReal) (γ := EReal) _ _ = _
    rw [ext_apply _ _ _ _ _ _ _ _ (15 - n) g (by omega) h (by omega)]
    exact congrArg _ (congrArg _ (by omega))

/-- The pool's outputs, from the sequence's extended rows. -/
theorem poolG_apply (g : ℕ) (h : g < 4) (b s : Fin 8) (j : Fin 256) :
    poolG c arg1 harg1 arg2 harg2 arg5 harg5 arg6 harg6 arg11 x0 x1 x4 x5 g h (ix2 ⟨b.val * 8 + s.val, by omega⟩ j)
      = (∑ x : Fin 256, (Ideal.div (Ideal.div (winE (extB x0 x1 b ⟨g * 256 + x.val, by omega⟩) g s.val) (cntE g s.val)) 1
          - x0 (ix2 ⟨b.val * 8 + s.val, by omega⟩ ⟨g * 256 + x.val, by omega⟩)) * x4 (ix3 ⟨g, h⟩ x j)) * x5 (ix2 0 ⟨g * 256 + j.val, by omega⟩) := by
  have hp : 2 ^ (g + 1) ≤ 16 ∧ 2 ^ (g + 1) - 1 + 1 = 2 ^ (g + 1) := by interval_cases g <;> decide
  unfold poolG
  rw [poolF_apply, pscale_apply]
  refine congrArg (fun z : EReal => z * x5 (ix2 0 ⟨g * 256 + j.val, by omega⟩)) (Finset.sum_congr rfl fun x _ => ?_)
  rw [wpool_apply, win_apply _ _ _ _ _ _ _ _ g h s b x _ (by omega), hp.2, uCols_apply]
  rfl

/-- The pool's next state. -/
theorem histP_apply (r : Fin 15) (b : Fin 8) (j : Fin 1024) :
    View.canon (histP c arg1 harg1 arg2 harg2 arg11 x0 x1) (ix3 r b j) = extB x0 x1 b j (8 + r.val) := by
  unfold histP
  have e : (ix3 r b j : S15x8x1024.Idx) = (Rect.unit (s := S15x8x1024) ![0, 0, 0] S15x8x1024.size inb_S15x8x1024_S15x8x1024_0_0_0).emb (ix3 r b j) := by
    funext a; apply Fin.ext
    match a with
    | 0 => exact (show r.val = 0 + 1 * r.val by omega)
    | 1 => exact (show b.val = 0 + 1 * b.val by omega)
    | 2 => exact (show j.val = 0 + 1 * j.val by omega)
  rw [e, View.canon_cons_emb, View.readCov_eq_canon', ← extC_apply arg1 harg1 arg2 harg2 x0 x1 c (8 + r.val) (by omega)]
  refine congrArg _ ?_
  funext a; apply Fin.ext
  match a with
  | 0 => exact (show 9 + 1 * r.val = 8 + r.val + 1 by omega)
  | 1 => exact (show 0 + 1 * b.val = b.val by omega)
  | 2 => exact (show 0 + 1 * j.val = j.val by omega)

end loads

/-! ### The heads -/

theorem sum64 (g : Fin 64 → EReal) : ∑ u, g u = ∑ a : Fin 8, ∑ s : Fin 8, g ⟨a.val * 8 + s.val, by omega⟩ := by
  rw [← Fintype.sum_prod_type' (f := fun a s : Fin 8 => g ⟨a.val * 8 + s.val, by omega⟩)]
  exact (Fintype.sum_equiv (finProdFinEquiv (m := 8) (n := 8)) _ _ fun p => congrArg g (Fin.ext (by show p.1.val * 8 + p.2.val = p.2.val + 8 * p.1.val; omega))).symm

section heads

variable (c : Dev nD)
  (arg1 : Memref sig .tc .vmem S64x5120 .f32) (harg1 : arg1.IsWhole)
  (arg3 : Memref sig .tc .vmem S8x8x128x128 .f32) (harg3 : arg3.IsWhole)
  (arg4 : Memref sig .tc .vmem S2x1024 .f32) (harg4 : arg4.IsWhole)
  (arg12 : Memref sig .tc .vmem S3x8x64x128 .f32)
  (arg13 : Memref sig .tc .vmem S128x8x128 .f32)
  (arg14 : Memref sig .tc .vmem S2x64x1024 .bf16)
  (arg15 : Memref sig .tc .vmem S5x512x128 .f32)
  (arg16 : Memref sig .tc .vmem S8x64x64 .f32) (harg16 : arg16.IsWhole)
  (x0 : Vec Ideal S64x5120 .f32) (x2 : Vec Ideal S8x8x128x128 .f32) (x3 : Vec Ideal S2x1024 .f32) (s0 : Vec Ideal S8x64x64 .f32)

theorem pre_seq (n b s : Fin 8) (k : Fin 128) :
    preE (fgs arg1 harg1 arg4 harg4 x0 x3 n k) (b.val * 8 + s.val) 3 = ∏ w ∈ Finset.range (s.val + 1), gv arg1 harg1 arg4 harg4 x0 x3 2 n.val (b.val * 8 + w) k := by
  rw [show b.val * 8 + s.val = 8 * b.val + s.val by omega, preE_block _ _ _ b.isLt s.isLt, preE_three _ _ s.isLt]
  simp only [fgs, Nat.mul_comm 8]

theorem suf_seq (n b s : Fin 8) (k : Fin 128) :
    sufE (fgs arg1 harg1 arg4 harg4 x0 x3 n k) (b.val * 8 + s.val) 3 = ∏ w ∈ Finset.Ioc s.val 7, gv arg1 harg1 arg4 harg4 x0 x3 2 n.val (b.val * 8 + w) k := by
  rw [show b.val * 8 + s.val = 8 * b.val + s.val by omega, sufE_block _ _ _ b.isLt s.isLt, sufE_three _ _ s.isLt]
  simp only [fgs, Nat.mul_comm 8]

theorem outH_apply (hs : OffZero s0) (n : ℕ) (h : n < 8) (b s : Fin 8) (j : Fin 128) :
    outH c arg1 harg1 arg3 harg3 arg4 harg4 arg12 arg13 arg14 arg15 arg16 harg16 x0 x2 x3 s0 n h (ix2 ⟨b.val * 8 + s.val, by omega⟩ j)
      = (∑ u : Fin 8, (if u ≤ s then ∑ k : Fin 128, gv arg1 harg1 arg4 harg4 x0 x3 0 n (b.val * 8 + s.val) k * gv arg1 harg1 arg4 harg4 x0 x3 1 n (b.val * 8 + u.val) k
            * ∏ w ∈ Finset.Ioc u.val s.val, gv arg1 harg1 arg4 harg4 x0 x3 2 n (b.val * 8 + w) k else 0)
          * x0 (ix2 ⟨b.val * 8 + u.val, by omega⟩ ⟨3072 + n * 128 + j.val, by omega⟩))
        + ∑ k : Fin 128, gv arg1 harg1 arg4 harg4 x0 x3 0 n (b.val * 8 + s.val) k * (∏ w ∈ Finset.range (s.val + 1), gv arg1 harg1 arg4 harg4 x0 x3 2 n (b.val * 8 + w) k)
          * x2 (ix4 b ⟨n, h⟩ k j) := by
  unfold outH
  rw [outF_apply, sum64, Finset.sum_eq_single b]
  · refine congrArg₂ (HAdd.hAdd (α := EReal) (β := EReal) (γ := EReal)) (Finset.sum_congr rfl fun u _ => ?_) (Finset.sum_congr rfl fun k _ => ?_)
    · rw [scores_apply c arg1 harg1 arg4 harg4 arg12 arg13 arg14 arg15 arg16 harg16 x0 x3 s0 hs, cols_apply, scV]
      have d0 : (b.val * 8 + s.val) / 8 = b.val := by omega
      have d1 : (b.val * 8 + u.val) / 8 = b.val := by omega
      have m0 : (b.val * 8 + s.val) % 8 = s.val := by omega
      have m1 : (b.val * 8 + u.val) % 8 = u.val := by omega
      simp only [d0, d1, m0, m1, true_and, fgs, Nat.mul_comm 8]
      rfl
    · rw [levRow_three, stIn_apply]
      exact congrArg (fun z : EReal => gv arg1 harg1 arg4 harg4 x0 x3 0 n (b.val * 8 + s.val) k * z * x2 (ix4 b ⟨n, h⟩ k j))
        (pre_seq arg1 harg1 arg4 harg4 x0 x3 ⟨n, h⟩ b s k)
  · intro a _ hab
    refine Finset.sum_eq_zero fun u _ => ?_
    rw [scores_apply c arg1 harg1 arg4 harg4 arg12 arg13 arg14 arg15 arg16 harg16 x0 x3 s0 hs, scV, if_neg, zero_mul]
    rintro ⟨h1, -⟩
    exact hab (Fin.ext (by have h1 : (b.val * 8 + s.val) / 8 = (a.val * 8 + u.val) / 8 := h1; omega))
  · intro hb; exact absurd (Finset.mem_univ b) hb

theorem decayT_apply (b n : Fin 8) (k : Fin 128) :
    decayT c arg1 harg1 arg4 harg4 arg12 arg13 x0 x3 (ix3 b k n) = ∏ w ∈ Finset.range 8, gv arg1 harg1 arg4 harg4 x0 x3 2 n.val (b.val * 8 + w) k := by
  have key : ∀ (t : ℕ) (ht : t < 64), t = 8 * b.val + 7 → pre c arg1 harg1 arg4 harg4 arg12 arg13 x0 x3 t ht 3 (ix2 n k) = ∏ w ∈ Finset.range 8, gv arg1 harg1 arg4 harg4 x0 x3 2 n.val (b.val * 8 + w) k := by
    rintro t ht rfl
    rw [pre_apply, preE_block _ _ _ b.isLt (by decide), preE_three _ _ (by decide)]
    simp only [fgs, Nat.mul_comm 8]
  unfold decayT
  rw [pay889_apply]
  fin_cases b <;> exact key _ _ rfl

theorem stH_apply (n : ℕ) (h : n < 8) (b : Fin 8) (i j : Fin 128) :
    stH c arg1 harg1 arg3 harg3 arg4 harg4 arg12 arg13 arg15 x0 x2 x3 n h (ix3 b i j)
      = (∏ w ∈ Finset.range 8, gv arg1 harg1 arg4 harg4 x0 x3 2 n (b.val * 8 + w) i) * x2 (ix4 b ⟨n, h⟩ i j)
        + ∑ s : Fin 8, gv arg1 harg1 arg4 harg4 x0 x3 1 n (b.val * 8 + s.val) i * (∏ w ∈ Finset.Ioc s.val 7, gv arg1 harg1 arg4 harg4 x0 x3 2 n (b.val * 8 + w) i)
          * x0 (ix2 ⟨b.val * 8 + s.val, by omega⟩ ⟨3072 + n * 128 + j.val, by omega⟩) := by
  unfold stH
  rw [stF_apply, decayT_apply, stIn_apply]
  refine congrArg₂ (HAdd.hAdd (α := EReal) (β := EReal) (γ := EReal)) rfl (Finset.sum_congr rfl fun s _ => ?_)
  rw [levRow_four, cols_apply]
  exact congrArg (fun z : EReal => gv arg1 harg1 arg4 harg4 x0 x3 1 n (b.val * 8 + s.val) i * z * x0 (ix2 ⟨b.val * 8 + s.val, by omega⟩ ⟨3072 + n * 128 + j.val, by omega⟩))
    (suf_seq arg1 harg1 arg4 harg4 x0 x3 ⟨n, h⟩ b s i)

/-- The states' array, a head in each plane. -/
def ofSt (f : ℕ → Fin 8 → Fin 128 → Fin 128 → EReal) (y : S8x8x128x128.Idx) : EReal := f (y 1).val (y 0) (y 2) (y 3)

/-- The states head `n` leaves, for any `n`. -/
def stV (n : ℕ) (b : Fin 8) (i j : Fin 128) : EReal :=
  if h : n < 8 then stH c arg1 harg1 arg3 harg3 arg4 harg4 arg12 arg13 arg15 x0 x2 x3 n h (ix3 b i j) else 0

theorem castSt'_apply (w : FVec Ideal S8x128x128 .f32) (b : Fin 8) (z : Fin 1) (i j : Fin 128) :
    shapeCast S8x1x128x128 w shapeCasts_S8x128x128_S8x1x128x128 (ix4 b z i j) = w (ix3 b i j) := by
  pointwise!

theorem ofSt_emb (f : ℕ → Fin 8 → Fin 128 → Fin 128 → EReal) (n : ℕ) (h : n < 8) (b : Fin 8) (z : Fin 1) (i j : Fin 128) :
    ofSt f ((Rect.unit (s := S8x8x128x128) ![0, n, 0, 0] S8x1x128x128.size (st_inb n h)).emb (ix4 b z i j)) = f n b i j := by
  have e0 : n + 1 * z.val = n := by omega
  have e1 : (⟨0 + 1 * b.val, by omega⟩ : Fin 8) = b := Fin.ext (by show 0 + 1 * b.val = b.val; omega)
  have e2 : (⟨0 + 1 * i.val, by omega⟩ : Fin 128) = i := Fin.ext (by show 0 + 1 * i.val = i.val; omega)
  have e3 : (⟨0 + 1 * j.val, by omega⟩ : Fin 128) = j := Fin.ext (by show 0 + 1 * j.val = j.val; omega)
  show f (n + 1 * z.val) ⟨0 + 1 * b.val, _⟩ ⟨0 + 1 * i.val, _⟩ ⟨0 + 1 * j.val, _⟩ = _
  rw [e0, e1, e2, e3]

theorem stP_agree : ∀ (n : ℕ) (h : n ≤ 8), ∀ p ∈ stP c arg1 harg1 arg3 harg3 arg4 harg4 arg12 arg13 arg15 x0 x2 x3 n h, ∀ x : p.1.shape.Idx,
    p.2 x = ofSt (stV c arg1 harg1 arg3 harg3 arg4 harg4 arg12 arg13 arg15 x0 x2 x3) (p.1.emb x)
  | 0, _ => by intro p hp; cases hp
  | n + 1, h => by
    rw [stP]
    simp only [List.forall_mem_cons]
    refine ⟨?_, stP_agree n (by omega)⟩
    intro x
    obtain ⟨b, z, i, j, rfl⟩ : ∃ (b : Fin 8) (z : Fin 1) (i j : Fin 128), x = ix4 b z i j := ⟨_, _, _, _, eq_ix4 x⟩
    rw [castSt'_apply]
    exact ((ofSt_emb _ n h b z i j).trans (dif_pos (show n < 8 from h))).symm

theorem stP_apply (b n : Fin 8) (i j : Fin 128) (hc : ∀ y, ∃ p ∈ stP c arg1 harg1 arg3 harg3 arg4 harg4 arg12 arg13 arg15 x0 x2 x3 8 le_rfl, y ∈ p.1.set) :
    View.canon (stP c arg1 harg1 arg3 harg3 arg4 harg4 arg12 arg13 arg15 x0 x2 x3 8 le_rfl) (ix4 b n i j)
      = stH c arg1 harg1 arg3 harg3 arg4 harg4 arg12 arg13 arg15 x0 x2 x3 n.val n.isLt (ix3 b i j) :=
  (View.canon_apply_of_pieces (ofSt (stV c arg1 harg1 arg3 harg3 arg4 harg4 arg12 arg13 arg15 x0 x2 x3)) _
    (stP_agree c arg1 harg1 arg3 harg3 arg4 harg4 arg12 arg13 arg15 x0 x2 x3 8 le_rfl) (ix4 b n i j) (hc _)).trans (dif_pos n.isLt)

end heads

/-! ### The mixed outputs -/

/-- The mixed outputs' array: four groups of 256 columns, then eight heads of 128 columns. -/
def ofMix (p : ℕ → Fin 64 → Fin 256 → EReal) (q : ℕ → Fin 64 → Fin 128 → EReal) (y : S64x2048.Idx) : EReal :=
  if (y 1).val < 1024 then p ((y 1).val / 256) (y 0) ⟨(y 1).val % 256, Nat.mod_lt _ (by decide)⟩
  else q (((y 1).val - 1024) / 128) (y 0) ⟨((y 1).val - 1024) % 128, Nat.mod_lt _ (by decide)⟩

theorem mixPool_inb (n : ℕ) (h : n < 4) : ∀ a, (![0, n * 256] : Fin 2 → ℕ) a + S64x256.size a ≤ S64x2048.size a := by
  intro a; fin_cases a; exacts [le_refl 64, (by show n * 256 + 256 ≤ 2048; omega)]
theorem mixHead_inb (n : ℕ) (h : n < 8) : ∀ a, (![0, 1024 + n * 128] : Fin 2 → ℕ) a + S64x128.size a ≤ S64x2048.size a := by
  intro a; fin_cases a; exacts [le_refl 64, (by show 1024 + n * 128 + 128 ≤ 2048; omega)]

theorem ofMix_pool (p : ℕ → Fin 64 → Fin 256 → EReal) (q : ℕ → Fin 64 → Fin 128 → EReal) (n : ℕ) (h : n < 4) (t : Fin 64) (j : Fin 256) :
    ofMix p q ((Rect.unit (s := S64x2048) ![0, n * 256] S64x256.size (mixPool_inb n h)).emb (ix2 t j)) = p n t j := by
  have e0 : (n * 256 + 1 * j.val) / 256 = n := by omega
  have e1 : (⟨0 + 1 * t.val, by omega⟩ : Fin 64) = t := Fin.ext (by show 0 + 1 * t.val = t.val; omega)
  have e2 : (⟨(n * 256 + 1 * j.val) % 256, Nat.mod_lt _ (by decide)⟩ : Fin 256) = j := Fin.ext (by show (n * 256 + 1 * j.val) % 256 = j.val; omega)
  refine (if_pos (show n * 256 + 1 * j.val < 1024 by omega)).trans ?_
  show p ((n * 256 + 1 * j.val) / 256) ⟨0 + 1 * t.val, _⟩ ⟨(n * 256 + 1 * j.val) % 256, _⟩ = _
  rw [e0, e1, e2]

theorem ofMix_head (p : ℕ → Fin 64 → Fin 256 → EReal) (q : ℕ → Fin 64 → Fin 128 → EReal) (n : ℕ) (h : n < 8) (t : Fin 64) (j : Fin 128) :
    ofMix p q ((Rect.unit (s := S64x2048) ![0, 1024 + n * 128] S64x128.size (mixHead_inb n h)).emb (ix2 t j)) = q n t j := by
  have e0 : (1024 + n * 128 + 1 * j.val - 1024) / 128 = n := by omega
  have e1 : (⟨0 + 1 * t.val, by omega⟩ : Fin 64) = t := Fin.ext (by show 0 + 1 * t.val = t.val; omega)
  have e2 : (⟨(1024 + n * 128 + 1 * j.val - 1024) % 128, Nat.mod_lt _ (by decide)⟩ : Fin 128) = j := Fin.ext (by show (1024 + n * 128 + 1 * j.val - 1024) % 128 = j.val; omega)
  refine (if_neg (show ¬1024 + n * 128 + 1 * j.val < 1024 by omega)).trans ?_
  show q ((1024 + n * 128 + 1 * j.val - 1024) / 128) ⟨0 + 1 * t.val, _⟩ ⟨(1024 + n * 128 + 1 * j.val - 1024) % 128, _⟩ = _
  rw [e0, e1, e2]

section mix

variable (c : Dev nD)
  (arg1 : Memref sig .tc .vmem S64x5120 .f32) (harg1 : arg1.IsWhole)
  (arg2 : Memref sig .tc .vmem S1x15x8x1024 .f32) (harg2 : arg2.IsWhole)
  (arg3 : Memref sig .tc .vmem S8x8x128x128 .f32) (harg3 : arg3.IsWhole)
  (arg4 : Memref sig .tc .vmem S2x1024 .f32) (harg4 : arg4.IsWhole)
  (arg5 : Memref sig .tc .vmem S4x256x256 .bf16) (harg5 : arg5.IsWhole)
  (arg6 : Memref sig .tc .vmem S1x1024 .f32) (harg6 : arg6.IsWhole)
  (arg7 : Memref sig .tc .vmem S1x1024 .f32) (harg7 : arg7.IsWhole)
  (arg11 : Memref sig .tc .vmem S24x8x1024 .f32)
  (arg12 : Memref sig .tc .vmem S3x8x64x128 .f32)
  (arg13 : Memref sig .tc .vmem S128x8x128 .f32)
  (arg14 : Memref sig .tc .vmem S2x64x1024 .bf16)
  (arg15 : Memref sig .tc .vmem S5x512x128 .f32)
  (arg16 : Memref sig .tc .vmem S8x64x64 .f32) (harg16 : arg16.IsWhole)
  (x0 : Vec Ideal S64x5120 .f32) (x1 : Vec Ideal S1x15x8x1024 .f32) (x2 : Vec Ideal S8x8x128x128 .f32) (x3 : Vec Ideal S2x1024 .f32)
  (x4 : Vec Ideal S4x256x256 .bf16) (x5 : Vec Ideal S1x1024 .f32) (x6 : Vec Ideal S1x1024 .f32) (s0 : Vec Ideal S8x64x64 .f32)

/-- The outputs of group `g`, for any `g`. -/
def poolV (g : ℕ) (t : Fin 64) (j : Fin 256) : EReal :=
  if h : g < 4 then poolG c arg1 harg1 arg2 harg2 arg5 harg5 arg6 harg6 arg11 x0 x1 x4 x5 g h (ix2 t j) else 0

/-- The scaled and gated outputs of head `n`, for any `n`. -/
def headV (n : ℕ) (t : Fin 64) (j : Fin 128) : EReal :=
  if h : n < 8 then k0_pay911 (outH c arg1 harg1 arg3 harg3 arg4 harg4 arg12 arg13 arg14 arg15 arg16 harg16 x0 x2 x3 s0 n h)
    (cols arg1 harg1 x0 (4096 + n * 128) (by omega)) (hgn arg7 harg7 x6 n h) (ix2 t j) else 0

theorem poolP_agree (q : ℕ → Fin 64 → Fin 128 → EReal) : ∀ (n : ℕ) (h : n ≤ 4), ∀ p ∈ poolP c arg1 harg1 arg2 harg2 arg5 harg5 arg6 harg6 arg11 x0 x1 x4 x5 n h, ∀ x : p.1.shape.Idx,
    p.2 x = ofMix (poolV c arg1 harg1 arg2 harg2 arg5 harg5 arg6 harg6 arg11 x0 x1 x4 x5) q (p.1.emb x)
  | 0, _ => by intro p hp; cases hp
  | n + 1, h => by
    rw [poolP]
    simp only [List.forall_mem_cons]
    refine ⟨?_, poolP_agree q n (by omega)⟩
    intro x
    obtain ⟨t, j, rfl⟩ : ∃ (t : Fin 64) (j : Fin 256), x = ix2 t j := ⟨_, _, eq_ix2 x⟩
    exact ((ofMix_pool _ _ n h t j).trans (dif_pos (show n < 4 from h))).symm

theorem mixP_agree : ∀ (n : ℕ) (h : n ≤ 8), ∀ p ∈ mixP c arg1 harg1 arg2 harg2 arg3 harg3 arg4 harg4 arg5 harg5 arg6 harg6 arg7 harg7 arg11 arg12 arg13 arg14 arg15 arg16 harg16 x0 x1 x2 x3 x4 x5 x6 s0 n h, ∀ x : p.1.shape.Idx,
    p.2 x = ofMix (poolV c arg1 harg1 arg2 harg2 arg5 harg5 arg6 harg6 arg11 x0 x1 x4 x5)
      (headV c arg1 harg1 arg3 harg3 arg4 harg4 arg7 harg7 arg12 arg13 arg14 arg15 arg16 harg16 x0 x2 x3 x6 s0) (p.1.emb x)
  | 0, _ => by rw [mixP]; exact poolP_agree _ _ _ _ _ _ _ _ _ _ _ _ _ _ _ _ _
  | n + 1, h => by
    rw [mixP]
    simp only [List.forall_mem_cons]
    refine ⟨?_, mixP_agree n (by omega)⟩
    intro x
    obtain ⟨t, j, rfl⟩ : ∃ (t : Fin 64) (j : Fin 128), x = ix2 t j := ⟨_, _, eq_ix2 x⟩
    exact ((ofMix_head _ _ n h t j).trans (dif_pos (show n < 8 from h))).symm

variable (hc : ∀ y, ∃ p ∈ mixP c arg1 harg1 arg2 harg2 arg3 harg3 arg4 harg4 arg5 harg5 arg6 harg6 arg7 harg7 arg11 arg12 arg13 arg14 arg15 arg16 harg16 x0 x1 x2 x3 x4 x5 x6 s0 8 le_rfl, y ∈ p.1.set)
include hc

theorem mixP_pool (g : Fin 4) (t : Fin 64) (j : Fin 256) :
    View.canon (mixP c arg1 harg1 arg2 harg2 arg3 harg3 arg4 harg4 arg5 harg5 arg6 harg6 arg7 harg7 arg11 arg12 arg13 arg14 arg15 arg16 harg16 x0 x1 x2 x3 x4 x5 x6 s0 8 le_rfl)
      (ix2 t ⟨g.val * 256 + j.val, by omega⟩)
      = poolG c arg1 harg1 arg2 harg2 arg5 harg5 arg6 harg6 arg11 x0 x1 x4 x5 g.val g.isLt (ix2 t j) := by
  have e : (ix2 t ⟨g.val * 256 + j.val, by omega⟩ : S64x2048.Idx) = (Rect.unit (s := S64x2048) ![0, g.val * 256] S64x256.size (mixPool_inb g.val g.isLt)).emb (ix2 t j) := by
    funext a; apply Fin.ext
    match a with
    | 0 => exact (show t.val = 0 + 1 * t.val by omega)
    | 1 => exact (show g.val * 256 + j.val = g.val * 256 + 1 * j.val by omega)
  rw [View.canon_apply_of_pieces _ _ (mixP_agree c arg1 harg1 arg2 harg2 arg3 harg3 arg4 harg4 arg5 harg5 arg6 harg6 arg7 harg7 arg11 arg12 arg13 arg14 arg15 arg16 harg16 x0 x1 x2 x3 x4 x5 x6 s0 8 le_rfl) _ (hc _), e, ofMix_pool _ _ g.val g.isLt]
  exact dif_pos g.isLt

theorem mixP_head (n : Fin 8) (t : Fin 64) (j : Fin 128) :
    View.canon (mixP c arg1 harg1 arg2 harg2 arg3 harg3 arg4 harg4 arg5 harg5 arg6 harg6 arg7 harg7 arg11 arg12 arg13 arg14 arg15 arg16 harg16 x0 x1 x2 x3 x4 x5 x6 s0 8 le_rfl)
      (ix2 t ⟨1024 + n.val * 128 + j.val, by omega⟩)
      = k0_pay911 (outH c arg1 harg1 arg3 harg3 arg4 harg4 arg12 arg13 arg14 arg15 arg16 harg16 x0 x2 x3 s0 n.val n.isLt)
        (cols arg1 harg1 x0 (4096 + n.val * 128) (by omega)) (hgn arg7 harg7 x6 n.val n.isLt) (ix2 t j) := by
  have e : (ix2 t ⟨1024 + n.val * 128 + j.val, by omega⟩ : S64x2048.Idx) = (Rect.unit (s := S64x2048) ![0, 1024 + n.val * 128] S64x128.size (mixHead_inb n.val n.isLt)).emb (ix2 t j) := by
    funext a; apply Fin.ext
    match a with
    | 0 => exact (show t.val = 0 + 1 * t.val by omega)
    | 1 => exact (show 1024 + n.val * 128 + j.val = 1024 + n.val * 128 + 1 * j.val by omega)
  rw [View.canon_apply_of_pieces _ _ (mixP_agree c arg1 harg1 arg2 harg2 arg3 harg3 arg4 harg4 arg5 harg5 arg6 harg6 arg7 harg7 arg11 arg12 arg13 arg14 arg15 arg16 harg16 x0 x1 x2 x3 x4 x5 x6 s0 8 le_rfl) _ (hc _), e, ofMix_head _ _ n.val n.isLt]
  exact dif_pos n.isLt

end mix

end Cert.KernelIdeal.Mixer
-- ==== Proof.MixMath.lean ====
/-
  The forget gates are positive reals, so sums of their logarithms are logarithms of their products: the reference's
  exponentials of differences of sums of logarithms are the kernel's products of gates.
-/
module

public import proofs.«01_k».proof.Proof.MixRef

@[expose] public section

noncomputable section

namespace Cert.KernelIdeal.Mixer

open Idealize.ShloMosaic Idealize.ShloMosaic.TcCoe Idealize.ShloMosaic.Tactic

/-- A positive real. -/
def PosReal (z : EReal) : Prop := ∃ r : ℝ, 0 < r ∧ z = (r : EReal)

theorem sg_real (z : EReal) : ∃ r : ℝ, 0 ≤ r ∧ sg z = (r : EReal) := by
  induction z using EReal.rec with
  | bot =>
    refine ⟨0, le_rfl, ?_⟩
    have e : (0 : EReal) - ⊥ = ⊤ := by rw [zero_sub, EReal.neg_bot]
    unfold sg
    rw [e, Ideal.exp_top, Ideal.div, if_neg]
    · rw [show (1 : EReal) + ⊤ = ⊤ from by rw [← EReal.coe_one, EReal.coe_add_top], EReal.inv_top, mul_zero, EReal.coe_zero]
    · rw [show (1 : EReal) + ⊤ = ⊤ from by rw [← EReal.coe_one, EReal.coe_add_top]]; exact EReal.top_ne_zero
  | top =>
    refine ⟨1, zero_le_one, ?_⟩
    have e : (0 : EReal) - ⊤ = ⊥ := by rw [zero_sub, EReal.neg_top]
    unfold sg
    rw [e, Ideal.exp_bot, add_zero, ← EReal.coe_one, Ideal.div_coe one_ne_zero, ← EReal.coe_mul, one_mul, div_one]
  | coe r =>
    refine ⟨1 / (1 + Real.exp (0 - r)), by positivity, ?_⟩
    unfold sg
    rw [show (0 : EReal) - (r : EReal) = ((0 - r : ℝ) : EReal) from by rw [EReal.coe_sub, EReal.coe_zero], Ideal.exp_coe, ← EReal.coe_one, ← EReal.coe_add,
      Ideal.div_coe (by positivity), ← EReal.coe_mul, one_mul]

theorem lbE_real (a b : ℝ) : ∃ l : ℝ, 0 < l ∧ l < 1 ∧ lbE (a : EReal) (b : EReal) = (l : EReal) := by
  have hm : max (a : EReal) (b : EReal) = ((max a b : ℝ) : EReal) := (EReal.coe_strictMono.monotone.map_max (a := a) (b := b)).symm
  refine ⟨Real.exp (a - max a b) / (Real.exp (a - max a b) + Real.exp (b - max a b)), by positivity, ?_, ?_⟩
  · rw [div_lt_one (by positivity)]
    have := Real.exp_pos (b - max a b)
    linarith
  · unfold lbE
    rw [hm, ← EReal.coe_sub, ← EReal.coe_sub, Ideal.exp_coe, Ideal.exp_coe, ← EReal.coe_add, Ideal.div_coe (by positivity), ← EReal.coe_mul,
      mul_one_div]

theorem sg_le_one_aux (l s : ℝ) (h0 : 0 < l) (h1 : l < 1) (hs : 0 ≤ s) : PosReal ((l : EReal) + (1 - (l : EReal)) * (s : EReal)) := by
  refine ⟨l + (1 - l) * s, ?_, ?_⟩
  · have := mul_nonneg (sub_nonneg.mpr h1.le) hs
    linarith
  · rw [EReal.coe_add, EReal.coe_mul, EReal.coe_sub, EReal.coe_one]

/-- The forget gate is a positive real whatever its input is, once its lower bound's parameters are finite. -/
theorem fg_pos (a b : ℝ) (z : EReal) : PosReal (fg (lbE (a : EReal) (b : EReal)) z) := by
  obtain ⟨l, h0, h1, e⟩ := lbE_real a b
  obtain ⟨s, hs, es⟩ := sg_real z
  unfold fg
  rw [e, es]
  exact sg_le_one_aux l s h0 h1 hs

theorem coe_prod (s : Finset ℕ) (g : ℕ → ℝ) : ((∏ w ∈ s, g w : ℝ) : EReal) = ∏ w ∈ s, (g w : EReal) := by
  induction s using Finset.cons_induction with
  | empty => rw [Finset.prod_empty, Finset.prod_empty, EReal.coe_one]
  | cons a s h ih => rw [Finset.prod_cons, Finset.prod_cons, EReal.coe_mul, ih]

section logs

variable (f : ℕ → EReal) (hf : ∀ w < 8, PosReal (f w)) (c : Fin 8 → EReal)
  (hc : ∀ t : Fin 8, c t = ∑ m : Fin 8, if 7 ≤ t.val + m.val then Ideal.log (f (t.val + m.val - 7)) else 0)
include hf hc

theorem cum_real : ∃ g : ℕ → ℝ, (∀ w < 8, 0 < g w ∧ f w = (g w : EReal)) ∧
    ∀ t : Fin 8, c t = ((∑ w ∈ Finset.range (t.val + 1), Real.log (g w) : ℝ) : EReal) := by
  have h : ∀ w : ℕ, ∃ r : ℝ, w < 8 → 0 < r ∧ f w = (r : EReal) := fun w => by
    by_cases hw : w < 8
    · obtain ⟨r, h⟩ := hf w hw; exact ⟨r, fun _ => h⟩
    · exact ⟨0, fun h => absurd h hw⟩
  choose g hg using h
  have hl : ∀ w : ℕ, w < 8 → Ideal.log (f w) = (Real.log (g w) : EReal) := fun w hw => by
    rw [(hg w hw).2, Ideal.log_coe, if_neg (not_le.mpr (hg w hw).1)]
  refine ⟨g, hg, fun t => ?_⟩
  rw [hc]
  fin_cases t <;>
    simp [Fin.sum_univ_eight, Finset.sum_range_succ, hl]

theorem exp_cum (t : Fin 8) : Ideal.exp (c t) = ∏ w ∈ Finset.range (t.val + 1), f w := by
  obtain ⟨g, hg, h⟩ := cum_real f hf c hc
  rw [h, Ideal.exp_coe, Real.exp_sum, coe_prod]
  refine Finset.prod_congr rfl fun w hw => ?_
  have hw' : w < 8 := by have := Finset.mem_range.mp hw; omega
  rw [Real.exp_log (hg w hw').1, (hg w hw').2]

theorem exp_cum_sub (t s : Fin 8) (hst : s ≤ t) : Ideal.exp (c t - c s) = ∏ w ∈ Finset.Ioc s.val t.val, f w := by
  obtain ⟨g, hg, h⟩ := cum_real f hf c hc
  have hst' : s.val ≤ t.val := hst
  have e : Finset.Ioc s.val t.val = Finset.Ico (s.val + 1) (t.val + 1) := by ext w; simp only [Finset.mem_Ioc, Finset.mem_Ico]; omega
  rw [h, h, ← EReal.coe_sub, ← Finset.sum_Ico_eq_sub _ (by omega), Ideal.exp_coe, Real.exp_sum, coe_prod, e]
  refine Finset.prod_congr rfl fun w hw => ?_
  have hw' : w < 8 := by have := (Finset.mem_Ico.mp hw).2; omega
  rw [Real.exp_log (hg w hw').1, (hg w hw').2]

end logs

theorem div_one_word (x : EReal) : Ideal.div x 1 = x := by
  rw [← EReal.coe_one, Ideal.div_coe one_ne_zero, div_one, EReal.coe_one, mul_one]

end Cert.KernelIdeal.Mixer

end
-- ==== Proof.MixEq.lean ====
/-
  One grid point of the sampling mixer against the reference: the blocks it computes from its arguments' blocks are the
  blocks of the reference's results.
-/
module

public import proofs.«01_k».proof.Proof.MixOut
public import proofs.«01_k».proof.Proof.MixMath

@[expose] public section

set_option maxRecDepth 65536

noncomputable section

namespace Cert.KernelIdeal.Mixer

open Idealize.ShloMosaic Idealize.ShloMosaic.TcCoe Idealize.ShloMosaic.Tactic
open Cert.KernelIdeal.Gen
open Cert.ReferenceIdeal.Read

/-! ### The reference's running sums of logarithms -/

section ref

variable (z : (⟨Cert.ReferenceIdeal.S1024x5120, .f32⟩ : BufTy).Contents (Elt Ideal)) (lb : (⟨Cert.ReferenceIdeal.S2x1024, .f32⟩ : BufTy).Contents (Elt Ideal))
  (hlb : ∀ (a : Fin 2) (j : Fin 1024), ∃ r : ℝ, (lb (ix2 a j) : EReal) = (r : EReal))

/-- The forget gates of one sequence's head column, by token. -/
def fseq (B : Fin 128) (n : Fin 8) (k : Fin 128) (w : ℕ) : EReal :=
  if h : w < 8 then val_main_v154 (F := Ideal) z lb (ix3 B ⟨w, h⟩ ⟨n.val * 128 + k.val, by omega⟩) else 0

include hlb in
theorem fseq_pos (B : Fin 128) (n : Fin 8) (k : Fin 128) (w : ℕ) (hw : w < 8) : PosReal (fseq z lb B n k w) := by
  unfold fseq
  rw [dif_pos hw, refF_apply]
  obtain ⟨a, ha⟩ := hlb 0 ⟨n.val * 128 + k.val, by omega⟩
  obtain ⟨b, hb⟩ := hlb 1 ⟨n.val * 128 + k.val, by omega⟩
  rw [ha, hb]
  exact fg_pos a b _

theorem cum_fseq (B : Fin 128) (n : Fin 8) (k : Fin 128) (t : Fin 8) :
    val_main_v168 (F := Ideal) z lb (ix4 B n t k) = ∑ m : Fin 8, if 7 ≤ t.val + m.val then Ideal.log (fseq z lb B n k (t.val + m.val - 7)) else 0 := by
  rw [refCum_apply]
  refine Finset.sum_congr rfl fun m _ => ?_
  by_cases h : 7 ≤ t.val + m.val
  · rw [dif_pos h, if_pos h, refL_apply, fseq, dif_pos (by omega)]
  · rw [dif_neg h, if_neg h]

include hlb in
theorem exp_v168 (B : Fin 128) (n : Fin 8) (k : Fin 128) (t : Fin 8) :
    Ideal.exp (val_main_v168 (F := Ideal) z lb (ix4 B n t k)) = ∏ w ∈ Finset.range (t.val + 1), fseq z lb B n k w :=
  exp_cum (fseq z lb B n k) (fseq_pos z lb hlb B n k) (fun t => val_main_v168 (F := Ideal) z lb (ix4 B n t k)) (cum_fseq z lb B n k) t

include hlb in
theorem exp_v168_sub (B : Fin 128) (n : Fin 8) (k : Fin 128) (t s : Fin 8) (h : s ≤ t) :
    Ideal.exp (val_main_v168 (F := Ideal) z lb (ix4 B n t k) - val_main_v168 (F := Ideal) z lb (ix4 B n s k)) = ∏ w ∈ Finset.Ioc s.val t.val, fseq z lb B n k w :=
  exp_cum_sub (fseq z lb B n k) (fseq_pos z lb hlb B n k) (fun t => val_main_v168 (F := Ideal) z lb (ix4 B n t k)) (cum_fseq z lb B n k) t s h

end ref

/-! ### The point -/

section point

variable (c : Dev nD)
  (arg1 : Memref sig .tc .vmem S64x5120 .f32) (harg1 : arg1.IsWhole)
  (arg2 : Memref sig .tc .vmem S1x15x8x1024 .f32) (harg2 : arg2.IsWhole)
  (arg3 : Memref sig .tc .vmem S8x8x128x128 .f32) (harg3 : arg3.IsWhole)
  (arg4 : Memref sig .tc .vmem S2x1024 .f32) (harg4 : arg4.IsWhole)
  (arg5 : Memref sig .tc .vmem S4x256x256 .bf16) (harg5 : arg5.IsWhole)
  (arg6 : Memref sig .tc .vmem S1x1024 .f32) (harg6 : arg6.IsWhole)
  (arg7 : Memref sig .tc .vmem S1x1024 .f32) (harg7 : arg7.IsWhole)
  (arg11 : Memref sig .tc .vmem S24x8x1024 .f32)
  (arg12 : Memref sig .tc .vmem S3x8x64x128 .f32)
  (arg13 : Memref sig .tc .vmem S128x8x128 .f32)
  (arg14 : Memref sig .tc .vmem S2x64x1024 .bf16)
  (arg15 : Memref sig .tc .vmem S5x512x128 .f32)
  (arg16 : Memref sig .tc .vmem S8x64x64 .f32) (harg16 : arg16.IsWhole)
  (x0 : Vec Ideal S64x5120 .f32) (x1 : Vec Ideal S1x15x8x1024 .f32) (x2 : Vec Ideal S8x8x128x128 .f32) (x3 : Vec Ideal S2x1024 .f32)
  (x4 : Vec Ideal S4x256x256 .bf16) (x5 : Vec Ideal S1x1024 .f32) (x6 : Vec Ideal S1x1024 .f32) (s0 : Vec Ideal S8x64x64 .f32)
  (z : (⟨Cert.ReferenceIdeal.S1024x5120, .f32⟩ : BufTy).Contents (Elt Ideal)) (ca : (⟨Cert.ReferenceIdeal.S1x128x15x1024, .f32⟩ : BufTy).Contents (Elt Ideal))
  (st : (⟨Cert.ReferenceIdeal.S1x128x8x128x128, .f32⟩ : BufTy).Contents (Elt Ideal)) (lb : (⟨Cert.ReferenceIdeal.S2x1024, .f32⟩ : BufTy).Contents (Elt Ideal))
  (wp : (⟨Cert.ReferenceIdeal.S1x4x256x256, .f32⟩ : BufTy).Contents (Elt Ideal)) (ps : (⟨Cert.ReferenceIdeal.S1x1024, .f32⟩ : BufTy).Contents (Elt Ideal))
  (hg : (⟨Cert.ReferenceIdeal.S1x1024, .f32⟩ : BufTy).Contents (Elt Ideal))
  (T : ℕ) (hT : T < 16)
  (h0 : ∀ (r : Fin 64) (k : Fin 5120) (R : Fin 1024), R.val = 64 * T + r.val → x0 (ix2 r k) = z (ix2 R k))
  (h1 : ∀ (r : Fin 15) (b : Fin 8) (j : Fin 1024) (B : Fin 128), B.val = 8 * T + b.val → x1 (ix4 0 r b j) = ca (ix4 0 B r j))
  (h2 : ∀ (b n : Fin 8) (i j : Fin 128) (B : Fin 128), B.val = 8 * T + b.val → x2 (ix4 b n i j) = st (ix5 0 B n i j))
  (h3 : ∀ (a : Fin 2) (j : Fin 1024), x3 (ix2 a j) = lb (ix2 a j))
  (h4 : ∀ (g : Fin 4) (x j : Fin 256), x4 (ix3 g x j) = wp (ix4 0 g x j))
  (h5 : ∀ j : Fin 1024, x5 (ix2 0 j) = ps (ix2 0 j))
  (h6 : ∀ j : Fin 1024, x6 (ix2 0 j) = hg (ix2 0 j))
  (hlb : ∀ (a : Fin 2) (j : Fin 1024), ∃ r : ℝ, (lb (ix2 a j) : EReal) = (r : EReal))
  (hs : OffZero s0)
  (b : Fin 8) (B : Fin 128) (hB : B.val = 8 * T + b.val)

include h0 hB in
theorem row_eq (s : Fin 8) (k : Fin 5120) : x0 (ix2 ⟨b.val * 8 + s.val, by omega⟩ k) = z (ix2 ⟨B.val * 8 + s.val, by omega⟩ k) :=
  h0 _ _ _ (by show B.val * 8 + s.val = 64 * T + (b.val * 8 + s.val); omega)

include h0 hB in
theorem gv_q (n s : Fin 8) (k : Fin 128) :
    gv arg1 harg1 arg4 harg4 x0 x3 0 n.val (b.val * 8 + s.val) k = val_main_v157 (F := Ideal) z (ix4 B n s k) := by
  rw [gv_zero _ _ _ _ _ _ n.val _ n.isLt (by omega), gateQ_apply, refQ_apply, row_eq x0 z T h0 b B hB]

include h0 h3 hB in
theorem gv_f (n : Fin 8) (k : Fin 128) (w : ℕ) (hw : w < 8) :
    gv arg1 harg1 arg4 harg4 x0 x3 2 n.val (b.val * 8 + w) k = fseq z lb B n k w := by
  rw [gv_two _ _ _ _ _ _ n.val _ n.isLt (by omega), gateF_apply, fseq, dif_pos hw, refF_apply, h3, h3]
  exact congrArg (fg _) ((row_eq x0 z T h0 b B hB ⟨w, hw⟩ _).trans (congrArg (fun q => z (ix2 _ q)) (Fin.ext (by show 2048 + n.val * 128 + k.val = 2048 + (n.val * 128 + k.val); omega))))

include h0 h3 hB in
theorem gv_k (n s : Fin 8) (k : Fin 128) :
    gv arg1 harg1 arg4 harg4 x0 x3 1 n.val (b.val * 8 + s.val) k = val_main_v161 (F := Ideal) z lb (ix4 B n s k) := by
  have h := gv_f arg1 harg1 arg4 harg4 x0 x3 z lb T h0 h3 b B hB n k s.val s.isLt
  rw [gv_two _ _ _ _ _ _ n.val _ n.isLt (by omega), fseq, dif_pos s.isLt] at h
  rw [gv_one _ _ _ _ _ _ n.val _ n.isLt (by omega), gateK_apply, refK_apply, h]

include h0 hB in
theorem val_eq (n s : Fin 8) (j : Fin 128) :
    x0 (ix2 ⟨b.val * 8 + s.val, by omega⟩ ⟨3072 + n.val * 128 + j.val, by omega⟩) = val_main_v163 (F := Ideal) z (ix4 B n s j) := by
  rw [refV_apply, row_eq x0 z T h0 b B hB]

include h0 h2 h3 hB hlb hs in
/-- The heads' outputs. -/
theorem outH_eq (n s : Fin 8) (j : Fin 128) :
    outH c arg1 harg1 arg3 harg3 arg4 harg4 arg12 arg13 arg14 arg15 arg16 harg16 x0 x2 x3 s0 n.val n.isLt (ix2 ⟨b.val * 8 + s.val, by omega⟩ j)
      = val_main_v190 (F := Ideal) z st lb (ix4 B n s j) := by
  rw [outH_apply c arg1 harg1 arg3 harg3 arg4 harg4 arg12 arg13 arg14 arg15 arg16 harg16 x0 x2 x3 s0 hs n.val n.isLt, refO_apply]
  refine congrArg₂ (HAdd.hAdd (α := EReal) (β := EReal) (γ := EReal)) (Finset.sum_congr rfl fun u _ => ?_) (Finset.sum_congr rfl fun k _ => ?_)
  · refine congrArg₂ (HMul.hMul (α := EReal) (β := EReal) (γ := EReal)) ?_ (val_eq x0 z T h0 b B hB n u j)
    rw [refScore_apply]
    by_cases h : u ≤ s
    · rw [if_pos h]
      refine Finset.sum_congr rfl fun k _ => ?_
      rw [gv_q arg1 harg1 arg4 harg4 x0 x3 z T h0 b B hB, gv_k arg1 harg1 arg4 harg4 x0 x3 z lb T h0 h3 b B hB, refDecay_apply, if_pos h, exp_v168_sub z lb hlb B n k s u h]
      refine congrArg (HMul.hMul (α := EReal) (β := EReal) (γ := EReal) _) (Finset.prod_congr rfl fun w hw => ?_)
      exact gv_f arg1 harg1 arg4 harg4 x0 x3 z lb T h0 h3 b B hB n k w (by have := (Finset.mem_Ioc.mp hw).2; omega)
    · rw [if_neg h]
      refine (Finset.sum_eq_zero fun k _ => ?_).symm
      rw [refDecay_apply, if_neg h]
      exact mul_zero (M₀ := EReal) _
  · rw [gv_q arg1 harg1 arg4 harg4 x0 x3 z T h0 b B hB, exp_v168 z lb hlb, h2 b n k j B hB]
    refine congrArg (fun q : EReal => val_main_v157 (F := Ideal) z (ix4 B n s k) * q * st (ix5 0 B n k j)) (Finset.prod_congr rfl fun w hw => ?_)
    exact gv_f arg1 harg1 arg4 harg4 x0 x3 z lb T h0 h3 b B hB n k w (by have := Finset.mem_range.mp hw; omega)

include h0 h2 h3 hB hlb in
/-- The states after the tokens. -/
theorem stP_eq (n : Fin 8) (i j : Fin 128) (hc : ∀ y, ∃ p ∈ stP c arg1 harg1 arg3 harg3 arg4 harg4 arg12 arg13 arg15 x0 x2 x3 8 le_rfl, y ∈ p.1.set) :
    View.canon (stP c arg1 harg1 arg3 harg3 arg4 harg4 arg12 arg13 arg15 x0 x2 x3 8 le_rfl) (ix4 b n i j) = val_main_v202 (F := Ideal) z st lb (ix4 B n i j) := by
  rw [stP_apply c arg1 harg1 arg3 harg3 arg4 harg4 arg12 arg13 arg15 x0 x2 x3 b n i j hc, stH_apply, refS_apply, exp_v168 z lb hlb]
  refine congrArg₂ (HAdd.hAdd (α := EReal) (β := EReal) (γ := EReal)) ?_ (Finset.sum_congr rfl fun s _ => ?_)
  · rw [h2 b n i j B hB]
    refine congrArg (fun q : EReal => q * st (ix5 0 B n i j)) (Finset.prod_congr rfl fun w hw => ?_)
    exact gv_f arg1 harg1 arg4 harg4 x0 x3 z lb T h0 h3 b B hB n i w (Finset.mem_range.mp hw)
  · rw [gv_k arg1 harg1 arg4 harg4 x0 x3 z lb T h0 h3 b B hB, exp_v168_sub z lb hlb B n i 7 s (by omega), val_eq x0 z T h0 b B hB]
    refine congrArg (fun q : EReal => val_main_v161 (F := Ideal) z lb (ix4 B n s i) * q * val_main_v163 (F := Ideal) z (ix4 B n s j)) (Finset.prod_congr rfl fun w hw => ?_)
    exact gv_f arg1 harg1 arg4 harg4 x0 x3 z lb T h0 h3 b B hB n i w (by have := (Finset.mem_Ioc.mp hw).2; omega)

include h0 h1 hB in
theorem ext_ref (j : Fin 1024) : extB x0 x1 b j = extE z ca B j := by
  funext r
  unfold extB extE
  by_cases h : r < 15
  · rw [dif_pos h, dif_pos h, h1 ⟨r, h⟩ b j B hB]
  · rw [dif_neg h, dif_neg h]
    by_cases h' : r < 23
    · rw [dif_pos h', dif_pos h']
      exact row_eq x0 z T h0 b B hB ⟨r - 15, by omega⟩ _
    · rw [dif_neg h', dif_neg h']

include h0 h1 hB in
/-- The rows kept for the next call. -/
theorem histP_eq (r : Fin 15) (j : Fin 1024) :
    View.canon (histP c arg1 harg1 arg2 harg2 arg11 x0 x1) (ix3 r b j) = val_main_v225 (F := Ideal) z ca (ix3 B r j) := by
  rw [histP_apply, ext_ref x0 x1 z ca T h0 h1 b B hB, refHist_apply]
  unfold extE
  by_cases h : r.val < 7
  · rw [dif_pos h, dif_pos (by omega)]
  · rw [dif_neg h, dif_neg (by omega), dif_pos (by omega)]
    exact congrArg (fun q => z (ix2 q _)) (Fin.ext (by show B.val * 8 + (8 + r.val - 15) = B.val * 8 + (r.val - 7); omega))

variable (hc : ∀ y, ∃ p ∈ mixP c arg1 harg1 arg2 harg2 arg3 harg3 arg4 harg4 arg5 harg5 arg6 harg6 arg7 harg7 arg11 arg12 arg13 arg14 arg15 arg16 harg16 x0 x1 x2 x3 x4 x5 x6 s0 8 le_rfl, y ∈ p.1.set)

include h0 h1 h4 h5 hB hc in
theorem mixP_pool_eq (g : Fin 4) (s : Fin 8) (j : Fin 256) :
    View.canon (mixP c arg1 harg1 arg2 harg2 arg3 harg3 arg4 harg4 arg5 harg5 arg6 harg6 arg7 harg7 arg11 arg12 arg13 arg14 arg15 arg16 harg16 x0 x1 x2 x3 x4 x5 x6 s0 8 le_rfl)
      (ix2 ⟨b.val * 8 + s.val, by omega⟩ ⟨g.val * 256 + j.val, by omega⟩)
      = val_main_v126 (F := Ideal) z ca wp ps (ix3 B s ⟨g.val * 256 + j.val, by omega⟩) := by
  rw [mixP_pool c arg1 harg1 arg2 harg2 arg3 harg3 arg4 harg4 arg5 harg5 arg6 harg6 arg7 harg7 arg11 arg12 arg13 arg14 arg15 arg16 harg16 x0 x1 x2 x3 x4 x5 x6 s0 hc,
    poolG_apply, refPooled_apply, h5]
  refine congrArg (fun q : EReal => q * ps (ix2 0 ⟨g.val * 256 + j.val, by omega⟩)) (Finset.sum_congr rfl fun x _ => ?_)
  rw [refPools_apply, ext_ref x0 x1 z ca T h0 h1 b B hB, div_one_word, row_eq x0 z T h0 b B hB, h4]
  exact mul_comm (G := EReal) _ _

include h0 h2 h3 h6 hB hlb hs hc in
theorem mixP_head_eq (n s : Fin 8) (j : Fin 128) :
    View.canon (mixP c arg1 harg1 arg2 harg2 arg3 harg3 arg4 harg4 arg5 harg5 arg6 harg6 arg7 harg7 arg11 arg12 arg13 arg14 arg15 arg16 harg16 x0 x1 x2 x3 x4 x5 x6 s0 8 le_rfl)
      (ix2 ⟨b.val * 8 + s.val, by omega⟩ ⟨1024 + n.val * 128 + j.val, by omega⟩)
      = val_main_v221 (F := Ideal) z st lb hg (ix3 B s ⟨n.val * 128 + j.val, by omega⟩) := by
  rw [mixP_head c arg1 harg1 arg2 harg2 arg3 harg3 arg4 harg4 arg5 harg5 arg6 harg6 arg7 harg7 arg11 arg12 arg13 arg14 arg15 arg16 harg16 x0 x1 x2 x3 x4 x5 x6 s0 hc,
    pay911_apply, refHead_apply, hgn_apply, h6, cols_apply, row_eq x0 z T h0 b B hB]
  simp only [outH_eq c arg1 harg1 arg3 harg3 arg4 harg4 arg12 arg13 arg14 arg15 arg16 harg16 x0 x2 x3 s0 z st lb T h0 h2 h3 hlb hs b B hB]
  refine congrArg (HMul.hMul (α := EReal) (β := EReal) (γ := EReal) _) ?_
  exact congrArg (fun q => (fun z : EReal => z * sg z) (z (ix2 _ q))) (Fin.ext (by show 4096 + n.val * 128 + j.val = 4096 + (n.val * 128 + j.val); omega))

include h0 h1 h2 h3 h4 h5 h6 hB hlb hs hc in
/-- The mixed outputs. -/
theorem mixP_eq (s : Fin 8) (q : Fin 2048) :
    View.canon (mixP c arg1 harg1 arg2 harg2 arg3 harg3 arg4 harg4 arg5 harg5 arg6 harg6 arg7 harg7 arg11 arg12 arg13 arg14 arg15 arg16 harg16 x0 x1 x2 x3 x4 x5 x6 s0 8 le_rfl)
      (ix2 ⟨b.val * 8 + s.val, by omega⟩ q)
      = val_main_v224 (F := Ideal) z ca st lb wp ps hg (ix2 ⟨B.val * 8 + s.val, by omega⟩ q) := by
  rw [refOut_apply]
  by_cases h : q.val < 1024
  · rw [dif_pos h]
    have e : q = ⟨(⟨q.val / 256, by omega⟩ : Fin 4).val * 256 + (⟨q.val % 256, by omega⟩ : Fin 256).val, by show q.val / 256 * 256 + q.val % 256 < 2048; omega⟩ :=
      Fin.ext (by show q.val = q.val / 256 * 256 + q.val % 256; omega)
    have e' : (⟨q.val, h⟩ : Fin 1024) = ⟨(⟨q.val / 256, by omega⟩ : Fin 4).val * 256 + (⟨q.val % 256, by omega⟩ : Fin 256).val, by show q.val / 256 * 256 + q.val % 256 < 1024; omega⟩ :=
      Fin.ext (by show q.val = q.val / 256 * 256 + q.val % 256; omega)
    rw [e']
    refine (congrArg _ (congrArg (ix2 _) e)).trans ?_
    exact mixP_pool_eq c arg1 harg1 arg2 harg2 arg3 harg3 arg4 harg4 arg5 harg5 arg6 harg6 arg7 harg7 arg11 arg12 arg13 arg14 arg15 arg16 harg16 x0 x1 x2 x3 x4 x5 x6 s0 z ca wp ps T h0 h1 h4 h5 b B hB hc _ s _
  · rw [dif_neg h]
    have e : q = ⟨1024 + (⟨(q.val - 1024) / 128, by omega⟩ : Fin 8).val * 128 + (⟨(q.val - 1024) % 128, by omega⟩ : Fin 128).val, by show 1024 + (q.val - 1024) / 128 * 128 + (q.val - 1024) % 128 < 2048; omega⟩ :=
      Fin.ext (by show q.val = 1024 + (q.val - 1024) / 128 * 128 + (q.val - 1024) % 128; omega)
    have e' : (⟨q.val - 1024, by omega⟩ : Fin 1024) = ⟨(⟨(q.val - 1024) / 128, by omega⟩ : Fin 8).val * 128 + (⟨(q.val - 1024) % 128, by omega⟩ : Fin 128).val, by show (q.val - 1024) / 128 * 128 + (q.val - 1024) % 128 < 1024; omega⟩ :=
      Fin.ext (by show q.val - 1024 = (q.val - 1024) / 128 * 128 + (q.val - 1024) % 128; omega)
    rw [e']
    refine (congrArg _ (congrArg (ix2 _) e)).trans ?_
    exact mixP_head_eq c arg1 harg1 arg2 harg2 arg3 harg3 arg4 harg4 arg5 harg5 arg6 harg6 arg7 harg7 arg11 arg12 arg13 arg14 arg15 arg16 harg16 x0 x1 x2 x3 x4 x5 x6 s0 z st lb hg T h0 h2 h3 h6 hlb hs b B hB hc _ s _

end point

end Cert.KernelIdeal.Mixer

end
-- ==== Proof.MixAlg.lean ====
/-
  The sampling mixer against its reference: the arrays the launch leaves are the reference's results, once the forget
  gates' lower-bound parameters are finite.
-/
module

public import proofs.«01_k».proof.Proof.MixBlk
public import proofs.«01_k».proof.Proof.MixEq
public import proofs.«01_k».proof.Proof.Gen.ReferenceIdeal.Run
public import proofs.«01_k».proof.Proof.Gen.Pre_finite_bounds
public import proofs.«01_k».proof.Defs

@[expose] public section

set_option maxRecDepth 65536

noncomputable section

namespace Cert.KernelIdeal.Mixer

open Idealize.ShloMosaic Idealize.ShloMosaic.TcCoe Idealize.ShloMosaic.Tactic
open Idealize.ShloMosaic.Pipeline (Dat)
open Cert.KernelIdeal.Gen
open Cert.ReferenceIdeal.Read

variable (m : (ℓ : Loc nD τ sig) → Buf (Elt Ideal) ℓ)

/-- The mixed outputs, in the reference's words; -/
def G7 (c : Dev nD) : Buf (Elt Ideal) ((c : Thread nD τ).loc main_v8_0) :=
  val_main_v224 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
/-- the kept rows; -/
def G8 (c : Dev nD) : Buf (Elt Ideal) ((c : Thread nD τ).loc main_v9) :=
  val_main_v225 (F := Ideal) (m ((c : Thread nD τ).loc main_arg0)) (m ((c : Thread nD τ).loc main_arg1))
/-- the states. -/
def G9 (c : Dev nD) : Buf (Elt Ideal) ((c : Thread nD τ).loc main_v8_2) :=
  val_main_v202 (F := Ideal) (m ((c : Thread nD τ).loc main_arg0)) (m ((c : Thread nD τ).loc main_arg2)) (m ((c : Thread nD τ).loc main_arg3))

/-- The parameters of the forget gates' lower bounds are reals. -/
def FiniteBounds (c : Dev nD) : Prop :=
  ∀ (a : Fin 2) (j : Fin 1024), ∃ r : ℝ, (m ((c : Thread nD τ).loc main_arg3) (ix2 a j) : EReal) = (r : EReal)

theorem lt16 (t : Fin cfg0.N) : t.val < 16 := lt_of_lt_of_eq t.isLt N_0

/-! ### The blocks written back -/

theorem mix_at (c : Dev nD) (hlb : FiniteBounds m c) (t : Fin cfg0.N) (r : Fin 64) (q : Fin 2048) (R : Fin 1024) (hR : R.val = 64 * t.val + r.val) :
    View.canon (mixL m c t (scAt m c t.val (Nat.le_of_lt t.isLt))) (ix2 r q) = G7 m c (ix2 R q) := by
  have ht := lt16 t
  have er : r = ⟨(⟨r.val / 8, by omega⟩ : Fin 8).val * 8 + (⟨r.val % 8, by omega⟩ : Fin 8).val, by show r.val / 8 * 8 + r.val % 8 < 64; omega⟩ :=
    Fin.ext (by show r.val = r.val / 8 * 8 + r.val % 8; omega)
  have eR : R = ⟨(⟨8 * t.val + r.val / 8, by omega⟩ : Fin 128).val * 8 + (⟨r.val % 8, by omega⟩ : Fin 8).val, by show (8 * t.val + r.val / 8) * 8 + r.val % 8 < 1024; omega⟩ :=
    Fin.ext (by show R.val = (8 * t.val + r.val / 8) * 8 + r.val % 8; omega)
  refine (congrArg _ (congrArg (fun a => ix2 a q) er)).trans (Eq.trans ?_ (congrArg (G7 m c) (congrArg (fun a => ix2 a q) eR)).symm)
  exact mixP_eq c (ms1 t) (hs1 t) (ms2 t) (hs2 t) (ms3 t) (hs3 t) (ms4 t) (hs4 t) (ms5 t) (hs5 t) (ms6 t) (hs6 t) (ms7 t) (hs7 t) sM11 sM12 sM13 sM14 sM15 sM16 (Memref.isWhole_whole _)
    (iblk m c 0 t) (iblk m c 1 t) (iblk m c 2 t) (iblk m c 3 t) (iblk m c 4 t) (iblk m c 5 t) (iblk m c 6 t) (scAt m c t.val (Nat.le_of_lt t.isLt))
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) t.val
    (fun r k R h => blk0 m c t r k R h) (fun r b j B h => blk1 m c t r b j B h) (fun b n i j B h => blk2 m c t b n i j B h) (blk3 m c t) (blk4 m c t) (blk5 m c t) (blk6 m c t) hlb
    (scAt_offZero m c t.val _) ⟨r.val / 8, by omega⟩ ⟨8 * t.val + r.val / 8, by omega⟩ rfl (mix_cover m c t _) ⟨r.val % 8, by omega⟩ q

theorem hist_at (c : Dev nD) (t : Fin cfg0.N) (r : Fin 15) (b : Fin 8) (j : Fin 1024) (B : Fin 128) (hB : B.val = 8 * t.val + b.val) :
    View.canon (histL m c t) (ix3 r b j) = G8 m c (ix3 B r j) :=
  histP_eq c (ms1 t) (hs1 t) (ms2 t) (hs2 t) sM11 (iblk m c 0 t) (iblk m c 1 t)
    (m ((c : Thread nD τ).loc main_arg0)) (m ((c : Thread nD τ).loc main_arg1)) t.val
    (fun r k R h => blk0 m c t r k R h) (fun r b j B h => blk1 m c t r b j B h) b B hB r j

theorem st_at (c : Dev nD) (hlb : FiniteBounds m c) (t : Fin cfg0.N) (b n : Fin 8) (i j : Fin 128) (B : Fin 128) (hB : B.val = 8 * t.val + b.val) :
    View.canon (stL m c t) (ix4 b n i j) = G9 m c (ix4 B n i j) :=
  stP_eq c (ms1 t) (hs1 t) (ms3 t) (hs3 t) (ms4 t) (hs4 t) sM12 sM13 sM15 (iblk m c 0 t) (iblk m c 2 t) (iblk m c 3 t)
    (m ((c : Thread nD τ).loc main_arg0)) (m ((c : Thread nD τ).loc main_arg2)) (m ((c : Thread nD τ).loc main_arg3)) t.val
    (fun r k R h => blk0 m c t r k R h) (fun b n i j B h => blk2 m c t b n i j B h) (blk3 m c t) hlb b B hB n i j (st_cover m c t)

/-! ### The final arrays -/

theorem emb7 (t : Fin cfg0.N) (r : Fin 64) (q : Fin 2048) (R : Fin 1024) (hR : R.val = 64 * t.val + r.val) :
    ((cfg0.win 7).blk t).view.emb (ix2 r q) = ix2 R q := by
  obtain ⟨e7, e8, e9, -⟩ := idx_out t
  funext a; apply Fin.ext
  match a with
  | ⟨0, _⟩ => show win0_7.index t (0 : Fin 2) * 64 + 1 * r.val = R.val; rw [e7, hR]; show t.val * 64 + _ = _; omega
  | ⟨1, _⟩ => show win0_7.index t (1 : Fin 2) * 2048 + 1 * q.val = q.val; rw [e7]; show 0 * 2048 + _ = _; omega

theorem emb8 (t : Fin cfg0.N) (r : Fin 15) (b : Fin 8) (j : Fin 1024) (B : Fin 128) (hB : B.val = 8 * t.val + b.val) :
    ((cfg0.win 8).blk t).view.emb (ix3 r b j) = ix3 r B j := by
  obtain ⟨e7, e8, e9, -⟩ := idx_out t
  funext a; apply Fin.ext
  match a with
  | ⟨0, _⟩ => show win0_8.index t (0 : Fin 3) * 15 + 1 * r.val = r.val; rw [e8]; show 0 * 15 + _ = _; omega
  | ⟨1, _⟩ => show win0_8.index t (1 : Fin 3) * 8 + 1 * b.val = B.val; rw [e8, hB]; show t.val * 8 + _ = _; omega
  | ⟨2, _⟩ => show win0_8.index t (2 : Fin 3) * 1024 + 1 * j.val = j.val; rw [e8]; show 0 * 1024 + _ = _; omega

theorem emb9 (t : Fin cfg0.N) (b n : Fin 8) (i j : Fin 128) (B : Fin 128) (hB : B.val = 8 * t.val + b.val) :
    ((cfg0.win 9).blk t).view.emb (ix4 b n i j) = ix4 B n i j := by
  obtain ⟨e7, e8, e9, -⟩ := idx_out t
  funext a; apply Fin.ext
  match a with
  | ⟨0, _⟩ => show win0_9.index t (0 : Fin 4) * 8 + 1 * b.val = B.val; rw [e9, hB]; show t.val * 8 + _ = _; omega
  | ⟨1, _⟩ => show win0_9.index t (1 : Fin 4) * 8 + 1 * n.val = n.val; rw [e9]; show 0 * 8 + _ = _; omega
  | ⟨2, _⟩ => show win0_9.index t (2 : Fin 4) * 128 + 1 * i.val = i.val; rw [e9]; show 0 * 128 + _ = _; omega
  | ⟨3, _⟩ => show win0_9.index t (3 : Fin 4) * 128 + 1 * j.val = j.val; rw [e9]; show 0 * 128 + _ = _; omega

/-- The kept rows before the host's exchange of their first two axes. -/
def G8' (c : Dev nD) : Buf (Elt Ideal) ((c : Thread nD τ).loc main_v8_1) := fun y => G8 m c (ix3 (y 1) (y 0) (y 2))

theorem final7 (c : Dev nD) (hlb : FiniteBounds m c) : (dats m 0 c).arrAt 7 cfg0.N = G7 m c := by
  refine Dat.arrAt_eq_of_cover (dats m 0 c) 7 (G7 m c) (fun t hf => ?_) (fun y => ?_)
  · funext x
    obtain ⟨r, q, rfl⟩ : ∃ (r : Fin 64) (q : Fin 2048), x = ix2 r q := ⟨_, _, eq_ix2 x⟩
    have ht := lt16 t
    refine (congrFun (after7 m c t) (ix2 r q)).trans ((mix_at m c hlb t r q ⟨64 * t.val + r.val, by omega⟩ rfl).trans ?_)
    exact (congrArg (G7 m c) (emb7 t r q ⟨64 * t.val + r.val, by omega⟩ rfl)).symm
  · obtain ⟨R, q, rfl⟩ : ∃ (R : Fin 1024) (q : Fin 2048), y = ix2 R q := ⟨_, _, eq_ix2 y⟩
    have hlt : R.val / 64 < cfg0.N := lt_of_lt_of_eq (by omega : R.val / 64 < 16) N_0.symm
    refine ⟨⟨R.val / 64, hlt⟩, (idx_out _).2.2.2.1, ?_⟩
    rw [← emb7 ⟨R.val / 64, hlt⟩ ⟨R.val % 64, by omega⟩ q R (by show R.val = 64 * (R.val / 64) + R.val % 64; omega)]
    exact View.emb_mem_set _ _

theorem final8 (c : Dev nD) : (dats m 0 c).arrAt 8 cfg0.N = G8' m c := by
  refine Dat.arrAt_eq_of_cover (dats m 0 c) 8 (G8' m c) (fun t hf => ?_) (fun y => ?_)
  · funext x
    obtain ⟨r, b, j, rfl⟩ : ∃ (r : Fin 15) (b : Fin 8) (j : Fin 1024), x = ix3 r b j := ⟨_, _, _, eq_ix3 x⟩
    have ht := lt16 t
    refine (congrFun (after8 m c t) (ix3 r b j)).trans ((hist_at m c t r b j ⟨8 * t.val + b.val, by omega⟩ rfl).trans ?_)
    exact (congrArg (G8' m c) (emb8 t r b j ⟨8 * t.val + b.val, by omega⟩ rfl)).symm
  · obtain ⟨r, B, j, rfl⟩ : ∃ (r : Fin 15) (B : Fin 128) (j : Fin 1024), y = ix3 r B j := ⟨_, _, _, eq_ix3 y⟩
    have hlt : B.val / 8 < cfg0.N := lt_of_lt_of_eq (by omega : B.val / 8 < 16) N_0.symm
    refine ⟨⟨B.val / 8, hlt⟩, (idx_out _).2.2.2.2.1, ?_⟩
    rw [← emb8 ⟨B.val / 8, hlt⟩ r ⟨B.val % 8, by omega⟩ j B (by show B.val = 8 * (B.val / 8) + B.val % 8; omega)]
    exact View.emb_mem_set _ _

theorem final9 (c : Dev nD) (hlb : FiniteBounds m c) : (dats m 0 c).arrAt 9 cfg0.N = G9 m c := by
  refine Dat.arrAt_eq_of_cover (dats m 0 c) 9 (G9 m c) (fun t hf => ?_) (fun y => ?_)
  · funext x
    obtain ⟨b, n, i, j, rfl⟩ : ∃ (b n : Fin 8) (i j : Fin 128), x = ix4 b n i j := ⟨_, _, _, _, eq_ix4 x⟩
    have ht := lt16 t
    refine (congrFun (after9 m c t) (ix4 b n i j)).trans ((st_at m c hlb t b n i j ⟨8 * t.val + b.val, by omega⟩ rfl).trans ?_)
    exact (congrArg (G9 m c) (emb9 t b n i j ⟨8 * t.val + b.val, by omega⟩ rfl)).symm
  · obtain ⟨B, n, i, j, rfl⟩ : ∃ (B : Fin 128) (n : Fin 8) (i j : Fin 128), y = ix4 B n i j := ⟨_, _, _, _, eq_ix4 y⟩
    have hlt : B.val / 8 < cfg0.N := lt_of_lt_of_eq (by omega : B.val / 8 < 16) N_0.symm
    refine ⟨⟨B.val / 8, hlt⟩, (idx_out _).2.2.2.2.2, ?_⟩
    rw [← emb9 ⟨B.val / 8, hlt⟩ ⟨B.val % 8, by omega⟩ n i j B (by show B.val = 8 * (B.val / 8) + B.val % 8; omega)]
    exact View.emb_mem_set _ _

/-! ### After the host's last operation -/

theorem swap_apply (w : (⟨S15x128x1024, .f32⟩ : BufTy).Contents (Elt Ideal)) (B : Fin 128) (r : Fin 15) (j : Fin 1024) :
    transpose S128x15x1024 [1, 0, 2] w transposes_S15x128x1024_S128x15x1024_1_0_2 (ix3 B r j) = w (ix3 r B j) := by
  pointwise!

theorem tail_v9 (c : Dev nD) : Pipeline.afterTail₀ cfgs (dats m) 0 (V0 m) [hostOps1] c main_v9 = G8 m c := by
  have e : Pipeline.afterTail₀ cfgs (dats m) 0 (V0 m) [hostOps1] c main_v9
      = transpose S128x15x1024 [1, 0, 2] ((dats m 0 c).arrAt 8 cfg0.N) transposes_S15x128x1024_S128x15x1024_1_0_2 := by
    unfold Pipeline.afterTail₀
    show StableHlo.after hostOps1 _ (Proc.devRef .tc main_v9) = _
    after_results
    exact congrArg (fun w => transpose S128x15x1024 [1, 0, 2] w transposes_S15x128x1024_S128x15x1024_1_0_2)
      (Pipeline.withArrays_arr spec0 launch0.win.arr_inj c (V0 m c) (fun w => (dats m 0 c).arrAt w cfg0.N) 8)
  rw [e, final8]
  funext y
  obtain ⟨B, r, j, rfl⟩ : ∃ (B : Fin 128) (r : Fin 15) (j : Fin 1024), y = ix3 B r j := ⟨_, _, _, eq_ix3 y⟩
  exact swap_apply _ B r j

/-! ### The precondition -/

theorem posInf : Ideal.ofBits FTy.f32 0x7F800000#32 = (⊤ : EReal) := by
  simp [Ideal.ofBits, Ideal.ieee]

theorem finite_of_pre (hp : Cert.Pre_KernelIdeal_finite_bounds m) (c : Dev nD) : FiniteBounds m c := by
  intro a j
  have h1 := congrFun (hp c).1 (ix2 a j)
  have h2 := congrFun (hp c).2 (ix2 a j)
  have e1 : Ideal.cmp .ogt (m ((c : Thread nD τ).loc main_arg3) (ix2 a j) : EReal) (Ideal.ofBits FTy.f32 0xFF800000#32) = 1#1 := by
    rw [← h1]; pointwise! [Cert.Pre_finite_bounds.fn]
  have e2 : Ideal.cmp .olt (m ((c : Thread nD τ).loc main_arg3) (ix2 a j) : EReal) (Ideal.ofBits FTy.f32 0x7F800000#32) = 1#1 := by
    rw [← h2]; pointwise! [Cert.Pre_finite_bounds.fn]
  rw [negInf] at e1
  rw [posInf] at e2
  generalize (m ((c : Thread nD τ).loc main_arg3) (ix2 a j) : EReal) = x at e1 e2
  induction x using EReal.rec with
  | bot => exact absurd e1 (by unfold Ideal.cmp; simp)
  | top => exact absurd e2 (by unfold Ideal.cmp; simp)
  | coe r => exact ⟨r, rfl⟩

theorem algebraic : Cert.algebraic_KernelIdeal_ReferenceIdeal_pre_finite_bounds := by
  intro m g m' g' hp hm
  have hlb := finite_of_pre m hp
  refine ⟨fun c => G7 m c, fun c => G8 m c, fun c => G9 m c,
    (θ_run defs _ _).mono (fun r h c => ⟨?_, ?_, ?_, (h.2 c)⟩) (θ_run_and (run_main m g) (frame_of m g (dats m) (A_eq m) (run_main m g))),
    (θ_run Cert.ReferenceIdeal.defs _ _).mono (fun r h c => ⟨(h c).1.trans ?_, (h c).2.1.trans ?_, (h c).2.2.1.trans ?_, (h c).2.2.2⟩) (Cert.ReferenceIdeal.Value.run m' g')⟩
  · exact ((h.1 c).1 7).trans (final7 m c (hlb c))
  · exact ((h.1 c).2 main_v9 (Pipeline.mem_restRefs_of main_v9 (by decide) (by decide))).trans (tail_v9 m c)
  · exact ((h.1 c).1 9).trans (final9 m c (hlb c))
  all_goals obtain ⟨h0, h1, h2, h3, h4, h5, h6⟩ := hm c
  · rw [val_main_v224_eq]
    show val_main_v224 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) = G7 m c
    rw [h0, h1, h2, h3, h4, h5, h6]
    rfl
  · rw [val_main_v225_eq]
    show val_main_v225 (F := Ideal) (m' (c.tc.loc Cert.ReferenceIdeal.main_arg0)) (m' (c.tc.loc Cert.ReferenceIdeal.main_arg1)) = G8 m c
    rw [h0, h1]
    rfl
  · rw [val_main_v202_eq]
    show val_main_v202 (F := Ideal) (m' (c.tc.loc Cert.ReferenceIdeal.main_arg0)) (m' (c.tc.loc Cert.ReferenceIdeal.main_arg2)) (m' (c.tc.loc Cert.ReferenceIdeal.main_arg3)) = G9 m c
    rw [h0, h2, h3]
    rfl

end Cert.KernelIdeal.Mixer

end
-- ==== Proof.Rows.lean ====
/-
  Reading blocks of rows: loads and pieces of a matrix through the rectangle of some of its rows, or of all of it.
-/
module

public import Idealize.ShloMosaic.Lib.Pointwise
public import Idealize.ShloMosaic.Lib.WholeRead
public import Idealize.ShloMosaic.Lib.Pipeline.Value

@[expose] public section

set_option maxRecDepth 16384

noncomputable section

namespace Cert.Rows

open Idealize.ShloMosaic Idealize.ShloMosaic.TcCoe

theorem zeros2 : (![0, 0] : Fin 2 → ℕ) = fun _ => 0 := funext fun a => by fin_cases a <;> rfl

variable {M N R : ℕ}

/-- A function of row and column as a function of the matrix's index. -/
def ofRC (f : Fin M → Fin N → EReal) (y : (⟨2, ![M, N]⟩ : Shape).Idx) : EReal := f (y 0) (y 1)

theorem row_lt {o : ℕ} (ho : ∀ a : Fin 2, (![o, 0] : Fin 2 → ℕ) a + (![R, N] : Fin 2 → ℕ) a ≤ (![M, N] : Fin 2 → ℕ) a) (r : Fin R) : o + r.val < M :=
  lt_of_lt_of_le (Nat.add_lt_add_left r.isLt o) (ho 0)

theorem emb_row {o : ℕ} (ho : ∀ a : Fin 2, (![o, 0] : Fin 2 → ℕ) a + (![R, N] : Fin 2 → ℕ) a ≤ (![M, N] : Fin 2 → ℕ) a) (r : Fin R) (k : Fin N) :
    (Rect.unit (s := (⟨2, ![M, N]⟩ : Shape)) ![o, 0] ![R, N] ho).emb (ix2 r k) = ix2 ⟨o + r.val, row_lt ho r⟩ k := by
  funext a
  apply Fin.ext
  match a with
  | 0 => exact (show o + 1 * r.val = o + r.val by omega)
  | 1 => exact (show 0 + 1 * k.val = k.val by omega)

theorem ofRC_row (f : Fin M → Fin N → EReal) {o : ℕ} (ho : ∀ a : Fin 2, (![o, 0] : Fin 2 → ℕ) a + (![R, N] : Fin 2 → ℕ) a ≤ (![M, N] : Fin 2 → ℕ) a)
    (r : Fin R) (k : Fin N) :
    ofRC f ((Rect.unit (s := (⟨2, ![M, N]⟩ : Shape)) ![o, 0] ![R, N] ho).emb (ix2 r k)) = f ⟨o + r.val, row_lt ho r⟩ k :=
  congrArg (ofRC f) (emb_row ho r k)

/-- With all the rows the row is the row. -/
theorem ofRC_whole (f : Fin M → Fin N → EReal) (ho : ∀ a : Fin 2, (![0, 0] : Fin 2 → ℕ) a + (![M, N] : Fin 2 → ℕ) a ≤ (![M, N] : Fin 2 → ℕ) a)
    (r : Fin M) (k : Fin N) :
    ofRC f ((Rect.unit (s := (⟨2, ![M, N]⟩ : Shape)) ![0, 0] ![M, N] ho).emb (ix2 r k)) = f r k :=
  (ofRC_row f ho r k).trans (congrArg (fun i => f i k) (Fin.ext (Nat.zero_add r.val)))

section
variable {sig : RefSig} {e : EltTy} {m : Memref sig .tc .vmem (⟨2, ![M, N]⟩ : Shape) e} (h : m.IsWhole) (X : Vec Ideal (⟨2, ![M, N]⟩ : Shape) e)

/-- A load of some rows of a matrix reads them. -/
theorem readAt_row {o : ℕ} (ho : ∀ a : Fin 2, (![o, 0] : Fin 2 → ℕ) a + (![R, N] : Fin 2 → ℕ) a ≤ (![M, N] : Fin 2 → ℕ) a) (r : Fin R) (k : Fin N) :
    View.readAt (Elt Ideal) m.view (Rect.unit (s := (⟨2, ![M, N]⟩ : Shape)) ![o, 0] ![R, N] ho).toLoadRect (h.unread X) (ix2 r k)
      = X (ix2 ⟨o + r.val, row_lt ho r⟩ k) := by
  rw [h.readAt_unread]
  exact congrArg X (emb_row ho r k)

/-- A load of a whole matrix reads it. -/
theorem readAt_full (ho : ∀ a : Fin 2, (![0, 0] : Fin 2 → ℕ) a + (![M, N] : Fin 2 → ℕ) a ≤ (![M, N] : Fin 2 → ℕ) a) (r : Fin M) (k : Fin N) :
    View.readAt (Elt Ideal) m.view (Rect.unit (s := (⟨2, ![M, N]⟩ : Shape)) ![0, 0] ![M, N] ho).toLoadRect (h.unread X) (ix2 r k) = X (ix2 r k) :=
  (readAt_row h X ho r k).trans (congrArg (fun i => X (ix2 i k)) (Fin.ext (Nat.zero_add r.val)))
end

/-- After a store of a whole matrix a read gives it back. -/
theorem read_one {sig : RefSig} {κ : Kind} {sp : Space} {e : EltTy} (v : View sig κ sp (⟨2, ![M, N]⟩ : Shape) e) (f : v.ty.Contents (Elt Ideal)) (w : Vec Ideal (⟨2, ![M, N]⟩ : Shape) e)
    (ho : ∀ a : Fin 2, (![0, 0] : Fin 2 → ℕ) a + (![M, N] : Fin 2 → ℕ) a ≤ (![M, N] : Fin 2 → ℕ) a) (L : List (View.Piece (Elt Ideal) (⟨2, ![M, N]⟩ : Shape) e)) (r : Fin M) (n : Fin N) :
    v.read (Elt Ideal) (v.writes (Elt Ideal) f (⟨Rect.unit (s := (⟨2, ![M, N]⟩ : Shape)) ![0, 0] ![M, N] ho, w⟩ :: L)) (ix2 r n) = w (ix2 r n) :=
  (congrArg _ ((emb_row ho r n).trans (congrArg (fun i => ix2 i n) (Fin.ext (Nat.zero_add r.val)))).symm).trans (View.read_writes_cons_emb ..)

end Cert.Rows

end
-- ==== Proof.Iproj.lean ====
/-
  The input projection of the sample batch: the first point normalises the rows into the scratch, and each of the ten points
  writes one block of 512 columns of their product with the weights, and that block of the weights; the reference's two
  results are these arrays.
-/
module

public import proofs.«01_k».proof.Defs
public import proofs.«01_k».proof.Proof.Gen.Kernel3Ideal.Value
public import proofs.«01_k».proof.Proof.Gen.Reference3Ideal.Read
public import proofs.«01_k».proof.Proof.Rows
public import proofs.«01_k».proof.Proof.Ffn

@[expose] public section

set_option maxRecDepth 16384

noncomputable section

namespace Cert.Kernel3Ideal.Iproj

open Idealize.ShloMosaic Idealize.ShloMosaic.TcCoe
open Cert.Kernel3Ideal.Gen
open Cert.Kernel2Ideal.Ffn (nrm)

/-! ## The payloads at an entry -/

theorem pay1_eq (w : Vec Ideal S2048x512 .f32) (k : Fin 2048) (q : Fin 512) : k0_pay1 w (ix2 k q) = w (ix2 k q) := by pointwise! [k0_pay1]

theorem pay7_apply (X : Vec Ideal S256x2048 .f32) (g : Vec Ideal S1x2048 .f32) (r : Fin 256) (k : Fin 2048) :
    k0_pay7 X g (ix2 r k) = nrm (fun k => X (ix2 r k)) (fun k => g (ix2 0 k)) k := by
  unfold nrm
  pointwise! [k0_pay7, k0_pay6]

theorem pay10_apply (X : Vec Ideal S256x2048 .f32) (g : Vec Ideal S1x2048 .f32) (r : Fin 256) (k : Fin 2048) :
    k0_pay10 (k0_pay9 X g) (ix2 r k) = nrm (fun k => X (ix2 r k)) (fun k => g (ix2 0 k)) k := by
  unfold nrm
  pointwise! [k0_pay10, k0_pay9]

theorem pay13_apply (X : Vec Ideal S256x2048 .f32) (g : Vec Ideal S1x2048 .f32) (r : Fin 256) (k : Fin 2048) :
    k0_pay13 X g (ix2 r k) = nrm (fun k => X (ix2 r k)) (fun k => g (ix2 0 k)) k := by
  unfold nrm
  pointwise! [k0_pay13, k0_pay12]

theorem pay3_apply (X : Vec Ideal S256x2048 .f32) (g : Vec Ideal S1x2048 .f32) (r : Fin 256) (k : Fin 2048) :
    k0_pay3 X (k0_pay15 g) (k0_pay16 X) (FloatOps.ofBits (F := Ideal) .f32 0x358637BD#32) (ix2 r k) = nrm (fun k => X (ix2 r k)) (fun k => g (ix2 0 k)) k := by
  unfold nrm
  pointwise! [k0_pay3, k0_pay2, k0_pay15, k0_pay16]

theorem pay8_apply (w : Vec Ideal S2048x512 .f32) (X : Vec Ideal S256x2048 .f32) (g : Vec Ideal S1x2048 .f32) (r : Fin 256) (n : Fin 512) :
    k0_pay8 (k0_pay1 w) X g (ix2 r n) = ∑ k : Fin 2048, nrm (fun k => X (ix2 r k)) (fun k => g (ix2 0 k)) k * w (ix2 k n) := by
  unfold nrm
  pointwise! [k0_pay8, k0_pay6, k0_pay1]

theorem pay11_apply (w : Vec Ideal S2048x512 .f32) (X : Vec Ideal S256x2048 .f32) (g : Vec Ideal S1x2048 .f32) (r : Fin 256) (n : Fin 512) :
    k0_pay11 (k0_pay1 w) (k0_pay9 X g) (ix2 r n) = ∑ k : Fin 2048, nrm (fun k => X (ix2 r k)) (fun k => g (ix2 0 k)) k * w (ix2 k n) := by
  unfold nrm
  pointwise! [k0_pay11, k0_pay9, k0_pay1]

theorem pay14_apply (w : Vec Ideal S2048x512 .f32) (X : Vec Ideal S256x2048 .f32) (g : Vec Ideal S1x2048 .f32) (r : Fin 256) (n : Fin 512) :
    k0_pay14 (k0_pay1 w) X g (ix2 r n) = ∑ k : Fin 2048, nrm (fun k => X (ix2 r k)) (fun k => g (ix2 0 k)) k * w (ix2 k n) := by
  unfold nrm
  pointwise! [k0_pay14, k0_pay12, k0_pay1]

theorem pay4_apply (w : Vec Ideal S2048x512 .f32) (X : Vec Ideal S256x2048 .f32) (g : Vec Ideal S1x2048 .f32) (r : Fin 256) (n : Fin 512) :
    k0_pay4 w X (k0_pay15 g) (k0_pay16 X) (FloatOps.ofBits (F := Ideal) .f32 0x358637BD#32) (ix2 r n) = ∑ k : Fin 2048, nrm (fun k => X (ix2 r k)) (fun k => g (ix2 0 k)) k * w (ix2 k n) := by
  unfold nrm
  pointwise! [k0_pay4, k0_pay2, k0_pay1, k0_pay15, k0_pay16]

theorem pay5_apply (w : Vec Ideal S2048x512 .f32) (h : Vec Ideal S1024x2048 .bf16) (r : Fin 1024) (n : Fin 512) :
    k0_pay5 w h (ix2 r n) = ∑ k : Fin 2048, HMul.hMul (α := EReal) (β := EReal) (γ := EReal) (h (ix2 r k)) (w (ix2 k n)) := by
  pointwise! [k0_pay5, k0_pay1]

/-! ## What a point leaves -/

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1024x512 .f32) (harg5 : arg5.IsWhole) (arg6 : Memref sig .tc .vmem S2048x512 .bf16) (harg6 : arg6.IsWhole) (arg7 : Memref sig .tc .vmem S1024x2048 .bf16) (harg7 : arg7.IsWhole)
  (x0 : Vec Ideal S1024x2048 .f32) (x1 : Vec Ideal S1x2048 .f32) (x2 : Vec Ideal S2048x512 .f32) (xs0 : Vec Ideal S1024x2048 .bf16)

/-- The first point leaves its block of the product; -/
theorem outA3_apply (hc0 : cond0_0 i) (hc1 : ¬cond0_1 i) (r : Fin 1024) (n : Fin 512) :
    out0_A_3 c i arg2 harg2 arg3 harg3 arg4 harg4 arg5 harg5 arg6 harg6 arg7 harg7 hc0 hc1 x0 x1 x2 (ix2 r n) = ∑ k : Fin 2048, nrm (fun k => x0 (ix2 r k)) (fun k => x1 (ix2 0 k)) k * x2 (ix2 k n) := by
  unfold out0_A_3
  refine View.read_writes_apply_of_pieces (Val := Elt Ideal) VO0_3 _ (Cert.Rows.ofRC (M := 1024) (N := 512) fun r n => ∑ k : Fin 2048, nrm (fun k => x0 (ix2 r k)) (fun k => x1 (ix2 0 k)) k * x2 (ix2 k n)) _ ?_ (ix2 r n) (cover0_A_3 (c := c) (harg2 := harg2) (harg3 := harg3) (harg4 := harg4) (harg5 := harg5) (harg6 := harg6) (harg7 := harg7) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 512), x = ix2 r n := ⟨_, _, eq_ix2 x⟩
    rw [Cert.Rows.ofRC_row]
    try simp only [kernelRun0_A.sl.r, kernelRun0_A.sl.r_1, kernelRun0_A.sl.r_2, kernelRun0_A.sl.r_3, kernelRun0_A.sl.cst_44]
    first | rw [pay8_apply] | rw [pay11_apply] | rw [pay14_apply] | rw [pay4_apply]
    simp only [Cert.Rows.readAt_full]
    simp only [Cert.Rows.readAt_row]

/-- its block of the weights; -/
theorem outA4_apply (hc0 : cond0_0 i) (hc1 : ¬cond0_1 i) (r : Fin 2048) (n : Fin 512) :
    out0_A_4 c i arg2 harg2 arg3 harg3 arg4 harg4 arg5 harg5 arg6 harg6 arg7 harg7 hc0 hc1 x0 x1 x2 (ix2 r n) = x2 (ix2 r n) := by
  unfold out0_A_4
  refine View.read_writes_apply_of_pieces (Val := Elt Ideal) VO0_4 _ (Cert.Rows.ofRC (M := 2048) (N := 512) fun r n => x2 (ix2 r n)) _ ?_ (ix2 r n) (cover0_A_4 (c := c) (harg2 := harg2) (harg3 := harg3) (harg4 := harg4) (harg5 := harg5) (harg6 := harg6) (harg7 := harg7) (y := _) ..)
  unfold kernelRun0_A
  dsimp only
  simp only [List.forall_mem_cons]
  refine ⟨?_, by simp⟩
  all_goals
    intro x
    obtain ⟨r, n, rfl⟩ : ∃ (r : Fin 2048) (n : Fin 512), x = ix2 r n := ⟨_, _, eq_ix2 x⟩
    rw [Cert.Rows.ofRC_whole]
    try simp only [kernelRun0_A.sl.r, kernelRun0_A.sl.r_1, kernelRun0_A.sl.r_2, kernelRun0_A.sl.r_3, kernelRun0_A.sl.cst_44]
    first | rw [pay1_eq]
    simp only [Cert.Rows.readAt_full]

/-- and the normalised rows in the scratch. -/
theorem soutA_apply (hc0 : cond0_0 i) (hc1 : ¬cond0_1 i) (r : Fin 1024) (n : Fin 2048) :
    sout0_A_0 c i arg2 harg2 arg3 harg3 arg4 harg4 arg5 harg5 arg6 harg6 arg7 harg7 hc0 hc1 x0 x1 x2 (ix2 r n) = nrm (fun k => x0 (ix2 r k)) (fun k => x1 (ix2 0 k)) n := by
  unfold sout0_A_0
  refine View.read_writes_apply_of_pieces (Val := Elt Ideal) VS0_0 _ (Cert.Rows.ofRC (M := 1024) (N := 2048) fun r n => nrm (fun k => x0 (ix2 r k)) (fun k => x1 (ix2 0 k)) n) _ ?_ (ix2 r n) (scover0_A_0 (c := c) (harg2 := harg2) (harg3 := harg3) (harg4 := harg4) (harg5 := harg5) (harg6 := harg6) (harg7 := harg7) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [Cert.Rows.ofRC_row]
    try simp only [kernelRun0_A.sl.r, kernelRun0_A.sl.r_1, kernelRun0_A.sl.r_2, kernelRun0_A.sl.r_3, kernelRun0_A.sl.cst_44]
    first | rw [pay7_apply] | rw [pay10_apply] | rw [pay13_apply] | rw [pay3_apply]
    simp only [Cert.Rows.readAt_full]
    simp only [Cert.Rows.readAt_row]

/-- Another point leaves its block of the product of the scratch; -/
theorem outB3_apply (hc0 : ¬cond0_0 i) (hc1 : cond0_1 i) (r : Fin 1024) (n : Fin 512) :
    out0_B_3 c i arg2 harg2 arg3 harg3 arg4 harg4 arg5 harg5 arg6 harg6 arg7 harg7 hc0 hc1 x0 x1 x2 xs0 (ix2 r n) = ∑ k : Fin 2048, HMul.hMul (α := EReal) (β := EReal) (γ := EReal) (xs0 (ix2 r k)) (x2 (ix2 k n)) := by
  unfold out0_B_3
  refine View.read_writes_apply_of_pieces (Val := Elt Ideal) VO0_3 _ (Cert.Rows.ofRC (M := 1024) (N := 512) fun r n => ∑ k : Fin 2048, HMul.hMul (α := EReal) (β := EReal) (γ := EReal) (xs0 (ix2 r k)) (x2 (ix2 k n))) _ ?_ (ix2 r n) (cover0_B_3 (c := c) (harg2 := harg2) (harg3 := harg3) (harg4 := harg4) (harg5 := harg5) (harg6 := harg6) (harg7 := harg7) (y := _) ..)
  unfold kernelRun0_B
  dsimp only
  simp only [List.forall_mem_cons]
  refine ⟨?_, by simp⟩
  all_goals
    intro x
    obtain ⟨r, n, rfl⟩ : ∃ (r : Fin 1024) (n : Fin 512), x = ix2 r n := ⟨_, _, eq_ix2 x⟩
    rw [Cert.Rows.ofRC_whole]
    first | rw [pay5_apply]
    simp only [Cert.Rows.readAt_full]

/-- and its block of the weights. -/
theorem outB4_apply (hc0 : ¬cond0_0 i) (hc1 : cond0_1 i) (r : Fin 2048) (n : Fin 512) :
    out0_B_4 c i arg2 harg2 arg3 harg3 arg4 harg4 arg5 harg5 arg6 harg6 arg7 harg7 hc0 hc1 x0 x1 x2 xs0 (ix2 r n) = x2 (ix2 r n) := by
  unfold out0_B_4
  refine View.read_writes_apply_of_pieces (Val := Elt Ideal) VO0_4 _ (Cert.Rows.ofRC (M := 2048) (N := 512) fun r n => x2 (ix2 r n)) _ ?_ (ix2 r n) (cover0_B_4 (c := c) (harg2 := harg2) (harg3 := harg3) (harg4 := harg4) (harg5 := harg5) (harg6 := harg6) (harg7 := harg7) (y := _) ..)
  unfold kernelRun0_B
  dsimp only
  simp only [List.forall_mem_cons]
  refine ⟨?_, by simp⟩
  all_goals
    intro x
    obtain ⟨r, n, rfl⟩ : ∃ (r : Fin 2048) (n : Fin 512), x = ix2 r n := ⟨_, _, eq_ix2 x⟩
    rw [Cert.Rows.ofRC_whole]
    first | rw [pay1_eq]
    simp only [Cert.Rows.readAt_full]

end

/-! ## The arrays the call finds, and the windows' blocks -/

variable (m : (ℓ : Loc nD τ sig) → Buf (Elt Ideal) ℓ)

theorem V_v1 (c : Dev nD) (k : Fin 2048) : V m c main_v1 (ix2 0 k) = m ((c : Thread nD τ).loc main_arg1) (ix2 0 k) := by
  unfold_abbrev_sides
  after_results
  pointwise!

theorem V_v2 (c : Dev nD) (k : Fin 2048) (q : Fin 5120) : V m c main_v2 (ix2 k q) = m ((c : Thread nD τ).loc main_arg2) (ix3 0 k q) := by
  unfold_abbrev_sides
  after_results
  pointwise!

theorem idx_in : ∀ t : Fin cfg0.N, win0_0.index t = ![0, 0] ∧ win0_1.index t = ![0, 0] ∧ win0_2.index t = ![0, t.val] :=
  (by decide +kernel : ∀ t : Fin grid0.N, _)

theorem lt10 (t : Fin cfg0.N) : t.val < 10 := lt_of_lt_of_eq t.isLt N_0

theorem iblk0 (c : Dev nD) (t : Fin cfg0.N) (r : Fin 1024) (k : Fin 2048) :
    iblk m c 0 t (ix2 r k) = m ((c : Thread nD τ).loc main_arg0) (ix2 r k) := by
  have e0 := (idx_in t).1
  have : ((cfg0.win 0).blk t).view.emb (ix2 r k) = ix2 r k := by
    funext a; apply Fin.ext
    match a with
    | ⟨0, _⟩ => show win0_0.index t (0 : Fin 2) * 1024 + 1 * r.val = r.val; rw [e0]; show 0 * 1024 + _ = _; omega
    | ⟨1, _⟩ => show win0_0.index t (1 : Fin 2) * 2048 + 1 * k.val = k.val; rw [e0]; show 0 * 2048 + _ = _; omega
  exact (congrArg (V m c main_arg0) this).trans (congrFun (V_main_arg0 m c) _)

theorem iblk1 (c : Dev nD) (t : Fin cfg0.N) (k : Fin 2048) :
    iblk m c 1 t (ix2 0 k) = m ((c : Thread nD τ).loc main_arg1) (ix2 0 k) := by
  have e1 := (idx_in t).2.1
  have : ((cfg0.win 1).blk t).view.emb (ix2 0 k) = ix2 0 k := by
    funext a; apply Fin.ext
    match a with
    | ⟨0, _⟩ => show win0_1.index t (0 : Fin 2) * 1 + 1 * 0 = 0; rw [e1]; rfl
    | ⟨1, _⟩ => show win0_1.index t (1 : Fin 2) * 2048 + 1 * k.val = k.val; rw [e1]; show 0 * 2048 + _ = _; omega
  exact (congrArg (V m c main_v1) this).trans (V_v1 m c k)

theorem iblk2 (c : Dev nD) (t : Fin cfg0.N) (k : Fin 2048) (q : Fin 512) (Q : Fin 5120) (hQ : Q.val = 512 * t.val + q.val) :
    iblk m c 2 t (ix2 k q) = m ((c : Thread nD τ).loc main_arg2) (ix3 0 k Q) := by
  have e2 := (idx_in t).2.2
  have : ((cfg0.win 2).blk t).view.emb (ix2 k q) = ix2 k Q := by
    funext a; apply Fin.ext
    match a with
    | ⟨0, _⟩ => show win0_2.index t (0 : Fin 2) * 2048 + 1 * k.val = k.val; rw [e2]; show 0 * 2048 + _ = _; omega
    | ⟨1, _⟩ => show win0_2.index t (1 : Fin 2) * 512 + 1 * q.val = Q.val; rw [e2, hQ]; show t.val * 512 + _ = _; omega
  exact (congrArg (V m c main_v2) this).trans (V_v2 m c k Q)

/-! ## The call's results -/

/-- A row of the normalised input. -/
def hrow (c : Dev nD) (r : Fin 1024) : Fin 2048 → EReal :=
  nrm (fun k => m ((c : Thread nD τ).loc main_arg0) (ix2 r k)) (fun k => m ((c : Thread nD τ).loc main_arg1) (ix2 0 k))

theorem hrow_eq (c : Dev nD) (t : Fin cfg0.N) (r : Fin 1024) :
    nrm (fun k => iblk m c 0 t (ix2 r k)) (fun k => iblk m c 1 t (ix2 0 k)) = hrow m c r := by
  unfold hrow
  congr 1
  · funext k; exact iblk0 m c t r k
  · funext k; exact iblk1 m c t k

/-- After every point the scratch holds the normalised rows; -/
theorem scratch (c : Dev nD) (r : Fin 1024) (k : Fin 2048) : ∀ (n : ℕ) (hn : n < cfg0.N), (outsAt0 m c n hn).2.2 (ix2 r k) = hrow m c r k
  | 0, hn => by
    have e := outsAt0_A m c ⟨0, hn⟩ (by dsimp only) (by dsimp only; omega)
    dsimp only at e
    rw [e]
    dsimp only
    rw [soutA_apply]
    exact congrFun (hrow_eq m c _ r) k
  | n + 1, hn => by
    have ih := scratch c r k n (by omega)
    have hN := lt_of_lt_of_eq hn N_0
    have e := outsAt0_B m c ⟨n + 1, hn⟩ (by dsimp only; omega) (by dsimp only; omega)
    dsimp only at e
    rw [e]
    exact ih

/-- the first output block its columns of the product; -/
theorem block3 (c : Dev nD) (r : Fin 1024) (q : Fin 512) (Q : Fin 5120) : ∀ (n : ℕ) (hn : n < cfg0.N), Q.val = 512 * n + q.val →
    (outsAt0 m c n hn).1 (ix2 r q) = ∑ k : Fin 2048, hrow m c r k * m ((c : Thread nD τ).loc main_arg2) (ix3 0 k Q)
  | 0, hn, hQ => by
    have e := outsAt0_A m c ⟨0, hn⟩ (by dsimp only) (by dsimp only; omega)
    dsimp only at e
    rw [e]
    dsimp only
    rw [outA3_apply]
    exact Finset.sum_congr rfl fun k _ => congrArg₂ _ (congrFun (hrow_eq m c _ r) k) (iblk2 m c _ k q Q hQ)
  | n + 1, hn, hQ => by
    have hN := lt_of_lt_of_eq hn N_0
    have e := outsAt0_B m c ⟨n + 1, hn⟩ (by dsimp only; omega) (by dsimp only; omega)
    dsimp only at e
    rw [e]
    dsimp only
    rw [outB3_apply]
    exact Finset.sum_congr rfl fun k _ => congrArg₂ _ (scratch m c r k n _) (iblk2 m c _ k q Q hQ)

/-- the second its columns of the weights. -/
theorem block4 (c : Dev nD) (k : Fin 2048) (q : Fin 512) (Q : Fin 5120) : ∀ (n : ℕ) (hn : n < cfg0.N), Q.val = 512 * n + q.val →
    (outsAt0 m c n hn).2.1 (ix2 k q) = m ((c : Thread nD τ).loc main_arg2) (ix3 0 k Q)
  | 0, hn, hQ => by
    have e := outsAt0_A m c ⟨0, hn⟩ (by dsimp only) (by dsimp only; omega)
    dsimp only at e
    rw [e]
    dsimp only
    rw [outA4_apply]
    exact iblk2 m c _ k q Q hQ
  | n + 1, hn, hQ => by
    have hN := lt_of_lt_of_eq hn N_0
    have e := outsAt0_B m c ⟨n + 1, hn⟩ (by dsimp only; omega) (by dsimp only; omega)
    dsimp only at e
    rw [e]
    dsimp only
    rw [outB4_apply]
    exact iblk2 m c _ k q Q hQ

open Cert.Kernel3Ideal.Value in
/-- The projection at row `r` and column `Q`; -/
theorem result3 (c : Dev nD) (r : Fin 1024) (Q : Fin 5120) :
    G3 m c (ix2 r Q) = ∑ k : Fin 2048, hrow m c r k * m ((c : Thread nD τ).loc main_arg2) (ix3 0 k Q) := by
  have hr := r.isLt
  have hQ := Q.isLt
  have hp : pt3Of (ix2 r Q) = Q.val / 512 := by
    show 10 * (r.val / 1024 - 0) + 1 * (Q.val / 512 - 0) = _
    rw [Nat.div_eq_of_lt hr]; omega
  have hlt : Q.val / 512 < cfg0.N := lt_of_lt_of_eq (by omega) N_0.symm
  have hl : loc3Of (ix2 r Q) = ix2 r (⟨Q.val % 512, Nat.mod_lt _ (by omega)⟩ : Fin 512) := by
    funext a; apply Fin.ext
    match a with
    | ⟨0, _⟩ => exact Nat.mod_eq_of_lt hr
    | ⟨1, _⟩ => rfl
  unfold G3
  rw [dif_pos (by rw [hp]; exact hlt), hl, fold0_congr m c _ _ (Q.val / 512) (by omega) hp, ← outsAt0_sweep m c _ hlt]
  exact block3 m c r _ Q _ hlt (by dsimp only; omega)

open Cert.Kernel3Ideal.Value in
/-- the weights at row `k` and column `Q`. -/
theorem result4 (c : Dev nD) (k : Fin 2048) (Q : Fin 5120) : G4 m c (ix2 k Q) = m ((c : Thread nD τ).loc main_arg2) (ix3 0 k Q) := by
  have hk := k.isLt
  have hQ := Q.isLt
  have hp : pt4Of (ix2 k Q) = Q.val / 512 := by
    show 10 * (k.val / 2048 - 0) + 1 * (Q.val / 512 - 0) = _
    rw [Nat.div_eq_of_lt hk]; omega
  have hlt : Q.val / 512 < cfg0.N := lt_of_lt_of_eq (by omega) N_0.symm
  have hl : loc4Of (ix2 k Q) = ix2 k (⟨Q.val % 512, Nat.mod_lt _ (by omega)⟩ : Fin 512) := by
    funext a; apply Fin.ext
    match a with
    | ⟨0, _⟩ => exact Nat.mod_eq_of_lt hk
    | ⟨1, _⟩ => rfl
  unfold G4
  rw [dif_pos (by rw [hp]; exact hlt), hl, fold0_congr m c _ _ (Q.val / 512) (by omega) hp, ← outsAt0_sweep m c _ hlt]
  exact block4 m c k _ Q _ hlt (by dsimp only; omega)

/-! ## The reference at an entry -/

section
open Cert.Reference3Ideal Cert.Reference3Ideal.Read
variable (x0 : (⟨S1024x2048, .f32⟩ : BufTy).Contents (Elt Ideal)) (x1 : (⟨S1x2048, .f32⟩ : BufTy).Contents (Elt Ideal))
  (x2 : (⟨S1x2048x5120, .f32⟩ : BufTy).Contents (Elt Ideal))

theorem ref_norm (r : Fin 1024) (k : Fin 2048) :
    val_main_v13 x0 x1 (ix2 r k) = nrm (fun k => x0 (ix2 r k)) (fun k => x1 (ix2 0 k)) k := by
  unfold nrm
  pointwise! [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

theorem ref_proj (r : Fin 1024) (Q : Fin 5120) :
    val_main_v15 x0 x1 x2 (ix2 r Q) = ∑ k : Fin 2048, HMul.hMul (α := EReal) (β := EReal) (γ := EReal) (val_main_v13 x0 x1 (ix2 r k)) (x2 (ix3 0 k Q)) := by
  pointwise! [val_main_v15, val_main_v14]

theorem ref_weights (k : Fin 2048) (Q : Fin 5120) : val_main_v17 (F := Ideal) x2 (ix2 k Q) = x2 (ix3 0 k Q) := by
  pointwise! [val_main_v17, val_main_v16]
end

theorem algebraic : Cert.algebraic_Kernel3Ideal_Reference3Ideal := by
  intro m g m' g' _ hm
  refine ⟨fun c => Cert.Kernel3Ideal.Value.G3 m c, fun c => Cert.Kernel3Ideal.Value.G4 m c, Cert.Kernel3Ideal.Value.run m g,
    (θ_run Cert.Reference3Ideal.defs _ _).mono (fun r h c => ⟨(h c).1.trans ?_, (h c).2.1.trans ?_, (h c).2.2⟩) (Cert.Reference3Ideal.Value.run m' g')⟩
  · obtain ⟨h0, h1, h2⟩ := hm c
    rw [Cert.Reference3Ideal.Read.val_main_v15_eq, h0, h1, h2]
    funext j
    obtain ⟨R, n, rfl⟩ : ∃ (R : Fin 1024) (n : Fin 5120), j = ix2 R n := ⟨_, _, eq_ix2 j⟩
    refine (ref_proj _ _ _ R n).trans ((Finset.sum_congr rfl fun k _ => ?_).trans (result3 m c R n).symm)
    rw [ref_norm]
    rfl
  · obtain ⟨h0, h1, h2⟩ := hm c
    rw [Cert.Reference3Ideal.Read.val_main_v17_eq, h2]
    funext j
    obtain ⟨k, n, rfl⟩ : ∃ (k : Fin 2048) (n : Fin 5120), j = ix2 k n := ⟨_, _, eq_ix2 j⟩
    exact (ref_weights _ k n).trans (result4 m c k n).symm

end Cert.Kernel3Ideal.Iproj

end
-- ==== Proof.Oproj.lean ====
/-
  The output projection of the sample batch: each of the four points writes one block of 512 columns of the residual plus
  the product with the weights, and that block of the weights; the reference's two results are these arrays.
-/
module

public import proofs.«01_k».proof.Defs
public import proofs.«01_k».proof.Proof.Gen.Kernel4Ideal.Value
public import proofs.«01_k».proof.Proof.Gen.Reference4Ideal.Read
public import proofs.«01_k».proof.Proof.Rows

@[expose] public section

set_option maxRecDepth 16384

noncomputable section

namespace Cert.Kernel4Ideal.Oproj

open Idealize.ShloMosaic Idealize.ShloMosaic.TcCoe
open Idealize.ShloMosaic.Pipeline (Dat)
open Cert.Kernel4Ideal.Gen
open Cert.Reference4Ideal.Read

theorem pay1_apply (w : Vec Ideal S2048x512 .f32) (k : Fin 2048) (q : Fin 512) : k0_pay1 w (ix2 k q) = w (ix2 k q) := by
  pointwise! [k0_pay1]

theorem pay2_apply (w : Vec Ideal S2048x512 .f32) (x : Vec Ideal S1024x512 .f32) (y : Vec Ideal S1024x2048 .bf16) (r : Fin 1024) (q : Fin 512) :
    k0_pay2 w x y (ix2 r q) = HAdd.hAdd (α := EReal) (β := EReal) (γ := EReal) (x (ix2 r q)) (∑ k : Fin 2048, y (ix2 r k) * w (ix2 k q)) := by
  pointwise! [k0_pay2, k0_pay1]

/-- What a point leaves in the block of the projection; -/
theorem out3_apply (x : Vec Ideal S1024x512 .f32) (y : Vec Ideal S1024x2048 .bf16) (w : Vec Ideal S2048x512 .f32) (r : Fin 1024) (q : Fin 512) :
    out0_3 x y w (ix2 r q) = HAdd.hAdd (α := EReal) (β := EReal) (γ := EReal) (x (ix2 r q)) (∑ k : Fin 2048, y (ix2 r k) * w (ix2 k q)) := by
  unfold out0_3
  refine (congrFun (View.canon_unit_zero Cert.Rows.zeros2 _ _) _).trans ?_
  rw [View.ld_unit_zero (S := S2048x512) Cert.Rows.zeros2, View.ld_unit_zero (S := S1024x512) Cert.Rows.zeros2, View.ld_unit_zero (S := S1024x2048) Cert.Rows.zeros2]
  exact pay2_apply ..

/-- and in the block of the weights. -/
theorem out4_apply (x : Vec Ideal S1024x512 .f32) (y : Vec Ideal S1024x2048 .bf16) (w : Vec Ideal S2048x512 .f32) (k : Fin 2048) (q : Fin 512) :
    out0_4 x y w (ix2 k q) = w (ix2 k q) := by
  unfold out0_4
  refine (congrFun (View.canon_unit_zero Cert.Rows.zeros2 _ _) _).trans ?_
  rw [View.ld_unit_zero (S := S2048x512) Cert.Rows.zeros2]
  exact pay1_apply ..

variable (m : (ℓ : Loc nD τ sig) → Buf (Elt Ideal) ℓ)

theorem V_v0 (c : Dev nD) (r : Fin 1024) (k : Fin 2048) : V m c main_v0 (ix2 r k) = m ((c : Thread nD τ).loc main_arg1) (ix2 r k) := by
  unfold_abbrev_sides
  after_results
  pointwise!

theorem V_v1 (c : Dev nD) (k : Fin 2048) (q : Fin 2048) : V m c main_v1 (ix2 k q) = m ((c : Thread nD τ).loc main_arg2) (ix3 0 k q) := by
  unfold_abbrev_sides
  after_results
  pointwise!

theorem idx_all : ∀ t : Fin cfg0.N, win0_0.index t = ![0, t.val] ∧ win0_1.index t = ![0, 0] ∧ win0_2.index t = ![0, t.val]
    ∧ win0_3.index t = ![0, t.val] ∧ win0_4.index t = ![0, t.val] ∧ (cfg0.win 3).flush t = true ∧ (cfg0.win 4).flush t = true :=
  (by decide +kernel : ∀ t : Fin grid0.N, _)

theorem lt4 (t : Fin cfg0.N) : t.val < 4 := lt_of_lt_of_eq t.isLt N_0

theorem blk0 (c : Dev nD) (t : Fin cfg0.N) (r : Fin 1024) (q : Fin 512) (Q : Fin 2048) (hQ : Q.val = 512 * t.val + q.val) :
    iblk m c 0 t (ix2 r q) = m ((c : Thread nD τ).loc main_arg0) (ix2 r Q) := by
  have e0 := (idx_all t).1
  have : ((cfg0.win 0).blk t).view.emb (ix2 r q) = ix2 r Q := by
    funext a; apply Fin.ext
    match a with
    | ⟨0, _⟩ => show win0_0.index t (0 : Fin 2) * 1024 + 1 * r.val = r.val; rw [e0]; show 0 * 1024 + _ = _; omega
    | ⟨1, _⟩ => show win0_0.index t (1 : Fin 2) * 512 + 1 * q.val = Q.val; rw [e0, hQ]; show t.val * 512 + _ = _; omega
  exact (congrArg (V m c main_arg0) this).trans (congrFun (V_main_arg0 m c) _)

theorem blk1 (c : Dev nD) (t : Fin cfg0.N) (r : Fin 1024) (k : Fin 2048) :
    iblk m c 1 t (ix2 r k) = m ((c : Thread nD τ).loc main_arg1) (ix2 r k) := by
  have e0 := (idx_all t).2.1
  have : ((cfg0.win 1).blk t).view.emb (ix2 r k) = ix2 r k := by
    funext a; apply Fin.ext
    match a with
    | ⟨0, _⟩ => show win0_1.index t (0 : Fin 2) * 1024 + 1 * r.val = r.val; rw [e0]; show 0 * 1024 + _ = _; omega
    | ⟨1, _⟩ => show win0_1.index t (1 : Fin 2) * 2048 + 1 * k.val = k.val; rw [e0]; show 0 * 2048 + _ = _; omega
  exact (congrArg (V m c main_v0) this).trans (V_v0 m c r k)

theorem blk2 (c : Dev nD) (t : Fin cfg0.N) (k : Fin 2048) (q : Fin 512) (Q : Fin 2048) (hQ : Q.val = 512 * t.val + q.val) :
    iblk m c 2 t (ix2 k q) = m ((c : Thread nD τ).loc main_arg2) (ix3 0 k Q) := by
  have e0 := (idx_all t).2.2.1
  have : ((cfg0.win 2).blk t).view.emb (ix2 k q) = ix2 k Q := by
    funext a; apply Fin.ext
    match a with
    | ⟨0, _⟩ => show win0_2.index t (0 : Fin 2) * 2048 + 1 * k.val = k.val; rw [e0]; show 0 * 2048 + _ = _; omega
    | ⟨1, _⟩ => show win0_2.index t (1 : Fin 2) * 512 + 1 * q.val = Q.val; rw [e0, hQ]; show t.val * 512 + _ = _; omega
  exact (congrArg (V m c main_v1) this).trans (V_v1 m c k Q)

theorem emb3 (t : Fin cfg0.N) (r : Fin 1024) (q : Fin 512) (Q : Fin 2048) (hQ : Q.val = 512 * t.val + q.val) :
    ((cfg0.win 3).blk t).view.emb (ix2 r q) = ix2 r Q := by
  have e0 := (idx_all t).2.2.2.1
  funext a; apply Fin.ext
  match a with
  | ⟨0, _⟩ => show win0_3.index t (0 : Fin 2) * 1024 + 1 * r.val = r.val; rw [e0]; show 0 * 1024 + _ = _; omega
  | ⟨1, _⟩ => show win0_3.index t (1 : Fin 2) * 512 + 1 * q.val = Q.val; rw [e0, hQ]; show t.val * 512 + _ = _; omega

theorem emb4 (t : Fin cfg0.N) (k : Fin 2048) (q : Fin 512) (Q : Fin 2048) (hQ : Q.val = 512 * t.val + q.val) :
    ((cfg0.win 4).blk t).view.emb (ix2 k q) = ix2 k Q := by
  have e0 := (idx_all t).2.2.2.2.1
  funext a; apply Fin.ext
  match a with
  | ⟨0, _⟩ => show win0_4.index t (0 : Fin 2) * 2048 + 1 * k.val = k.val; rw [e0]; show 0 * 2048 + _ = _; omega
  | ⟨1, _⟩ => show win0_4.index t (1 : Fin 2) * 512 + 1 * q.val = Q.val; rw [e0, hQ]; show t.val * 512 + _ = _; omega

/-! ## The reference at an entry -/

theorem ref_proj (x0 x1 : (⟨S1024x2048, .f32⟩ : BufTy).Contents (Elt Ideal)) (x2 : (⟨S1x2048x2048, .f32⟩ : BufTy).Contents (Elt Ideal)) (r : Fin 1024) (q : Fin 2048) :
    val_main_v2 (F := Ideal) x0 x1 x2 (ix2 r q) = HAdd.hAdd (α := EReal) (β := EReal) (γ := EReal) (x0 (ix2 r q)) (∑ k : Fin 2048, x1 (ix2 r k) * x2 (ix3 0 k q)) := by
  pointwise! [val_main_v2, val_main_v1, val_main_v0]

theorem ref_weights (x2 : (⟨S1x2048x2048, .f32⟩ : BufTy).Contents (Elt Ideal)) (k : Fin 2048) (q : Fin 2048) :
    val_main_v4 (F := Ideal) x2 (ix2 k q) = x2 (ix3 0 k q) := by
  pointwise! [val_main_v4, val_main_v3]

/-! ## The arrays the call leaves -/

/-- The projection with its residual, in the reference's words; -/
def G3 (c : Dev nD) : Buf (Elt Ideal) ((c : Thread nD τ).loc main_v2_0) :=
  val_main_v2 (F := Ideal) (m ((c : Thread nD τ).loc main_arg0)) (m ((c : Thread nD τ).loc main_arg1)) (m ((c : Thread nD τ).loc main_arg2))

/-- the weights. -/
def G4 (c : Dev nD) : Buf (Elt Ideal) ((c : Thread nD τ).loc main_v2_1) := val_main_v4 (F := Ideal) (m ((c : Thread nD τ).loc main_arg2))

theorem final3 (c : Dev nD) : (dats m 0 c).arrAt 3 cfg0.N = G3 m c := by
  refine Dat.arrAt_eq_of_cover (dats m 0 c) 3 (G3 m c) (fun t hf => ?_) (fun y => ?_)
  · funext x
    obtain ⟨r, q, rfl⟩ : ∃ (r : Fin 1024) (q : Fin 512), x = ix2 r q := ⟨_, _, eq_ix2 x⟩
    have ht := lt4 t
    have hq := q.isLt
    refine (congrFun (after0_3 m c t) (ix2 r q)).trans ((out3_apply _ _ _ r q).trans ?_)
    refine Eq.trans ?_ (congrArg (G3 m c) (emb3 t r q ⟨512 * t.val + q.val, by omega⟩ rfl)).symm
    refine Eq.trans ?_ (ref_proj _ _ _ r _).symm
    exact congrArg₂ _ (blk0 m c t r q _ rfl) (Finset.sum_congr rfl fun k _ => congrArg₂ _ (blk1 m c t r k) (blk2 m c t k q _ rfl))
  · obtain ⟨r, q, rfl⟩ : ∃ (r : Fin 1024) (q : Fin 2048), y = ix2 r q := ⟨_, _, eq_ix2 y⟩
    have hq := q.isLt
    have hlt : q.val / 512 < cfg0.N := lt_of_lt_of_eq (by omega : q.val / 512 < 4) N_0.symm
    refine ⟨⟨q.val / 512, hlt⟩, (idx_all _).2.2.2.2.2.1, ?_⟩
    rw [← emb3 ⟨q.val / 512, hlt⟩ r ⟨q.val % 512, by omega⟩ q (by show q.val = 512 * (q.val / 512) + q.val % 512; omega)]
    exact View.emb_mem_set _ _

theorem final4 (c : Dev nD) : (dats m 0 c).arrAt 4 cfg0.N = G4 m c := by
  refine Dat.arrAt_eq_of_cover (dats m 0 c) 4 (G4 m c) (fun t hf => ?_) (fun y => ?_)
  · funext x
    obtain ⟨k, q, rfl⟩ : ∃ (k : Fin 2048) (q : Fin 512), x = ix2 k q := ⟨_, _, eq_ix2 x⟩
    have ht := lt4 t
    have hq := q.isLt
    refine (congrFun (after0_4 m c t) (ix2 k q)).trans ((out4_apply _ _ _ k q).trans ((blk2 m c t k q ⟨512 * t.val + q.val, by omega⟩ rfl).trans ?_))
    refine Eq.trans ?_ (congrArg (G4 m c) (emb4 t k q ⟨512 * t.val + q.val, by omega⟩ rfl)).symm
    exact (ref_weights _ k _).symm
  · obtain ⟨k, q, rfl⟩ : ∃ (k : Fin 2048) (q : Fin 2048), y = ix2 k q := ⟨_, _, eq_ix2 y⟩
    have hq := q.isLt
    have hlt : q.val / 512 < cfg0.N := lt_of_lt_of_eq (by omega : q.val / 512 < 4) N_0.symm
    refine ⟨⟨q.val / 512, hlt⟩, (idx_all _).2.2.2.2.2.2, ?_⟩
    rw [← emb4 ⟨q.val / 512, hlt⟩ k ⟨q.val % 512, by omega⟩ q (by show q.val = 512 * (q.val / 512) + q.val % 512; omega)]
    exact View.emb_mem_set _ _

theorem algebraic : Cert.algebraic_Kernel4Ideal_Reference4Ideal := by
  intro m g m' g' _ hm
  refine ⟨fun c => G3 m c, fun c => G4 m c,
    (θ_run Cert.Kernel4Ideal.defs _ _).mono (fun r h c => ⟨(h c).1.trans (final3 m c), (h c).2.1.trans (final4 m c), (h c).2.2⟩) (Cert.Kernel4Ideal.Value.run_blocks m g),
    (θ_run Cert.Reference4Ideal.defs _ _).mono (fun r h c => ⟨(h c).1.trans ?_, (h c).2.1.trans ?_, (h c).2.2⟩) (Cert.Reference4Ideal.Value.run m' g')⟩
  · obtain ⟨h0, h1, h2⟩ := hm c
    rw [h0, h1, h2]
    rfl
  · obtain ⟨h0, h1, h2⟩ := hm c
    rw [h2]
    rfl

end Cert.Kernel4Ideal.Oproj

end
-- ==== Proof.Sffn.lean ====
/-
  What the payloads of the sample batch's feed-forward call hold, entry by entry: the normalised rows, and one block of 256 hidden
  units. The words `nrm`, `act` and `blk` are those of the prompt's call.
-/
module

public import proofs.«01_k».proof.Proof.Gen.Kernel5Ideal.Value
public import proofs.«01_k».proof.Proof.Rows
public import proofs.«01_k».proof.Proof.Ffn

@[expose] public section

set_option maxRecDepth 16384

noncomputable section

namespace Cert.Kernel5Ideal.Sffn

open Idealize.ShloMosaic Idealize.ShloMosaic.TcCoe
open Cert.Kernel5Ideal.Gen
open Cert.Kernel2Ideal.Ffn (nrm act blk)

theorem pay12_apply (X : Vec Ideal S256x2048 .f32) (g : Vec Ideal S1x2048 .f32) (r : Fin 256) (k : Fin 2048) :
    k0_pay12 X g (ix2 r k) = nrm (fun k => X (ix2 r k)) (fun k => g (ix2 0 k)) k := by
  unfold nrm
  pointwise! [k0_pay12, k0_pay11]

theorem pay17_apply (X : Vec Ideal S256x2048 .f32) (g : Vec Ideal S1x2048 .f32) (r : Fin 256) (k : Fin 2048) :
    k0_pay17 X g (ix2 r k) = nrm (fun k => X (ix2 r k)) (fun k => g (ix2 0 k)) k := by
  unfold nrm
  pointwise! [k0_pay17, k0_pay16]

theorem pay23_apply (X : Vec Ideal S256x2048 .f32) (g : Vec Ideal S1x2048 .f32) (r : Fin 256) (k : Fin 2048) :
    k0_pay23 X g (ix2 r k) = nrm (fun k => X (ix2 r k)) (fun k => g (ix2 0 k)) k := by
  unfold nrm
  pointwise! [k0_pay23, k0_pay22]

theorem pay2_apply (X : Vec Ideal S256x2048 .f32) (g : Vec Ideal S1x2048 .f32) (r : Fin 256) (k : Fin 2048) :
    k0_pay2 X g (ix2 r k) = nrm (fun k => X (ix2 r k)) (fun k => g (ix2 0 k)) k := by
  unfold nrm
  pointwise! [k0_pay2, k0_pay1]

theorem pay15_apply (a b : Vec Ideal S2048x256 .f32) (d : Vec Ideal S256x2048 .bf16) (X : Vec Ideal S256x2048 .f32) (g : Vec Ideal S1x2048 .f32) (r : Fin 256) (n : Fin 2048) :
    k0_pay15 d (k0_pay13 a X g) (k0_pay14 b X g) (ix2 r n) = blk (nrm (fun k => X (ix2 r k)) (fun k => g (ix2 0 k))) (fun k q => a (ix2 k q)) (fun k q => b (ix2 k q)) (fun q => d (ix2 q n)) := by
  unfold blk act nrm
  pointwise! [k0_pay15, k0_pay13, k0_pay14, k0_pay11, k0_pay8, k0_pay9]

theorem pay21_apply (a b : Vec Ideal S2048x256 .bf16) (d : Vec Ideal S256x2048 .bf16) (X : Vec Ideal S256x2048 .f32) (g : Vec Ideal S1x2048 .f32) (r : Fin 256) (n : Fin 2048) :
    k0_pay21 d (k0_pay18 a X g) (k0_pay19 b X g) (k0_pay20 a X g) (FloatOps.ofBits (F := Ideal) .f32 0x3F800000#32) (ix2 r n) = blk (nrm (fun k => X (ix2 r k)) (fun k => g (ix2 0 k))) (fun k q => a (ix2 k q)) (fun k q => b (ix2 k q)) (fun q => d (ix2 q n)) := by
  unfold blk act nrm
  pointwise! [k0_pay21, k0_pay18, k0_pay19, k0_pay20, k0_pay16]

theorem pay24_apply (a b : Vec Ideal S2048x256 .bf16) (d : Vec Ideal S256x2048 .bf16) (X : Vec Ideal S256x2048 .f32) (g : Vec Ideal S1x2048 .f32) (r : Fin 256) (n : Fin 2048) :
    k0_pay24 a b d X g (ix2 r n) = blk (nrm (fun k => X (ix2 r k)) (fun k => g (ix2 0 k))) (fun k q => a (ix2 k q)) (fun k q => b (ix2 k q)) (fun q => d (ix2 q n)) := by
  unfold blk act nrm
  pointwise! [k0_pay24, k0_pay22]

theorem pay3_apply (a b : Vec Ideal S2048x256 .bf16) (d : Vec Ideal S256x2048 .bf16) (X : Vec Ideal S256x2048 .f32) (g : Vec Ideal S1x2048 .f32) (r : Fin 256) (n : Fin 2048) :
    k0_pay3 a b d X g (ix2 r n) = blk (nrm (fun k => X (ix2 r k)) (fun k => g (ix2 0 k))) (fun k q => a (ix2 k q)) (fun k q => b (ix2 k q)) (fun q => d (ix2 q n)) := by
  unfold blk act nrm
  pointwise! [k0_pay3, k0_pay1]

theorem pay7_apply (Y : Vec Ideal S1024x2048 .f32) (H : Vec Ideal S1024x2048 .bf16) (a b : Vec Ideal S2048x256 .f32) (d : Vec Ideal S256x2048 .f32) (r : Fin 1024) (n : Fin 2048) :
    k0_pay7 Y H a b d (ix2 r n) = Y (ix2 r n) + blk (fun k => H (ix2 r k)) (fun k q => a (ix2 k q)) (fun k q => b (ix2 k q)) (fun q => d (ix2 q n)) := by
  unfold blk act
  pointwise! [k0_pay7, k0_pay4, k0_pay5, k0_pay6]

theorem pay29_apply (a b : Vec Ideal S2048x256 .f32) (d : Vec Ideal S256x2048 .f32) (X Y : Vec Ideal S256x2048 .f32) (H : Vec Ideal S256x2048 .bf16) (g : Vec Ideal S1x2048 .f32) (r : Fin 256) (n : Fin 2048) :
    k0_pay29 (k0_pay28 a b d X Y H) g (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay29, k0_pay28, k0_pay25, k0_pay26, k0_pay27]

theorem pay33_apply (a b : Vec Ideal S2048x256 .bf16) (d : Vec Ideal S256x2048 .bf16) (X Y : Vec Ideal S256x2048 .f32) (H : Vec Ideal S256x2048 .bf16) (g : Vec Ideal S1x2048 .f32) (r : Fin 256) (n : Fin 2048) :
    k0_pay33 (k0_pay30 a b d X Y H) (k0_pay31 g) (k0_pay32 a b d X Y H) (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay33, k0_pay30, k0_pay31, k0_pay32]

theorem pay37_apply (a b : Vec Ideal S2048x256 .bf16) (d : Vec Ideal S256x2048 .bf16) (X Y : Vec Ideal S256x2048 .f32) (H : Vec Ideal S256x2048 .bf16) (g : Vec Ideal S1x2048 .f32) (r : Fin 256) (n : Fin 2048) :
    k0_pay37 (k0_pay34 a b d X Y H) (k0_pay35 g) (k0_pay36 a b d X Y H) (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay37, k0_pay34, k0_pay35, k0_pay36]

theorem pay38_apply (a b : Vec Ideal S2048x256 .bf16) (d : Vec Ideal S256x2048 .bf16) (X Y : Vec Ideal S256x2048 .f32) (H : Vec Ideal S256x2048 .bf16) (g : Vec Ideal S1x2048 .f32) (r : Fin 256) (n : Fin 2048) :
    k0_pay38 a b d X Y H g (ix2 r n) = nrm (fun n => X (ix2 r n) + Y (ix2 r n) + blk (fun k => H (ix2 r k)) (fun k q => a (ix2 k q)) (fun k q => b (ix2 k q)) (fun q => d (ix2 q n)))
      (fun n => g (ix2 0 n)) n := by
  unfold nrm blk act
  pointwise! [k0_pay38]

theorem pay4_eq (w : Vec Ideal S2048x256 .f32) (i : Fin 2048) (j : Fin 256) : k0_pay4 w (ix2 i j) = w (ix2 i j) := by pointwise! [k0_pay4]
theorem pay5_eq (w : Vec Ideal S2048x256 .f32) (i : Fin 2048) (j : Fin 256) : k0_pay5 w (ix2 i j) = w (ix2 i j) := by pointwise! [k0_pay5]
theorem pay6_eq (w : Vec Ideal S256x2048 .f32) (i : Fin 256) (j : Fin 2048) : k0_pay6 w (ix2 i j) = w (ix2 i j) := by pointwise! [k0_pay6]
theorem pay8_eq (w : Vec Ideal S2048x256 .f32) (i : Fin 2048) (j : Fin 256) : k0_pay8 w (ix2 i j) = w (ix2 i j) := by pointwise! [k0_pay8]
theorem pay9_eq (w : Vec Ideal S2048x256 .f32) (i : Fin 2048) (j : Fin 256) : k0_pay9 w (ix2 i j) = w (ix2 i j) := by pointwise! [k0_pay9]
theorem pay10_eq (w : Vec Ideal S256x2048 .f32) (i : Fin 256) (j : Fin 2048) : k0_pay10 w (ix2 i j) = w (ix2 i j) := by pointwise! [k0_pay10]
theorem pay25_eq (w : Vec Ideal S2048x256 .f32) (i : Fin 2048) (j : Fin 256) : k0_pay25 w (ix2 i j) = w (ix2 i j) := by pointwise! [k0_pay25]
theorem pay26_eq (w : Vec Ideal S2048x256 .f32) (i : Fin 2048) (j : Fin 256) : k0_pay26 w (ix2 i j) = w (ix2 i j) := by pointwise! [k0_pay26]
theorem pay27_eq (w : Vec Ideal S256x2048 .f32) (i : Fin 256) (j : Fin 2048) : k0_pay27 w (ix2 i j) = w (ix2 i j) := by pointwise! [k0_pay27]

end Cert.Kernel5Ideal.Sffn

end
-- ==== Proof.SffnPoint.lean ====
/-
  What a grid point of the sample batch's feed-forward call leaves in its output blocks and in its scratch, entry by entry.
-/
module

public import proofs.«01_k».proof.Proof.Sffn

@[expose] public section

set_option maxRecDepth 16384

noncomputable section

namespace Cert.Kernel5Ideal.Sffn

open Idealize.ShloMosaic Idealize.ShloMosaic.TcCoe
open Cert.Kernel5Ideal.Gen
open Cert.Kernel2Ideal.Ffn (nrm act blk)

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x2048 .bf16) (harg11 : arg11.IsWhole) (arg12 : Memref sig .tc .vmem S1024x2048 .bf16) (harg12 : arg12.IsWhole)
  (x0 : Vec Ideal S1024x2048 .f32) (x1 : Vec Ideal S1x2048 .f32) (x2 : Vec Ideal S2048x256 .f32) (x3 : Vec Ideal S2048x256 .f32) (x4 : Vec Ideal S256x2048 .f32) (x5 : Vec Ideal S1x2048 .f32) (xo6 : Vec Ideal S1024x2048 .f32) (xs0 : Vec Ideal S1024x2048 .bf16)

/-- The first point leaves the products of the normalised rows with its weight block. -/
theorem outA_apply (hc0 : cond0_0 i) (hc1 : ¬cond0_1 i) (hc2 : ¬cond0_2 i) (r : Fin 1024) (n : Fin 2048) :
    out0_A_6 c i arg2 harg2 arg3 harg3 arg4 harg4 arg5 harg5 arg6 harg6 arg7 harg7 arg8 harg8 arg9 harg9 arg10 harg10 arg11 harg11 arg12 harg12 hc0 hc1 hc2 x0 x1 x2 x3 x4 x5 (ix2 r n) = blk (nrm (fun k => x0 (ix2 r k)) (fun k => x1 (ix2 0 k))) (fun k q => x2 (ix2 k q)) (fun k q => x3 (ix2 k q)) (fun q => x4 (ix2 q n)) := by
  unfold out0_A_6
  refine View.read_writes_apply_of_pieces (Val := Elt Ideal) VO0_6 _ (Cert.Rows.ofRC (M := 1024) (N := 2048) fun r n => blk (nrm (fun k => x0 (ix2 r k)) (fun k => x1 (ix2 0 k))) (fun k q => x2 (ix2 k q)) (fun k q => x3 (ix2 k q)) (fun q => x4 (ix2 q n))) _ ?_ (ix2 r n) (cover0_A_6 (c := c) (harg2 := harg2) (harg3 := harg3) (harg4 := harg4) (harg5 := harg5) (harg6 := harg6) (harg7 := harg7) (harg8 := harg8) (harg9 := harg9) (harg10 := harg10) (harg11 := harg11) (harg12 := harg12) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [Cert.Rows.ofRC_row]
    try simp only [kernelRun0_A.sl.cst_44, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
    first | rw [pay15_apply] | rw [pay21_apply] | rw [pay24_apply] | rw [pay3_apply]
    simp only [pay8_eq, pay9_eq, pay10_eq, pay25_eq, pay26_eq, pay27_eq, Cert.Rows.readAt_full]
    simp only [Cert.Rows.readAt_row]

/-- It leaves the normalised rows in the scratch. -/
theorem soutA_apply (hc0 : cond0_0 i) (hc1 : ¬cond0_1 i) (hc2 : ¬cond0_2 i) (r : Fin 1024) (n : Fin 2048) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 (ix2 r n) = nrm (fun k => x0 (ix2 r k)) (fun k => x1 (ix2 0 k)) n := by
  unfold sout0_A_0
  refine View.read_writes_apply_of_pieces (Val := Elt Ideal) VS0_0 _ (Cert.Rows.ofRC (M := 1024) (N := 2048) fun r n => nrm (fun k => x0 (ix2 r k)) (fun k => x1 (ix2 0 k)) n) _ ?_ (ix2 r n) (scover0_A_0 (c := c) (harg2 := harg2) (harg3 := harg3) (harg4 := harg4) (harg5 := harg5) (harg6 := harg6) (harg7 := harg7) (harg8 := harg8) (harg9 := harg9) (harg10 := harg10) (harg11 := harg11) (harg12 := harg12) (y := _) ..)
  unfold kernelRun0_A
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [Cert.Rows.ofRC_row]
    try simp only [kernelRun0_A.sl.cst_44, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8]
    first | rw [pay12_apply] | rw [pay17_apply] | rw [pay23_apply] | rw [pay2_apply]
    simp only [pay8_eq, pay9_eq, pay10_eq, pay25_eq, pay26_eq, pay27_eq, Cert.Rows.readAt_full]
    simp only [Cert.Rows.readAt_row]

/-- A point inside adds the products of the scratch rows with its weight block. -/
theorem outB_apply (hc0 : ¬cond0_0 i) (hc1 : cond0_1 i) (hc2 : ¬cond0_2 i) (r : Fin 1024) (n : Fin 2048) :
    out0_B_6 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 r n) = xo6 (ix2 r n) + blk (fun k => xs0 (ix2 r k)) (fun k q => x2 (ix2 k q)) (fun k q => x3 (ix2 k q)) (fun q => x4 (ix2 q n)) := by
  unfold out0_B_6 kernelRun0_B
  dsimp only
  refine (Cert.Rows.read_one ..).trans ?_
  rw [pay7_apply]
  simp only [Cert.Rows.readAt_full]

/-- The last point adds its own products and the residual, and normalises. -/
theorem outC_apply (hc0 : ¬cond0_0 i) (hc1 : ¬cond0_1 i) (hc2 : cond0_2 i) (r : Fin 1024) (n : Fin 2048) :
    out0_C_6 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 r n) = nrm (fun n => x0 (ix2 r n) + xo6 (ix2 r n) + blk (fun k => xs0 (ix2 r k)) (fun k q => x2 (ix2 k q)) (fun k q => x3 (ix2 k q)) (fun q => x4 (ix2 q n))) (fun n => x5 (ix2 0 n)) n := by
  unfold out0_C_6
  refine View.read_writes_apply_of_pieces (Val := Elt Ideal) VO0_6 _ (Cert.Rows.ofRC (M := 1024) (N := 2048) fun r n => nrm (fun n => x0 (ix2 r n) + xo6 (ix2 r n) + blk (fun k => xs0 (ix2 r k)) (fun k q => x2 (ix2 k q)) (fun k q => x3 (ix2 k q)) (fun q => x4 (ix2 q n))) (fun n => x5 (ix2 0 n)) n) _ ?_ (ix2 r n) (cover0_C_6 (c := c) (harg2 := harg2) (harg3 := harg3) (harg4 := harg4) (harg5 := harg5) (harg6 := harg6) (harg7 := harg7) (harg8 := harg8) (harg9 := harg9) (harg10 := harg10) (harg11 := harg11) (harg12 := harg12) (y := _) ..)
  unfold kernelRun0_C
  dsimp only
  simp only [List.forall_mem_cons]
  refine ⟨?_, ?_, ?_, ?_, by simp⟩
  all_goals
    intro x
    obtain ⟨r, n, rfl⟩ : ∃ (r : Fin 256) (n : Fin 2048), x = ix2 r n := ⟨_, _, eq_ix2 x⟩
    rw [Cert.Rows.ofRC_row]
    try simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.v58, kernelRun0_C.sl.v92, kernelRun0_C.sl.v126]
    first | rw [pay29_apply] | rw [pay33_apply] | rw [pay37_apply] | rw [pay38_apply]
    simp only [pay8_eq, pay9_eq, pay10_eq, pay25_eq, pay26_eq, pay27_eq, Cert.Rows.readAt_full]
    simp only [Cert.Rows.readAt_row]

/-- The first point leaves its blocks of the three weights; -/
theorem outA_weights (hc0 : cond0_0 i) (hc1 : ¬cond0_1 i) (hc2 : ¬cond0_2 i) :
    (∀ (k : Fin 2048) (q : Fin 256), out0_A_7 c i arg2 harg2 arg3 harg3 arg4 harg4 arg5 harg5 arg6 harg6 arg7 harg7 arg8 harg8 arg9 harg9 arg10 harg10 arg11 harg11 arg12 harg12 hc0 hc1 hc2 x0 x1 x2 x3 x4 x5 (ix2 k q) = x2 (ix2 k q))
    ∧ (∀ (k : Fin 2048) (q : Fin 256), out0_A_8 c i arg2 harg2 arg3 harg3 arg4 harg4 arg5 harg5 arg6 harg6 arg7 harg7 arg8 harg8 arg9 harg9 arg10 harg10 arg11 harg11 arg12 harg12 hc0 hc1 hc2 x0 x1 x2 x3 x4 x5 (ix2 k q) = x3 (ix2 k q))
    ∧ (∀ (k : Fin 256) (q : Fin 2048), out0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 (ix2 k q) = x4 (ix2 k q)) := by
  unfold out0_A_7 out0_A_8 out0_A_9 kernelRun0_A
  dsimp only
  exact ⟨fun k q => (Cert.Rows.read_one ..).trans ((pay8_eq _ k q).trans (Cert.Rows.readAt_full ..)), fun k q => (Cert.Rows.read_one ..).trans ((pay9_eq _ k q).trans (Cert.Rows.readAt_full ..)),
    fun k q => (Cert.Rows.read_one ..).trans ((pay10_eq _ k q).trans (Cert.Rows.readAt_full ..))⟩

/-- so does a point inside; -/
theorem outB_weights (hc0 : ¬cond0_0 i) (hc1 : cond0_1 i) (hc2 : ¬cond0_2 i) :
    (∀ (k : Fin 2048) (q : Fin 256), out0_B_7 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x2 (ix2 k q))
    ∧ (∀ (k : Fin 2048) (q : Fin 256), out0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x3 (ix2 k q))
    ∧ (∀ (k : Fin 256) (q : Fin 2048), out0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x4 (ix2 k q)) := by
  unfold out0_B_7 out0_B_8 out0_B_9 kernelRun0_B
  dsimp only
  exact ⟨fun k q => (Cert.Rows.read_one ..).trans ((pay4_eq _ k q).trans (Cert.Rows.readAt_full ..)), fun k q => (Cert.Rows.read_one ..).trans ((pay5_eq _ k q).trans (Cert.Rows.readAt_full ..)),
    fun k q => (Cert.Rows.read_one ..).trans ((pay6_eq _ k q).trans (Cert.Rows.readAt_full ..))⟩

/-- and so does the last. -/
theorem outC_weights (hc0 : ¬cond0_0 i) (hc1 : ¬cond0_1 i) (hc2 : cond0_2 i) :
    (∀ (k : Fin 2048) (q : Fin 256), out0_C_7 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x2 (ix2 k q))
    ∧ (∀ (k : Fin 2048) (q : Fin 256), out0_C_8 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x3 (ix2 k q))
    ∧ (∀ (k : Fin 256) (q : Fin 2048), out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 xo6 xs0 (ix2 k q) = x4 (ix2 k q)) := by
  unfold out0_C_7 out0_C_8 out0_C_9 kernelRun0_C
  dsimp only
  exact ⟨fun k q => (Cert.Rows.read_one ..).trans ((pay25_eq _ k q).trans (Cert.Rows.readAt_full ..)), fun k q => (Cert.Rows.read_one ..).trans ((pay26_eq _ k q).trans (Cert.Rows.readAt_full ..)),
    fun k q => (Cert.Rows.read_one ..).trans ((pay27_eq _ k q).trans (Cert.Rows.readAt_full ..))⟩

end Cert.Kernel5Ideal.Sffn

end
-- ==== Proof.SffnValue.lean ====
/-
  The results of the sample batch's feed-forward call, entry by entry: the twenty-two points add up the hidden units' products,
  the last one normalises, and each point copies its blocks of the weights.
-/
module

public import proofs.«01_k».proof.Proof.SffnPoint

@[expose] public section

set_option maxRecDepth 16384

noncomputable section

namespace Cert.Kernel5Ideal.Sffn

open Idealize.ShloMosaic Idealize.ShloMosaic.TcCoe
open Cert.Kernel5Ideal.Gen
open Cert.Kernel2Ideal.Ffn (nrm act blk)

variable (m : (ℓ : Loc nD τ sig) → Buf (Elt Ideal) ℓ)

/-! ## The arrays the call finds -/

theorem V_v1 (c : Dev nD) (k : Fin 2048) : V m c main_v1 (ix2 0 k) = m ((c : Thread nD τ).loc main_arg1) (ix2 0 k) := by
  unfold_abbrev_sides
  after_results
  pointwise!

theorem V_v2 (c : Dev nD) (k : Fin 2048) : V m c main_v2 (ix2 0 k) = m ((c : Thread nD τ).loc main_arg5) (ix1 k) := by
  unfold_abbrev_sides
  after_results
  pointwise!

theorem V_v3 (c : Dev nD) (k : Fin 2048) (q : Fin 5632) : V m c main_v3 (ix2 k q) = m ((c : Thread nD τ).loc main_arg2) (ix3 0 k q) := by
  unfold_abbrev_sides
  after_results
  pointwise!

theorem V_v4 (c : Dev nD) (k : Fin 2048) (q : Fin 5632) : V m c main_v4 (ix2 k q) = m ((c : Thread nD τ).loc main_arg3) (ix3 0 k q) := by
  unfold_abbrev_sides
  after_results
  pointwise!

theorem V_v5 (c : Dev nD) (q : Fin 5632) (k : Fin 2048) : V m c main_v5 (ix2 q k) = m ((c : Thread nD τ).loc main_arg4) (ix3 0 q k) := by
  unfold_abbrev_sides
  after_results
  pointwise!

/-! ## The windows' blocks -/

theorem idx_in : ∀ t : Fin cfg0.N, win0_0.index t = ![0, 0] ∧ win0_1.index t = ![0, 0] ∧ win0_2.index t = ![0, t.val % 22]
    ∧ win0_3.index t = ![0, t.val % 22] ∧ win0_4.index t = ![t.val % 22, 0] ∧ win0_5.index t = ![0, 0] :=
  (by decide +kernel : ∀ t : Fin grid0.N, _)

theorem iblk0 (c : Dev nD) (t : Fin cfg0.N) (r : Fin 1024) (k : Fin 2048) :
    iblk m c 0 t (ix2 r k) = m ((c : Thread nD τ).loc main_arg0) (ix2 r k) := by
  obtain ⟨e0, e1, e2, e3, e4, e5⟩ := idx_in t
  have : ((cfg0.win 0).blk t).view.emb (ix2 r k) = ix2 r k := by
    funext a; apply Fin.ext
    match a with
    | ⟨0, _⟩ => show win0_0.index t (0 : Fin 2) * 1024 + 1 * r.val = r.val; rw [e0]; show 0 * 1024 + _ = _; omega
    | ⟨1, _⟩ => show win0_0.index t (1 : Fin 2) * 2048 + 1 * k.val = k.val; rw [e0]; show 0 * 2048 + _ = _; omega
  exact (congrArg (V m c main_arg0) this).trans (congrFun (V_main_arg0 m c) _)

theorem iblk1 (c : Dev nD) (t : Fin cfg0.N) (k : Fin 2048) :
    iblk m c 1 t (ix2 0 k) = m ((c : Thread nD τ).loc main_arg1) (ix2 0 k) := by
  obtain ⟨e0, e1, e2, e3, e4, e5⟩ := idx_in t
  have : ((cfg0.win 1).blk t).view.emb (ix2 0 k) = ix2 0 k := by
    funext a; apply Fin.ext
    match a with
    | ⟨0, _⟩ => show win0_1.index t (0 : Fin 2) * 1 + 1 * 0 = 0; rw [e1]; rfl
    | ⟨1, _⟩ => show win0_1.index t (1 : Fin 2) * 2048 + 1 * k.val = k.val; rw [e1]; show 0 * 2048 + _ = _; omega
  exact (congrArg (V m c main_v1) this).trans (V_v1 m c k)

theorem iblk5 (c : Dev nD) (t : Fin cfg0.N) (k : Fin 2048) :
    iblk m c 5 t (ix2 0 k) = m ((c : Thread nD τ).loc main_arg5) (ix1 k) := by
  obtain ⟨e0, e1, e2, e3, e4, e5⟩ := idx_in t
  have : ((cfg0.win 5).blk t).view.emb (ix2 0 k) = ix2 0 k := by
    funext a; apply Fin.ext
    match a with
    | ⟨0, _⟩ => show win0_5.index t (0 : Fin 2) * 1 + 1 * 0 = 0; rw [e5]; rfl
    | ⟨1, _⟩ => show win0_5.index t (1 : Fin 2) * 2048 + 1 * k.val = k.val; rw [e5]; show 0 * 2048 + _ = _; omega
  exact (congrArg (V m c main_v2) this).trans (V_v2 m c k)

theorem iblk2 (c : Dev nD) (t : Fin cfg0.N) (k : Fin 2048) (q : Fin 256) (Q : Fin 5632) (hQ : Q.val = 256 * (t.val % 22) + q.val) :
    iblk m c 2 t (ix2 k q) = m ((c : Thread nD τ).loc main_arg2) (ix3 0 k Q) := by
  obtain ⟨e0, e1, e2, e3, e4, e5⟩ := idx_in t
  have : ((cfg0.win 2).blk t).view.emb (ix2 k q) = ix2 k Q := by
    funext a; apply Fin.ext
    match a with
    | ⟨0, _⟩ => show win0_2.index t (0 : Fin 2) * 2048 + 1 * k.val = k.val; rw [e2]; show 0 * 2048 + _ = _; omega
    | ⟨1, _⟩ => show win0_2.index t (1 : Fin 2) * 256 + 1 * q.val = Q.val; rw [e2, hQ]; show t.val % 22 * 256 + _ = _; omega
  exact (congrArg (V m c main_v3) this).trans (V_v3 m c k Q)

theorem iblk3 (c : Dev nD) (t : Fin cfg0.N) (k : Fin 2048) (q : Fin 256) (Q : Fin 5632) (hQ : Q.val = 256 * (t.val % 22) + q.val) :
    iblk m c 3 t (ix2 k q) = m ((c : Thread nD τ).loc main_arg3) (ix3 0 k Q) := by
  obtain ⟨e0, e1, e2, e3, e4, e5⟩ := idx_in t
  have : ((cfg0.win 3).blk t).view.emb (ix2 k q) = ix2 k Q := by
    funext a; apply Fin.ext
    match a with
    | ⟨0, _⟩ => show win0_3.index t (0 : Fin 2) * 2048 + 1 * k.val = k.val; rw [e3]; show 0 * 2048 + _ = _; omega
    | ⟨1, _⟩ => show win0_3.index t (1 : Fin 2) * 256 + 1 * q.val = Q.val; rw [e3, hQ]; show t.val % 22 * 256 + _ = _; omega
  exact (congrArg (V m c main_v4) this).trans (V_v4 m c k Q)

theorem iblk4 (c : Dev nD) (t : Fin cfg0.N) (q : Fin 256) (k : Fin 2048) (Q : Fin 5632) (hQ : Q.val = 256 * (t.val % 22) + q.val) :
    iblk m c 4 t (ix2 q k) = m ((c : Thread nD τ).loc main_arg4) (ix3 0 Q k) := by
  obtain ⟨e0, e1, e2, e3, e4, e5⟩ := idx_in t
  have : ((cfg0.win 4).blk t).view.emb (ix2 q k) = ix2 Q k := by
    funext a; apply Fin.ext
    match a with
    | ⟨0, _⟩ => show win0_4.index t (0 : Fin 2) * 256 + 1 * q.val = Q.val; rw [e4, hQ]; show t.val % 22 * 256 + _ = _; omega
    | ⟨1, _⟩ => show win0_4.index t (1 : Fin 2) * 2048 + 1 * k.val = k.val; rw [e4]; show 0 * 2048 + _ = _; omega
  exact (congrArg (V m c main_v5) this).trans (V_v5 m c Q k)

/-! ## The sum over the hidden units -/

/-- A row of the normalised input. -/
def hrow (c : Dev nD) (R : Fin 1024) : Fin 2048 → EReal :=
  nrm (fun k => m ((c : Thread nD τ).loc main_arg0) (ix2 R k)) (fun k => m ((c : Thread nD τ).loc main_arg1) (ix2 0 k))

/-- Hidden unit `p`'s product at row `R` and column `n`. -/
def unitAt (c : Dev nD) (R : Fin 1024) (n : Fin 2048) (p : Fin 5632) : EReal :=
  act (∑ k : Fin 2048, hrow m c R k * m ((c : Thread nD τ).loc main_arg2) (ix3 0 k p))
    (∑ k : Fin 2048, hrow m c R k * m ((c : Thread nD τ).loc main_arg3) (ix3 0 k p)) * m ((c : Thread nD τ).loc main_arg4) (ix3 0 p n)

/-- The same at any number, zero past the last unit. -/
def unitN (c : Dev nD) (R : Fin 1024) (n : Fin 2048) (p : ℕ) : EReal := if h : p < 5632 then unitAt m c R n ⟨p, h⟩ else 0

theorem blk_eq (c : Dev nD) (t : Fin cfg0.N) (R : Fin 1024) (n : Fin 2048) (h : Fin 2048 → EReal) (hh : h = hrow m c R) :
    blk h (fun k q => iblk m c 2 t (ix2 k q)) (fun k q => iblk m c 3 t (ix2 k q)) (fun q => iblk m c 4 t (ix2 q n))
      = ∑ q ∈ Finset.range 256, unitN m c R n (256 * (t.val % 22) + q) := by
  have hN := t.isLt
  rw [Finset.sum_range]
  unfold blk
  refine Finset.sum_congr rfl fun q _ => ?_
  have hQ : 256 * (t.val % 22) + q.val < 5632 := by have := q.isLt; have := Nat.mod_lt t.val (show 22 > 0 by omega); omega
  unfold unitN
  rw [dif_pos hQ]
  unfold unitAt
  simp only [hh, iblk2 m c t _ q ⟨_, hQ⟩ rfl, iblk3 m c t _ q ⟨_, hQ⟩ rfl, iblk4 m c t q _ ⟨_, hQ⟩ rfl]

/-- What the output block and the scratch hold after the first twenty-one points. -/
theorem outs_run (c : Dev nD) (r : Fin 1024) :
    ∀ (j : ℕ) (hn : j < cfg0.N), j ≤ 20 →
      (∀ n : Fin 2048, (outsAt0 m c j hn).1 (ix2 r n) = ∑ p ∈ Finset.range (256 * (j + 1)), unitN m c r n p)
      ∧ (∀ k : Fin 2048, (outsAt0 m c j hn).2.2.2.2 (ix2 r k) = hrow m c r k)
  | 0, hn, _ => by
    have hh : nrm (fun k => iblk m c 0 ⟨0, hn⟩ (ix2 r k)) (fun k => iblk m c 1 ⟨0, hn⟩ (ix2 0 k)) = hrow m c r := by
      unfold hrow
      congr 1
      · funext k; exact iblk0 m c _ r k
      · funext k; exact iblk1 m c _ k
    have e := outsAt0_A m c ⟨0, hn⟩ (by dsimp only) (by dsimp only; omega) (by dsimp only; omega)
    dsimp only at e
    rw [e]
    refine ⟨fun n => ?_, fun k => ?_⟩
    · dsimp only
      rw [outA_apply, blk_eq m c _ r n _ hh]
      refine Finset.sum_congr rfl fun q _ => congrArg _ ?_
      dsimp only
      omega
    · dsimp only
      rw [soutA_apply]
      exact congrFun hh k
  | j + 1, hn, hj => by
    obtain ⟨ih1, ih2⟩ := outs_run c r j (by omega) (by omega)
    have e := outsAt0_B m c ⟨j + 1, hn⟩ (by dsimp only; omega) (by dsimp only; omega) (by dsimp only; omega)
    dsimp only at e
    rw [e]
    refine ⟨fun n => ?_, fun k => ih2 k⟩
    dsimp only
    rw [outB_apply, show 256 * (j + 1 + 1) = 256 * (j + 1) + 256 by omega, Finset.sum_range_add]
    refine congrArg₂ _ (ih1 n) ((blk_eq m c _ r n _ (funext ih2)).trans (Finset.sum_congr rfl fun q _ => congrArg _ ?_))
    dsimp only
    omega

/-- The row before the last normalisation. -/
def yrow (c : Dev nD) (R : Fin 1024) (n : Fin 2048) : EReal :=
  HAdd.hAdd (α := EReal) (β := EReal) (γ := EReal) (m ((c : Thread nD τ).loc main_arg0) (ix2 R n)) (∑ p : Fin 5632, unitAt m c R n p)

theorem outs_last (c : Dev nD) (j : ℕ) (hj : j = 20) (hn : j + 1 < cfg0.N) (r : Fin 1024) (n : Fin 2048) :
    (outsAt0 m c (j + 1) hn).1 (ix2 r n) = nrm (yrow m c r) (fun k => m ((c : Thread nD τ).loc main_arg5) (ix1 k)) n := by
  obtain ⟨ih1, ih2⟩ := outs_run m c r j (by omega) (by omega)
  have e := outsAt0_C m c ⟨j + 1, hn⟩ (by dsimp only; omega) (by dsimp only; omega) (by dsimp only; omega)
  dsimp only at e
  rw [e]
  dsimp only
  rw [outC_apply]
  congr 1
  · funext n
    rw [iblk0 m c _ r n, add_assoc]
    unfold yrow
    congr 1
    have : ∑ p : Fin 5632, unitAt m c r n p = ∑ p ∈ Finset.range (256 * (j + 1) + 256), unitN m c r n p := by
      rw [show 256 * (j + 1) + 256 = 5632 by omega, Finset.sum_range]
      refine Finset.sum_congr rfl fun p _ => ?_
      unfold unitN
      rw [dif_pos p.isLt]
    rw [this, Finset.sum_range_add]
    refine congrArg₂ _ (ih1 n) ((blk_eq m c _ r n _ (funext ih2)).trans (Finset.sum_congr rfl fun q _ => congrArg _ ?_))
    dsimp only
    omega
  · funext k; exact iblk5 m c _ k

/-- What the three blocks of weights hold after any point. -/
theorem outs_weights (c : Dev nD) : ∀ (j : ℕ) (hn : j < cfg0.N),
    (∀ (k : Fin 2048) (q : Fin 256), (outsAt0 m c j hn).2.1 (ix2 k q) = iblk m c 2 ⟨j, hn⟩ (ix2 k q))
    ∧ (∀ (k : Fin 2048) (q : Fin 256), (outsAt0 m c j hn).2.2.1 (ix2 k q) = iblk m c 3 ⟨j, hn⟩ (ix2 k q))
    ∧ (∀ (q : Fin 256) (k : Fin 2048), (outsAt0 m c j hn).2.2.2.1 (ix2 q k) = iblk m c 4 ⟨j, hn⟩ (ix2 q k)) := by
  intro j hn
  have hN := lt_of_lt_of_eq hn N_0
  by_cases h0 : j % 22 = 0
  · have e := outsAt0_A m c ⟨j, hn⟩ h0 (by dsimp only; omega) (by dsimp only; omega)
    dsimp only at e
    rw [e]
    dsimp only
    exact outA_weights ..
  · by_cases h2 : j % 22 = 21
    · have e := outsAt0_C m c ⟨j, hn⟩ h0 (by dsimp only; omega) h2
      dsimp only at e
      rw [e]
      dsimp only
      exact outC_weights ..
    · have e := outsAt0_B m c ⟨j, hn⟩ h0 (by dsimp only; omega) h2
      dsimp only at e
      rw [e]
      dsimp only
      exact outB_weights ..

/-! ## The arrays the call leaves -/

open Cert.Kernel5Ideal.Value in
/-- The call's first result at row `R` and column `n`; -/
theorem result_apply (c : Dev nD) (R : Fin 1024) (n : Fin 2048) :
    G6 m c (ix2 R n) = nrm (yrow m c R) (fun k => m ((c : Thread nD τ).loc main_arg5) (ix1 k)) n := by
  have hR := R.isLt
  have hn := n.isLt
  have hp : pt6Of (ix2 R n) = 20 + 1 := by
    show 22 * (1 * (R.val / 1024 - 0) + 1 * (n.val / 2048 - 0)) + 21 = _
    rw [Nat.div_eq_of_lt hn, Nat.div_eq_of_lt hR]
  have hlt : 20 + 1 < cfg0.N := lt_of_lt_of_eq (by omega) N_0.symm
  have hl : loc6Of (ix2 R n) = ix2 R n := by
    funext a; apply Fin.ext
    match a with
    | ⟨0, _⟩ => exact Nat.mod_eq_of_lt hR
    | ⟨1, _⟩ => exact Nat.mod_eq_of_lt hn
  unfold G6
  rw [dif_pos (by rw [hp]; exact hlt), hl, fold0_congr m c _ _ (20 + 1) (by omega) hp, ← outsAt0_sweep m c _ hlt]
  exact outs_last m c 20 rfl hlt R n

open Cert.Kernel5Ideal.Value in
/-- the gate weights; -/
theorem result7 (c : Dev nD) (k : Fin 2048) (p : Fin 5632) : G7 m c (ix2 k p) = m ((c : Thread nD τ).loc main_arg2) (ix3 0 k p) := by
  have hk := k.isLt
  have hp := p.isLt
  have hpt : pt7Of (ix2 k p) = p.val / 256 := by
    show 22 * (k.val / 2048 - 0) + 1 * (p.val / 256 - 0) = _
    rw [Nat.div_eq_of_lt hk]; omega
  have hlt : p.val / 256 < cfg0.N := lt_of_lt_of_eq (by omega) N_0.symm
  have hl : loc7Of (ix2 k p) = ix2 k (⟨p.val % 256, Nat.mod_lt _ (by omega)⟩ : Fin 256) := by
    funext a; apply Fin.ext
    match a with
    | ⟨0, _⟩ => exact Nat.mod_eq_of_lt hk
    | ⟨1, _⟩ => rfl
  unfold G7
  rw [dif_pos (by rw [hpt]; exact hlt), hl, fold0_congr m c _ _ (p.val / 256) (by omega) hpt, ← outsAt0_sweep m c _ hlt]
  exact ((outs_weights m c _ hlt).1 k _).trans (iblk2 m c _ k _ p (by dsimp only; omega))

open Cert.Kernel5Ideal.Value in
/-- the up weights; -/
theorem result8 (c : Dev nD) (k : Fin 2048) (p : Fin 5632) : G8 m c (ix2 k p) = m ((c : Thread nD τ).loc main_arg3) (ix3 0 k p) := by
  have hk := k.isLt
  have hp := p.isLt
  have hpt : pt8Of (ix2 k p) = p.val / 256 := by
    show 22 * (k.val / 2048 - 0) + 1 * (p.val / 256 - 0) = _
    rw [Nat.div_eq_of_lt hk]; omega
  have hlt : p.val / 256 < cfg0.N := lt_of_lt_of_eq (by omega) N_0.symm
  have hl : loc8Of (ix2 k p) = ix2 k (⟨p.val % 256, Nat.mod_lt _ (by omega)⟩ : Fin 256) := by
    funext a; apply Fin.ext
    match a with
    | ⟨0, _⟩ => exact Nat.mod_eq_of_lt hk
    | ⟨1, _⟩ => rfl
  unfold G8
  rw [dif_pos (by rw [hpt]; exact hlt), hl, fold0_congr m c _ _ (p.val / 256) (by omega) hpt, ← outsAt0_sweep m c _ hlt]
  exact ((outs_weights m c _ hlt).2.1 k _).trans (iblk3 m c _ k _ p (by dsimp only; omega))

open Cert.Kernel5Ideal.Value in
/-- the down weights. -/
theorem result9 (c : Dev nD) (p : Fin 5632) (k : Fin 2048) : G9 m c (ix2 p k) = m ((c : Thread nD τ).loc main_arg4) (ix3 0 p k) := by
  have hk := k.isLt
  have hp := p.isLt
  have hpt : pt9Of (ix2 p k) = p.val / 256 := by
    show 1 * (p.val / 256 - 0) + 1 * (k.val / 2048 - 0) = _
    rw [Nat.div_eq_of_lt hk]; omega
  have hlt : p.val / 256 < cfg0.N := lt_of_lt_of_eq (by omega) N_0.symm
  have hl : loc9Of (ix2 p k) = ix2 (⟨p.val % 256, Nat.mod_lt _ (by omega)⟩ : Fin 256) k := by
    funext a; apply Fin.ext
    match a with
    | ⟨0, _⟩ => rfl
    | ⟨1, _⟩ => exact Nat.mod_eq_of_lt hk
  unfold G9
  rw [dif_pos (by rw [hpt]; exact hlt), hl, fold0_congr m c _ _ (p.val / 256) (by omega) hpt, ← outsAt0_sweep m c _ hlt]
  exact ((outs_weights m c _ hlt).2.2 _ k).trans (iblk4 m c _ _ k p (by dsimp only; omega))

end Cert.Kernel5Ideal.Sffn

end
-- ==== Proof.SffnAlg.lean ====
/-
  The sample batch's feed-forward reference at an entry, and the two programs' results equal.
-/
module

public import proofs.«01_k».proof.Defs
public import proofs.«01_k».proof.Proof.SffnValue
public import proofs.«01_k».proof.Proof.Gen.Reference5Ideal.Read

@[expose] public section

set_option maxRecDepth 16384

noncomputable section

namespace Cert.Kernel5Ideal.Sffn

open Idealize.ShloMosaic Idealize.ShloMosaic.TcCoe
open Cert.Kernel2Ideal.Ffn (nrm act blk)
open Cert.Reference5Ideal Cert.Reference5Ideal.Read

section
variable (x0 : (⟨S1024x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

theorem ref_norm (R : Fin 1024) (k : Fin 2048) :
    val_main_v13 x0 x1 (ix2 R k) = nrm (fun k => x0 (ix2 R k)) (fun k => x1 (ix2 0 k)) k := by
  unfold nrm
  pointwise! [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

theorem ref_unit (R : Fin 1024) (p : Fin 5632) :
    val_main_v19 x0 x1 x2 x3 (ix2 R p) = act (∑ k : Fin 2048, nrm (fun k => x0 (ix2 R k)) (fun k => x1 (ix2 0 k)) k * x2 (ix3 0 k p))
      (∑ k : Fin 2048, nrm (fun k => x0 (ix2 R k)) (fun k => x1 (ix2 0 k)) k * x3 (ix3 0 k p)) := by
  simp only [← ref_norm]
  unfold act
  pointwise! [val_main_v19, val_main_v18, val_main_v17, val_main_v16, val_main_v15, val_main_v14, val_main_call0_v5, val_main_call0_v4, val_main_call0_v3, val_main_call0_v2, val_main_call0_v1, val_main_call0_v0,
    val_main_call0_cst, val_main_call0_cst_0, zero_sub]

theorem ref_row (R : Fin 1024) (n : Fin 2048) :
    val_main_v22 x0 x1 x2 x3 x4 (ix2 R n) = HAdd.hAdd (α := EReal) (β := EReal) (γ := EReal) (x0 (ix2 R n)) (∑ p : Fin 5632, val_main_v19 x0 x1 x2 x3 (ix2 R p) * x4 (ix3 0 p n)) := by
  pointwise! [val_main_v22, val_main_v21, val_main_v20]

theorem ref_result (R : Fin 1024) (n : Fin 2048) :
    val_main_v35 x0 x1 x2 x3 x4 x5 (ix2 R n) = nrm (fun n => val_main_v22 x0 x1 x2 x3 x4 (ix2 R n)) (fun k => x5 (ix1 k)) n := by
  unfold nrm
  pointwise! [val_main_v35, val_main_v34, val_main_v33, val_main_v32, val_main_v31, val_main_v30, val_main_v29, val_main_v28, val_main_v27, val_main_v26,
    val_main_v25, val_main_v24, val_main_v23, val_main_cst_2, val_main_cst_3, val_main_cst_4]
end

/-- The reference's result at row `R` and column `n`, in the kernel's words. -/
theorem ref_eq (m : (ℓ : Loc Cert.Kernel5Ideal.nD Cert.Kernel5Ideal.τ Cert.Kernel5Ideal.sig) → Buf (Elt Ideal) ℓ) (c : Dev Cert.Kernel5Ideal.nD) (R : Fin 1024) (n : Fin 2048) :
    val_main_v35 (m (c.tc.loc Cert.Kernel5Ideal.main_arg0)) (m (c.tc.loc Cert.Kernel5Ideal.main_arg1)) (m (c.tc.loc Cert.Kernel5Ideal.main_arg2))
      (m (c.tc.loc Cert.Kernel5Ideal.main_arg3)) (m (c.tc.loc Cert.Kernel5Ideal.main_arg4)) (m (c.tc.loc Cert.Kernel5Ideal.main_arg5)) (ix2 R n)
      = nrm (yrow m c R) (fun k => m (c.tc.loc Cert.Kernel5Ideal.main_arg5) (ix1 k)) n := by
  rw [ref_result]
  congr 1
  funext n
  rw [ref_row]
  simp only [ref_unit]
  rfl

theorem ref_gate (x2 : (⟨S1x2048x5632, .f32⟩ : BufTy).Contents (Elt Ideal)) (k : Fin 2048) (p : Fin 5632) : val_main_v37 (F := Ideal) x2 (ix2 k p) = x2 (ix3 0 k p) := by
  pointwise! [val_main_v37, val_main_v36]

theorem ref_up (x3 : (⟨S1x2048x5632, .f32⟩ : BufTy).Contents (Elt Ideal)) (k : Fin 2048) (p : Fin 5632) : val_main_v39 (F := Ideal) x3 (ix2 k p) = x3 (ix3 0 k p) := by
  pointwise! [val_main_v39, val_main_v38]

theorem ref_down (x4 : (⟨S1x5632x2048, .f32⟩ : BufTy).Contents (Elt Ideal)) (p : Fin 5632) (k : Fin 2048) : val_main_v41 (F := Ideal) x4 (ix2 p k) = x4 (ix3 0 p k) := by
  pointwise! [val_main_v41, val_main_v40]

theorem algebraic : Cert.algebraic_Kernel5Ideal_Reference5Ideal := by
  intro m g m' g' _ hm
  refine ⟨fun c => Cert.Kernel5Ideal.Value.G6 m c, fun c => Cert.Kernel5Ideal.Value.G7 m c, fun c => Cert.Kernel5Ideal.Value.G8 m c, fun c => Cert.Kernel5Ideal.Value.G9 m c,
    Cert.Kernel5Ideal.Value.run m g,
    (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run m' g')⟩
  · obtain ⟨h0, h1, h2, h3, h4, h5⟩ := hm c
    rw [val_main_v35_eq, h0, h1, h2, h3, h4, h5]
    funext j
    obtain ⟨R, n, rfl⟩ : ∃ (R : Fin 1024) (n : Fin 2048), j = ix2 R n := ⟨_, _, eq_ix2 j⟩
    exact (ref_eq m c R n).trans (result_apply m c R n).symm
  · rw [val_main_v37_eq, (hm c).2.2.1]
    funext j
    obtain ⟨k, p, rfl⟩ : ∃ (k : Fin 2048) (p : Fin 5632), j = ix2 k p := ⟨_, _, eq_ix2 j⟩
    exact (ref_gate _ k p).trans (result7 m c k p).symm
  · rw [val_main_v39_eq, (hm c).2.2.2.1]
    funext j
    obtain ⟨k, p, rfl⟩ : ∃ (k : Fin 2048) (p : Fin 5632), j = ix2 k p := ⟨_, _, eq_ix2 j⟩
    exact (ref_up _ k p).trans (result8 m c k p).symm
  · rw [val_main_v41_eq, (hm c).2.2.2.2.1]
    funext j
    obtain ⟨p, k, rfl⟩ : ∃ (p : Fin 5632) (k : Fin 2048), j = ix2 p k := ⟨_, _, eq_ix2 j⟩
    exact (ref_down _ p k).trans (result9 m c p k).symm

end Cert.Kernel5Ideal.Sffn

end
-- ==== Proof.lean ====
/-
  The certificate's claims, put together: the frames of the five calls and of their references, and the calls' results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference3Ideal
public import proofs.«01_k».proof.Proof.Gen.Reference4Ideal
public import proofs.«01_k».proof.Proof.Gen.Reference5Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Launch
public import proofs.«01_k».proof.Proof.FfnAlg
public import proofs.«01_k».proof.Proof.MixAlg
public import proofs.«01_k».proof.Proof.Iproj
public import proofs.«01_k».proof.Proof.Oproj
public import proofs.«01_k».proof.Proof.SffnAlg
public import Idealize.ShloMosaic.Adequacy
public import Idealize.ShloMosaic.Init

@[expose] public section

noncomputable section

namespace Cert.Proof

open Idealize.ShloMosaic Idealize.SL.Sem Cert.Kernel

/-- The call's frame at the machine's words: the ideal program's text is the same, so its run is this one's. -/
theorem frame_kernel : Cert.quiescent_Kernel := by
  intro m ρ _
  rw [show Cert.Kernel.defs (F := Bits) = Cert.KernelIdeal.defs (F := Bits) by sl_kernel_rfl]
  exact (θ_run Cert.KernelIdeal.defs _ _).mono (fun _ h => h) (Cert.KernelIdeal.Mixer.frame (F := Bits) m ρ)

theorem frame_ideal : Cert.quiescent_KernelIdeal := fun m ρ _ => Cert.KernelIdeal.Mixer.frame m ρ

/-- The reference's frame: it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Pre_finite_bounds.Gen.facts, frame_kernel, frame_ideal, fun m ρ _ => frame_ideal m ρ trivial,
    frame_reference, fun m ρ _ => frame_reference m ρ trivial, fun m ρ _ => Cert.Kernel2.Gen.frame m ρ,
    fun m ρ _ => Cert.Kernel2Ideal.Gen.frame m ρ, frame_reference2, fun m ρ _ => Cert.Kernel3.Gen.frame m ρ,
    fun m ρ _ => Cert.Kernel3Ideal.Gen.frame m ρ, frame_reference3, fun m ρ _ => Cert.Kernel4.Gen.frame m ρ,
    fun m ρ _ => Cert.Kernel4Ideal.Gen.frame m ρ, frame_reference4, fun m ρ _ => Cert.Kernel5.Gen.frame m ρ,
    fun m ρ _ => Cert.Kernel5Ideal.Gen.frame m ρ, frame_reference5, trivial, Cert.KernelIdeal.Mixer.algebraic, trivial, Cert.Kernel2Ideal.Ffn.algebraic,
    trivial, Cert.Kernel3Ideal.Iproj.algebraic, trivial, Cert.Kernel4Ideal.Oproj.algebraic, trivial, Cert.Kernel5Ideal.Sffn.algebraic⟩

end Cert.Proof

end
